-- ==== Defs.lean ====
def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_swa_finite [hPre_swa_finite : Cert.Pre_swa_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))).1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))).2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.1 = (fun _ => 1#1)
    ∧ (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2 = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_post_finite [hPre_post_finite : Cert.Pre_post_finite.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.2.2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.2.2.2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.2.2.2.2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.2.2.2.2.2.2.1 = (fun _ => 1#1)
    ∧ (Cert.Pre_post_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6)) (m ((c.tc : Thread Cert.PostBwdIdeal.nD Cert.PostBwdIdeal.τ).loc Cert.PostBwdIdeal.main_arg7)) (m ((c.tc : Thread Cert.PostBwdIdeal.nD Cert.PostBwdIdeal.τ).loc Cert.PostBwdIdeal.main_arg8)) (m ((c.tc : Thread Cert.PostBwdIdeal.nD Cert.PostBwdIdeal.τ).loc Cert.PostBwdIdeal.main_arg9))).2.2.2.2.2.2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.2.2.1 = (fun _ => 1#1)
    ∧ (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9))).2.2.2.2.2.2.2.2.2 = (fun _ => 1#1)

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_GradW (m : (ℓ : Loc Cert.GradW.nD Cert.GradW.τ Cert.GradW.sig) → Buf (Elt Bits) ℓ) : Prop :=
  True

def Pre_GradWIdeal (m : (ℓ : Loc Cert.GradWIdeal.nD Cert.GradWIdeal.τ Cert.GradWIdeal.sig) → Buf (Elt Ideal) ℓ) : Prop :=
  True

def Pre_GradWRefIdeal (m : (ℓ : Loc Cert.GradWRefIdeal.nD Cert.GradWRefIdeal.τ Cert.GradWRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_mix_finite [hPre_mix_finite : Cert.Pre_mix_finite.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11))).1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11))).2.1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11))).2.2.1 = (fun _ => 1#1)
    ∧ (Cert.Pre_mix_finite.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10)) (m ((c.tc : Thread Cert.MixFwdIdeal.nD Cert.MixFwdIdeal.τ).loc Cert.MixFwdIdeal.main_arg11))).2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.1 = (fun _ => 1#1)
    ∧ (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2 = (fun _ => 1#1)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaBwdIdeal_pre_swa_finite [hSwaBwdIdeal : Cert.SwaBwdIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_swa_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6)
      ∧ r.2.mem ((c.tc : Thread Cert.PostBwd.nD Cert.PostBwd.τ).loc Cert.PostBwd.main_arg7) = m ((c.tc : Thread Cert.PostBwd.nD Cert.PostBwd.τ).loc Cert.PostBwd.main_arg7)
      ∧ r.2.mem ((c.tc : Thread Cert.PostBwd.nD Cert.PostBwd.τ).loc Cert.PostBwd.main_arg8) = m ((c.tc : Thread Cert.PostBwd.nD Cert.PostBwd.τ).loc Cert.PostBwd.main_arg8)
      ∧ r.2.mem ((c.tc : Thread Cert.PostBwd.nD Cert.PostBwd.τ).loc Cert.PostBwd.main_arg9) = m ((c.tc : Thread Cert.PostBwd.nD Cert.PostBwd.τ).loc Cert.PostBwd.main_arg9))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8)
      ∧ r.2.mem ((c.tc : Thread Cert.PostBwdIdeal.nD Cert.PostBwdIdeal.τ).loc Cert.PostBwdIdeal.main_arg9) = m ((c.tc : Thread Cert.PostBwdIdeal.nD Cert.PostBwdIdeal.τ).loc Cert.PostBwdIdeal.main_arg9))
      ∧ r.2.sem = fun _ => 0)

def quiescent_PostBwdIdeal_pre_post_finite [hPostBwdIdeal : Cert.PostBwdIdeal.Facts] [hPre_post_finite : Cert.Pre_post_finite.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_post_finite m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
      ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
      ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8)
      ∧ r.2.mem ((c.tc : Thread Cert.PostBwdIdeal.nD Cert.PostBwdIdeal.τ).loc Cert.PostBwdIdeal.main_arg9) = m ((c.tc : Thread Cert.PostBwdIdeal.nD Cert.PostBwdIdeal.τ).loc Cert.PostBwdIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0)
      ∧ r.2.mem ((c.tc : Thread Cert.ActFwd.nD Cert.ActFwd.τ).loc Cert.ActFwd.main_arg1) = m ((c.tc : Thread Cert.ActFwd.nD Cert.ActFwd.τ).loc Cert.ActFwd.main_arg1))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
      ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1))
      ∧ r.2.sem = fun _ => 0)

def quiescent_GradW [hGradW : Cert.GradW.Facts] : Prop :=
  ∀ (m : (ℓ : Loc Cert.GradW.nD Cert.GradW.τ Cert.GradW.sig) → Buf (Elt Bits) ℓ) (g : Dev Cert.GradW.nD → PrngReg), Pre_GradW m →
    θ_run (Cert.GradW.defs (F := Bits)) (onTc (τ := Cert.GradW.τ) (Cert.GradW.main (F := Bits))) ⟨m, fun _ => 0, g⟩ (fun r => (∀ c : Dev Cert.GradW.nD,
      r.2.mem ((c.tc : Thread Cert.GradW.nD Cert.GradW.τ).loc Cert.GradW.main_arg0) = m ((c.tc : Thread Cert.GradW.nD Cert.GradW.τ).loc Cert.GradW.main_arg0)
      ∧ r.2.mem ((c.tc : Thread Cert.GradW.nD Cert.GradW.τ).loc Cert.GradW.main_arg1) = m ((c.tc : Thread Cert.GradW.nD Cert.GradW.τ).loc Cert.GradW.main_arg1))
      ∧ r.2.sem = fun _ => 0)

def quiescent_GradWIdeal [hGradWIdeal : Cert.GradWIdeal.Facts] : Prop :=
  ∀ (m : (ℓ : Loc Cert.GradWIdeal.nD Cert.GradWIdeal.τ Cert.GradWIdeal.sig) → Buf (Elt Ideal) ℓ) (g : Dev Cert.GradWIdeal.nD → PrngReg), Pre_GradWIdeal m →
    θ_run (Cert.GradWIdeal.defs (F := Ideal)) (onTc (τ := Cert.GradWIdeal.τ) (Cert.GradWIdeal.main (F := Ideal))) ⟨m, fun _ => 0, g⟩ (fun r => (∀ c : Dev Cert.GradWIdeal.nD,
      r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
      ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ r.2.sem = fun _ => 0)

def quiescent_GradWRefIdeal [hGradWRefIdeal : Cert.GradWRefIdeal.Facts] : Prop :=
  ∀ (m : (ℓ : Loc Cert.GradWRefIdeal.nD Cert.GradWRefIdeal.τ Cert.GradWRefIdeal.sig) → Buf (Elt Ideal) ℓ) (g : Dev Cert.GradWRefIdeal.nD → PrngReg), Pre_GradWRefIdeal m →
    θ_run (Cert.GradWRefIdeal.defs (F := Ideal)) (onTc (τ := Cert.GradWRefIdeal.τ) (Cert.GradWRefIdeal.main (F := Ideal))) ⟨m, fun _ => 0, g⟩ (fun r => (∀ c : Dev Cert.GradWRefIdeal.nD,
      r.2.mem ((c.tc : Thread Cert.GradWRefIdeal.nD Cert.GradWRefIdeal.τ).loc Cert.GradWRefIdeal.main_arg0) = m ((c.tc : Thread Cert.GradWRefIdeal.nD Cert.GradWRefIdeal.τ).loc Cert.GradWRefIdeal.main_arg0)
      ∧ r.2.mem ((c.tc : Thread Cert.GradWRefIdeal.nD Cert.GradWRefIdeal.τ).loc Cert.GradWRefIdeal.main_arg1) = m ((c.tc : Thread Cert.GradWRefIdeal.nD Cert.GradWRefIdeal.τ).loc Cert.GradWRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ r.2.sem = fun _ => 0)

def quiescent_MixFwdIdeal_pre_mix_finite [hMixFwdIdeal : Cert.MixFwdIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_mix_finite m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def preserves_DownBwd_DownBwdIdeal : Prop :=
  True

def algebraic_DownBwdIdeal_DownRefIdeal [hDownBwdIdeal : Cert.DownBwdIdeal.Facts] [hDownRefIdeal : Cert.DownRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownBwdIdeal m →
    (∀ c : Dev Cert.DownBwdIdeal.nD,
      m' ((c.tc : Thread Cert.DownRefIdeal.nD Cert.DownRefIdeal.τ).loc Cert.DownRefIdeal.main_arg0) = m ((c.tc : Thread Cert.DownBwdIdeal.nD Cert.DownBwdIdeal.τ).loc Cert.DownBwdIdeal.main_arg0)
      ∧ m' ((c.tc : Thread Cert.DownRefIdeal.nD Cert.DownRefIdeal.τ).loc Cert.DownRefIdeal.main_arg1) = m ((c.tc : Thread Cert.DownBwdIdeal.nD Cert.DownBwdIdeal.τ).loc Cert.DownBwdIdeal.main_arg1)
      ∧ m' ((c.tc : Thread Cert.DownRefIdeal.nD Cert.DownRefIdeal.τ).loc Cert.DownRefIdeal.main_arg2) = m ((c.tc : Thread Cert.DownBwdIdeal.nD Cert.DownBwdIdeal.τ).loc Cert.DownBwdIdeal.main_arg2)) →
    ∃ (v0 : (c : Dev Cert.DownBwdIdeal.nD) → Buf (Elt Ideal) ((c.tc : Thread Cert.DownBwdIdeal.nD Cert.DownBwdIdeal.τ).loc Cert.DownBwdIdeal.main_v2)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v2) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v12) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_SwaBwd_SwaBwdIdeal : Prop :=
  True

def algebraic_SwaBwdIdeal_SwaRefIdeal_pre_swa_finite [hSwaBwdIdeal : Cert.SwaBwdIdeal.Facts] [hSwaRefIdeal : Cert.SwaRefIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaBwdIdeal_swa_finite m →
    (∀ c : Dev Cert.SwaBwdIdeal.nD,
      m' ((c.tc : Thread Cert.SwaRefIdeal.nD Cert.SwaRefIdeal.τ).loc Cert.SwaRefIdeal.main_arg0) = m ((c.tc : Thread Cert.SwaBwdIdeal.nD Cert.SwaBwdIdeal.τ).loc Cert.SwaBwdIdeal.main_arg0)
      ∧ m' ((c.tc : Thread Cert.SwaRefIdeal.nD Cert.SwaRefIdeal.τ).loc Cert.SwaRefIdeal.main_arg1) = m ((c.tc : Thread Cert.SwaBwdIdeal.nD Cert.SwaBwdIdeal.τ).loc Cert.SwaBwdIdeal.main_arg1)
      ∧ m' ((c.tc : Thread Cert.SwaRefIdeal.nD Cert.SwaRefIdeal.τ).loc Cert.SwaRefIdeal.main_arg2) = m ((c.tc : Thread Cert.SwaBwdIdeal.nD Cert.SwaBwdIdeal.τ).loc Cert.SwaBwdIdeal.main_arg2)) →
    ∃ (v0 : (c : Dev Cert.SwaBwdIdeal.nD) → Buf (Elt Ideal) ((c.tc : Thread Cert.SwaBwdIdeal.nD Cert.SwaBwdIdeal.τ).loc Cert.SwaBwdIdeal.main_v102_0)) (v1 : (c : Dev Cert.SwaBwdIdeal.nD) → Buf (Elt Ideal) ((c.tc : Thread Cert.SwaBwdIdeal.nD Cert.SwaBwdIdeal.τ).loc Cert.SwaBwdIdeal.main_v102_1)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v102_0) = v0 c
          ∧ r.2.mem ((c.tc : Thread Cert.SwaBwdIdeal.nD Cert.SwaBwdIdeal.τ).loc Cert.SwaBwdIdeal.main_v102_1) = v1 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v197) = v0 c
          ∧ r.2.mem ((c.tc : Thread Cert.SwaRefIdeal.nD Cert.SwaRefIdeal.τ).loc Cert.SwaRefIdeal.main_v199) = v1 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_UpBwd_UpBwdIdeal : Prop :=
  True

def algebraic_UpBwdIdeal_UpRefIdeal [hUpBwdIdeal : Cert.UpBwdIdeal.Facts] [hUpRefIdeal : Cert.UpRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpBwdIdeal m →
    (∀ c : Dev Cert.UpBwdIdeal.nD,
      m' ((c.tc : Thread Cert.UpRefIdeal.nD Cert.UpRefIdeal.τ).loc Cert.UpRefIdeal.main_arg0) = m ((c.tc : Thread Cert.UpBwdIdeal.nD Cert.UpBwdIdeal.τ).loc Cert.UpBwdIdeal.main_arg0)
      ∧ m' ((c.tc : Thread Cert.UpRefIdeal.nD Cert.UpRefIdeal.τ).loc Cert.UpRefIdeal.main_arg1) = m ((c.tc : Thread Cert.UpBwdIdeal.nD Cert.UpBwdIdeal.τ).loc Cert.UpBwdIdeal.main_arg1)
      ∧ m' ((c.tc : Thread Cert.UpRefIdeal.nD Cert.UpRefIdeal.τ).loc Cert.UpRefIdeal.main_arg2) = m ((c.tc : Thread Cert.UpBwdIdeal.nD Cert.UpBwdIdeal.τ).loc Cert.UpBwdIdeal.main_arg2)
      ∧ m' ((c.tc : Thread Cert.UpRefIdeal.nD Cert.UpRefIdeal.τ).loc Cert.UpRefIdeal.main_arg3) = m ((c.tc : Thread Cert.UpBwdIdeal.nD Cert.UpBwdIdeal.τ).loc Cert.UpBwdIdeal.main_arg3)
      ∧ m' ((c.tc : Thread Cert.UpRefIdeal.nD Cert.UpRefIdeal.τ).loc Cert.UpRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v2_0)) (v1 : (c : Dev Cert.UpBwdIdeal.nD) → Buf (Elt Ideal) ((c.tc : Thread Cert.UpBwdIdeal.nD Cert.UpBwdIdeal.τ).loc Cert.UpBwdIdeal.main_v2_1)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v2_0) = v0 c
          ∧ r.2.mem ((c.tc : Thread Cert.UpBwdIdeal.nD Cert.UpBwdIdeal.τ).loc Cert.UpBwdIdeal.main_v2_1) = v1 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v39) = v0 c
          ∧ r.2.mem ((c.tc : Thread Cert.UpRefIdeal.nD Cert.UpRefIdeal.τ).loc Cert.UpRefIdeal.main_v40) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_InBwd_InBwdIdeal : Prop :=
  True

def algebraic_InBwdIdeal_InRefIdeal [hInBwdIdeal : Cert.InBwdIdeal.Facts] [hInRefIdeal : Cert.InRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InBwdIdeal m →
    (∀ c : Dev Cert.InBwdIdeal.nD,
      m' ((c.tc : Thread Cert.InRefIdeal.nD Cert.InRefIdeal.τ).loc Cert.InRefIdeal.main_arg0) = m ((c.tc : Thread Cert.InBwdIdeal.nD Cert.InBwdIdeal.τ).loc Cert.InBwdIdeal.main_arg0)
      ∧ m' ((c.tc : Thread Cert.InRefIdeal.nD Cert.InRefIdeal.τ).loc Cert.InRefIdeal.main_arg1) = m ((c.tc : Thread Cert.InBwdIdeal.nD Cert.InBwdIdeal.τ).loc Cert.InBwdIdeal.main_arg1)
      ∧ m' ((c.tc : Thread Cert.InRefIdeal.nD Cert.InRefIdeal.τ).loc Cert.InRefIdeal.main_arg2) = m ((c.tc : Thread Cert.InBwdIdeal.nD Cert.InBwdIdeal.τ).loc Cert.InBwdIdeal.main_arg2)
      ∧ m' ((c.tc : Thread Cert.InRefIdeal.nD Cert.InRefIdeal.τ).loc Cert.InRefIdeal.main_arg3) = m ((c.tc : Thread Cert.InBwdIdeal.nD Cert.InBwdIdeal.τ).loc Cert.InBwdIdeal.main_arg3)
      ∧ m' ((c.tc : Thread Cert.InRefIdeal.nD Cert.InRefIdeal.τ).loc Cert.InRefIdeal.main_arg4) = m ((c.tc : Thread Cert.InBwdIdeal.nD Cert.InBwdIdeal.τ).loc Cert.InBwdIdeal.main_arg4)
      ∧ m' ((c.tc : Thread Cert.InRefIdeal.nD Cert.InRefIdeal.τ).loc Cert.InRefIdeal.main_arg5) = m ((c.tc : Thread Cert.InBwdIdeal.nD Cert.InBwdIdeal.τ).loc Cert.InBwdIdeal.main_arg5)) →
    ∃ (v0 : (c : Dev Cert.InBwdIdeal.nD) → Buf (Elt Ideal) ((c.tc : Thread Cert.InBwdIdeal.nD Cert.InBwdIdeal.τ).loc Cert.InBwdIdeal.main_v5_0)) (v1 : (c : Dev Cert.InBwdIdeal.nD) → Buf (Elt Ideal) ((c.tc : Thread Cert.InBwdIdeal.nD Cert.InBwdIdeal.τ).loc Cert.InBwdIdeal.main_v5_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v5_0) = v0 c
          ∧ r.2.mem ((c.tc : Thread Cert.InBwdIdeal.nD Cert.InBwdIdeal.τ).loc Cert.InBwdIdeal.main_v5_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v40) = v0 c
          ∧ r.2.mem ((c.tc : Thread Cert.InRefIdeal.nD Cert.InRefIdeal.τ).loc Cert.InRefIdeal.main_v41) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_LossBwd_LossBwdIdeal : Prop :=
  True

def algebraic_LossBwdIdeal_LossRefIdeal [hLossBwdIdeal : Cert.LossBwdIdeal.Facts] [hLossRefIdeal : Cert.LossRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)) →
    ∃ (v0 : (c : Dev Cert.LossBwdIdeal.nD) → Buf (Elt Ideal) ((c.tc : Thread Cert.LossBwdIdeal.nD Cert.LossBwdIdeal.τ).loc Cert.LossBwdIdeal.main_v2_0)) (v1 : (c : Dev Cert.LossBwdIdeal.nD) → Buf (Elt Ideal) ((c.tc : Thread Cert.LossBwdIdeal.nD Cert.LossBwdIdeal.τ).loc Cert.LossBwdIdeal.main_v2_1)) (v2 : (c : Dev Cert.LossBwdIdeal.nD) → Buf (Elt Ideal) ((c.tc : Thread Cert.LossBwdIdeal.nD Cert.LossBwdIdeal.τ).loc Cert.LossBwdIdeal.main_v2_2)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v2_0) = v0 c
          ∧ r.2.mem ((c.tc : Thread Cert.LossBwdIdeal.nD Cert.LossBwdIdeal.τ).loc Cert.LossBwdIdeal.main_v2_1) = v1 c
          ∧ r.2.mem ((c.tc : Thread Cert.LossBwdIdeal.nD Cert.LossBwdIdeal.τ).loc Cert.LossBwdIdeal.main_v2_2) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_PostBwd_PostBwdIdeal : Prop :=
  True

def algebraic_PostBwdIdeal_PostRefIdeal_pre_post_finite [hPostBwdIdeal : Cert.PostBwdIdeal.Facts] [hPostRefIdeal : Cert.PostRefIdeal.Facts] [hPre_post_finite : Cert.Pre_post_finite.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostBwdIdeal_post_finite m →
    (∀ c : Dev Cert.PostBwdIdeal.nD,
      m' ((c.tc : Thread Cert.PostRefIdeal.nD Cert.PostRefIdeal.τ).loc Cert.PostRefIdeal.main_arg0) = m ((c.tc : Thread Cert.PostBwdIdeal.nD Cert.PostBwdIdeal.τ).loc Cert.PostBwdIdeal.main_arg0)
      ∧ m' ((c.tc : Thread Cert.PostRefIdeal.nD Cert.PostRefIdeal.τ).loc Cert.PostRefIdeal.main_arg1) = m ((c.tc : Thread Cert.PostBwdIdeal.nD Cert.PostBwdIdeal.τ).loc Cert.PostBwdIdeal.main_arg1)
      ∧ m' ((c.tc : Thread Cert.PostRefIdeal.nD Cert.PostRefIdeal.τ).loc Cert.PostRefIdeal.main_arg2) = m ((c.tc : Thread Cert.PostBwdIdeal.nD Cert.PostBwdIdeal.τ).loc Cert.PostBwdIdeal.main_arg2)
      ∧ m' ((c.tc : Thread Cert.PostRefIdeal.nD Cert.PostRefIdeal.τ).loc Cert.PostRefIdeal.main_arg3) = m ((c.tc : Thread Cert.PostBwdIdeal.nD Cert.PostBwdIdeal.τ).loc Cert.PostBwdIdeal.main_arg3)
      ∧ m' ((c.tc : Thread Cert.PostRefIdeal.nD Cert.PostRefIdeal.τ).loc Cert.PostRefIdeal.main_arg4) = m ((c.tc : Thread Cert.PostBwdIdeal.nD Cert.PostBwdIdeal.τ).loc Cert.PostBwdIdeal.main_arg4)
      ∧ m' ((c.tc : Thread Cert.PostRefIdeal.nD Cert.PostRefIdeal.τ).loc Cert.PostRefIdeal.main_arg5) = m ((c.tc : Thread Cert.PostBwdIdeal.nD Cert.PostBwdIdeal.τ).loc Cert.PostBwdIdeal.main_arg5)
      ∧ m' ((c.tc : Thread Cert.PostRefIdeal.nD Cert.PostRefIdeal.τ).loc Cert.PostRefIdeal.main_arg6) = m ((c.tc : Thread Cert.PostBwdIdeal.nD Cert.PostBwdIdeal.τ).loc Cert.PostBwdIdeal.main_arg6)
      ∧ m' ((c.tc : Thread Cert.PostRefIdeal.nD Cert.PostRefIdeal.τ).loc Cert.PostRefIdeal.main_arg7) = m ((c.tc : Thread Cert.PostBwdIdeal.nD Cert.PostBwdIdeal.τ).loc Cert.PostBwdIdeal.main_arg7)
      ∧ m' ((c.tc : Thread Cert.PostRefIdeal.nD Cert.PostRefIdeal.τ).loc Cert.PostRefIdeal.main_arg8) = m ((c.tc : Thread Cert.PostBwdIdeal.nD Cert.PostBwdIdeal.τ).loc Cert.PostBwdIdeal.main_arg8)
      ∧ m' ((c.tc : Thread Cert.PostRefIdeal.nD Cert.PostRefIdeal.τ).loc Cert.PostRefIdeal.main_arg9) = m ((c.tc : Thread Cert.PostBwdIdeal.nD Cert.PostBwdIdeal.τ).loc Cert.PostBwdIdeal.main_arg9)) →
    ∃ (v0 : (c : Dev Cert.PostBwdIdeal.nD) → Buf (Elt Ideal) ((c.tc : Thread Cert.PostBwdIdeal.nD Cert.PostBwdIdeal.τ).loc Cert.PostBwdIdeal.main_v9_0)) (v1 : (c : Dev Cert.PostBwdIdeal.nD) → Buf (Elt Ideal) ((c.tc : Thread Cert.PostBwdIdeal.nD Cert.PostBwdIdeal.τ).loc Cert.PostBwdIdeal.main_v9_1)) (v2 : (c : Dev Cert.PostBwdIdeal.nD) → Buf (Elt Ideal) ((c.tc : Thread Cert.PostBwdIdeal.nD Cert.PostBwdIdeal.τ).loc Cert.PostBwdIdeal.main_v9_2)) (v3 : (c : Dev Cert.PostBwdIdeal.nD) → Buf (Elt Ideal) ((c.tc : Thread Cert.PostBwdIdeal.nD Cert.PostBwdIdeal.τ).loc Cert.PostBwdIdeal.main_v9_3)) (v4 : (c : Dev Cert.PostBwdIdeal.nD) → Buf (Elt Ideal) ((c.tc : Thread Cert.PostBwdIdeal.nD Cert.PostBwdIdeal.τ).loc Cert.PostBwdIdeal.main_v9_4)) (v5 : (c : Dev Cert.PostBwdIdeal.nD) → Buf (Elt Ideal) ((c.tc : Thread Cert.PostBwdIdeal.nD Cert.PostBwdIdeal.τ).loc Cert.PostBwdIdeal.main_v9_5)) (v6 : (c : Dev Cert.PostBwdIdeal.nD) → Buf (Elt Ideal) ((c.tc : Thread Cert.PostBwdIdeal.nD Cert.PostBwdIdeal.τ).loc Cert.PostBwdIdeal.main_v9_6)) (v7 : (c : Dev Cert.PostBwdIdeal.nD) → Buf (Elt Ideal) ((c.tc : Thread Cert.PostBwdIdeal.nD Cert.PostBwdIdeal.τ).loc Cert.PostBwdIdeal.main_v9_7)) (v8 : (c : Dev Cert.PostBwdIdeal.nD) → Buf (Elt Ideal) ((c.tc : Thread Cert.PostBwdIdeal.nD Cert.PostBwdIdeal.τ).loc Cert.PostBwdIdeal.main_v9_8)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v9_0) = v0 c
          ∧ r.2.mem ((c.tc : Thread Cert.PostBwdIdeal.nD Cert.PostBwdIdeal.τ).loc Cert.PostBwdIdeal.main_v9_1) = v1 c
          ∧ r.2.mem ((c.tc : Thread Cert.PostBwdIdeal.nD Cert.PostBwdIdeal.τ).loc Cert.PostBwdIdeal.main_v9_2) = v2 c
          ∧ r.2.mem ((c.tc : Thread Cert.PostBwdIdeal.nD Cert.PostBwdIdeal.τ).loc Cert.PostBwdIdeal.main_v9_3) = v3 c
          ∧ r.2.mem ((c.tc : Thread Cert.PostBwdIdeal.nD Cert.PostBwdIdeal.τ).loc Cert.PostBwdIdeal.main_v9_4) = v4 c
          ∧ r.2.mem ((c.tc : Thread Cert.PostBwdIdeal.nD Cert.PostBwdIdeal.τ).loc Cert.PostBwdIdeal.main_v9_5) = v5 c
          ∧ r.2.mem ((c.tc : Thread Cert.PostBwdIdeal.nD Cert.PostBwdIdeal.τ).loc Cert.PostBwdIdeal.main_v9_6) = v6 c
          ∧ r.2.mem ((c.tc : Thread Cert.PostBwdIdeal.nD Cert.PostBwdIdeal.τ).loc Cert.PostBwdIdeal.main_v9_7) = v7 c
          ∧ r.2.mem ((c.tc : Thread Cert.PostBwdIdeal.nD Cert.PostBwdIdeal.τ).loc Cert.PostBwdIdeal.main_v9_8) = v8 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6)
          ∧ r.2.mem ((c.tc : Thread Cert.PostBwdIdeal.nD Cert.PostBwdIdeal.τ).loc Cert.PostBwdIdeal.main_arg7) = m ((c.tc : Thread Cert.PostBwdIdeal.nD Cert.PostBwdIdeal.τ).loc Cert.PostBwdIdeal.main_arg7)
          ∧ r.2.mem ((c.tc : Thread Cert.PostBwdIdeal.nD Cert.PostBwdIdeal.τ).loc Cert.PostBwdIdeal.main_arg8) = m ((c.tc : Thread Cert.PostBwdIdeal.nD Cert.PostBwdIdeal.τ).loc Cert.PostBwdIdeal.main_arg8)
          ∧ r.2.mem ((c.tc : Thread Cert.PostBwdIdeal.nD Cert.PostBwdIdeal.τ).loc Cert.PostBwdIdeal.main_arg9) = m ((c.tc : Thread Cert.PostBwdIdeal.nD Cert.PostBwdIdeal.τ).loc Cert.PostBwdIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v53) = v0 c
          ∧ r.2.mem ((c.tc : Thread Cert.PostRefIdeal.nD Cert.PostRefIdeal.τ).loc Cert.PostRefIdeal.main_v111) = v1 c
          ∧ r.2.mem ((c.tc : Thread Cert.PostRefIdeal.nD Cert.PostRefIdeal.τ).loc Cert.PostRefIdeal.main_v110) = v2 c
          ∧ r.2.mem ((c.tc : Thread Cert.PostRefIdeal.nD Cert.PostRefIdeal.τ).loc Cert.PostRefIdeal.main_v109) = v3 c
          ∧ r.2.mem ((c.tc : Thread Cert.PostRefIdeal.nD Cert.PostRefIdeal.τ).loc Cert.PostRefIdeal.main_v108) = v4 c
          ∧ r.2.mem ((c.tc : Thread Cert.PostRefIdeal.nD Cert.PostRefIdeal.τ).loc Cert.PostRefIdeal.main_v55) = v5 c
          ∧ r.2.mem ((c.tc : Thread Cert.PostRefIdeal.nD Cert.PostRefIdeal.τ).loc Cert.PostRefIdeal.main_v112) = v6 c
          ∧ r.2.mem ((c.tc : Thread Cert.PostRefIdeal.nD Cert.PostRefIdeal.τ).loc Cert.PostRefIdeal.main_v113) = v7 c
          ∧ r.2.mem ((c.tc : Thread Cert.PostRefIdeal.nD Cert.PostRefIdeal.τ).loc Cert.PostRefIdeal.main_v114) = v8 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_ActFwd_ActFwdIdeal : Prop :=
  True

def algebraic_ActFwdIdeal_ActRefIdeal [hActFwdIdeal : Cert.ActFwdIdeal.Facts] [hActRefIdeal : Cert.ActRefIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActFwdIdeal m →
    (∀ c : Dev Cert.ActFwdIdeal.nD,
      m' ((c.tc : Thread Cert.ActRefIdeal.nD Cert.ActRefIdeal.τ).loc Cert.ActRefIdeal.main_arg0) = m ((c.tc : Thread Cert.ActFwdIdeal.nD Cert.ActFwdIdeal.τ).loc Cert.ActFwdIdeal.main_arg0)
      ∧ m' ((c.tc : Thread Cert.ActRefIdeal.nD Cert.ActRefIdeal.τ).loc Cert.ActRefIdeal.main_arg1) = m ((c.tc : Thread Cert.ActFwdIdeal.nD Cert.ActFwdIdeal.τ).loc Cert.ActFwdIdeal.main_arg1)) →
    ∃ (v0 : (c : Dev Cert.ActFwdIdeal.nD) → Buf (Elt Ideal) ((c.tc : Thread Cert.ActFwdIdeal.nD Cert.ActFwdIdeal.τ).loc Cert.ActFwdIdeal.main_v2_0)) (v1 : (c : Dev Cert.ActFwdIdeal.nD) → Buf (Elt Ideal) ((c.tc : Thread Cert.ActFwdIdeal.nD Cert.ActFwdIdeal.τ).loc Cert.ActFwdIdeal.main_v2_1)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v2_0) = v0 c
          ∧ r.2.mem ((c.tc : Thread Cert.ActFwdIdeal.nD Cert.ActFwdIdeal.τ).loc Cert.ActFwdIdeal.main_v2_1) = v1 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
          ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v1) = v0 c
          ∧ r.2.mem ((c.tc : Thread Cert.ActRefIdeal.nD Cert.ActRefIdeal.τ).loc Cert.ActRefIdeal.main_v4) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1))

def preserves_GradW_GradWIdeal : Prop :=
  True

def algebraic_GradWIdeal_GradWRefIdeal [hGradWIdeal : Cert.GradWIdeal.Facts] [hGradWRefIdeal : Cert.GradWRefIdeal.Facts] : Prop :=
  ∀ (m : (ℓ : Loc Cert.GradWIdeal.nD Cert.GradWIdeal.τ Cert.GradWIdeal.sig) → Buf (Elt Ideal) ℓ) (g : Dev Cert.GradWIdeal.nD → PrngReg)
    (m' : (ℓ : Loc Cert.GradWRefIdeal.nD Cert.GradWRefIdeal.τ Cert.GradWRefIdeal.sig) → Buf (Elt Ideal) ℓ) (g' : Dev Cert.GradWRefIdeal.nD → PrngReg), Pre_GradWIdeal m →
    (∀ c : Dev Cert.GradWIdeal.nD,
      m' ((c.tc : Thread Cert.GradWRefIdeal.nD Cert.GradWRefIdeal.τ).loc Cert.GradWRefIdeal.main_arg0) = m ((c.tc : Thread Cert.GradWIdeal.nD Cert.GradWIdeal.τ).loc Cert.GradWIdeal.main_arg0)
      ∧ m' ((c.tc : Thread Cert.GradWRefIdeal.nD Cert.GradWRefIdeal.τ).loc Cert.GradWRefIdeal.main_arg1) = m ((c.tc : Thread Cert.GradWIdeal.nD Cert.GradWIdeal.τ).loc Cert.GradWIdeal.main_arg1)) →
    ∃ (v0 : (c : Dev Cert.GradWIdeal.nD) → Buf (Elt Ideal) ((c.tc : Thread Cert.GradWIdeal.nD Cert.GradWIdeal.τ).loc Cert.GradWIdeal.main_v1)),
      θ_run (Cert.GradWIdeal.defs (F := Ideal)) (onTc (τ := Cert.GradWIdeal.τ) (Cert.GradWIdeal.main (F := Ideal))) ⟨m, fun _ => 0, g⟩ (fun r => ∀ c : Dev Cert.GradWIdeal.nD,
          r.2.mem ((c.tc : Thread Cert.GradWIdeal.nD Cert.GradWIdeal.τ).loc Cert.GradWIdeal.main_v1) = v0 c
          ∧ r.2.mem ((c.tc : Thread Cert.GradWIdeal.nD Cert.GradWIdeal.τ).loc Cert.GradWIdeal.main_arg0) = m ((c.tc : Thread Cert.GradWIdeal.nD Cert.GradWIdeal.τ).loc Cert.GradWIdeal.main_arg0)
          ∧ r.2.mem ((c.tc : Thread Cert.GradWIdeal.nD Cert.GradWIdeal.τ).loc Cert.GradWIdeal.main_arg1) = m ((c.tc : Thread Cert.GradWIdeal.nD Cert.GradWIdeal.τ).loc Cert.GradWIdeal.main_arg1))
      ∧ θ_run (Cert.GradWRefIdeal.defs (F := Ideal)) (onTc (τ := Cert.GradWRefIdeal.τ) (Cert.GradWRefIdeal.main (F := Ideal))) ⟨m', fun _ => 0, g'⟩ (fun r => ∀ c : Dev Cert.GradWRefIdeal.nD,
          r.2.mem ((c.tc : Thread Cert.GradWRefIdeal.nD Cert.GradWRefIdeal.τ).loc Cert.GradWRefIdeal.main_v4) = v0 c
          ∧ r.2.mem ((c.tc : Thread Cert.GradWRefIdeal.nD Cert.GradWRefIdeal.τ).loc Cert.GradWRefIdeal.main_arg0) = m' ((c.tc : Thread Cert.GradWRefIdeal.nD Cert.GradWRefIdeal.τ).loc Cert.GradWRefIdeal.main_arg0)
          ∧ r.2.mem ((c.tc : Thread Cert.GradWRefIdeal.nD Cert.GradWRefIdeal.τ).loc Cert.GradWRefIdeal.main_arg1) = m' ((c.tc : Thread Cert.GradWRefIdeal.nD Cert.GradWRefIdeal.τ).loc Cert.GradWRefIdeal.main_arg1))

def preserves_Adam_AdamIdeal : Prop :=
  IdealRules.named_const.Statement Cert.AdamIdeal.κ "inv_c1" .f32 0x3FC48605#32 ((8388608 / 5463681 : ℝ) : EReal)
  ∧ IdealRules.named_const.Statement Cert.AdamIdeal.κ "inv_c2" .f32 0x42C8E6D3#32 ((268435456 / 2672307 : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_MixFwd_MixFwdIdeal : Prop :=
  True

def algebraic_MixFwdIdeal_MixRefIdeal_pre_mix_finite [hMixFwdIdeal : Cert.MixFwdIdeal.Facts] [hMixRefIdeal : Cert.MixRefIdeal.Facts] [hPre_mix_finite : Cert.Pre_mix_finite.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixFwdIdeal_mix_finite m →
    (∀ c : Dev Cert.MixFwdIdeal.nD,
      m' ((c.tc : Thread Cert.MixRefIdeal.nD Cert.MixRefIdeal.τ).loc Cert.MixRefIdeal.main_arg0) = m ((c.tc : Thread Cert.MixFwdIdeal.nD Cert.MixFwdIdeal.τ).loc Cert.MixFwdIdeal.main_arg0)
      ∧ m' ((c.tc : Thread Cert.MixRefIdeal.nD Cert.MixRefIdeal.τ).loc Cert.MixRefIdeal.main_arg1) = m ((c.tc : Thread Cert.MixFwdIdeal.nD Cert.MixFwdIdeal.τ).loc Cert.MixFwdIdeal.main_arg1)
      ∧ m' ((c.tc : Thread Cert.MixRefIdeal.nD Cert.MixRefIdeal.τ).loc Cert.MixRefIdeal.main_arg2) = m ((c.tc : Thread Cert.MixFwdIdeal.nD Cert.MixFwdIdeal.τ).loc Cert.MixFwdIdeal.main_arg2)
      ∧ m' ((c.tc : Thread Cert.MixRefIdeal.nD Cert.MixRefIdeal.τ).loc Cert.MixRefIdeal.main_arg3) = m ((c.tc : Thread Cert.MixFwdIdeal.nD Cert.MixFwdIdeal.τ).loc Cert.MixFwdIdeal.main_arg3)
      ∧ m' ((c.tc : Thread Cert.MixRefIdeal.nD Cert.MixRefIdeal.τ).loc Cert.MixRefIdeal.main_arg4) = m ((c.tc : Thread Cert.MixFwdIdeal.nD Cert.MixFwdIdeal.τ).loc Cert.MixFwdIdeal.main_arg4)
      ∧ m' ((c.tc : Thread Cert.MixRefIdeal.nD Cert.MixRefIdeal.τ).loc Cert.MixRefIdeal.main_arg5) = m ((c.tc : Thread Cert.MixFwdIdeal.nD Cert.MixFwdIdeal.τ).loc Cert.MixFwdIdeal.main_arg5)
      ∧ m' ((c.tc : Thread Cert.MixRefIdeal.nD Cert.MixRefIdeal.τ).loc Cert.MixRefIdeal.main_arg6) = m ((c.tc : Thread Cert.MixFwdIdeal.nD Cert.MixFwdIdeal.τ).loc Cert.MixFwdIdeal.main_arg6)
      ∧ m' ((c.tc : Thread Cert.MixRefIdeal.nD Cert.MixRefIdeal.τ).loc Cert.MixRefIdeal.main_arg7) = m ((c.tc : Thread Cert.MixFwdIdeal.nD Cert.MixFwdIdeal.τ).loc Cert.MixFwdIdeal.main_arg7)
      ∧ m' ((c.tc : Thread Cert.MixRefIdeal.nD Cert.MixRefIdeal.τ).loc Cert.MixRefIdeal.main_arg8) = m ((c.tc : Thread Cert.MixFwdIdeal.nD Cert.MixFwdIdeal.τ).loc Cert.MixFwdIdeal.main_arg8)
      ∧ m' ((c.tc : Thread Cert.MixRefIdeal.nD Cert.MixRefIdeal.τ).loc Cert.MixRefIdeal.main_arg9) = m ((c.tc : Thread Cert.MixFwdIdeal.nD Cert.MixFwdIdeal.τ).loc Cert.MixFwdIdeal.main_arg9)
      ∧ m' ((c.tc : Thread Cert.MixRefIdeal.nD Cert.MixRefIdeal.τ).loc Cert.MixRefIdeal.main_arg10) = m ((c.tc : Thread Cert.MixFwdIdeal.nD Cert.MixFwdIdeal.τ).loc Cert.MixFwdIdeal.main_arg10)
      ∧ m' ((c.tc : Thread Cert.MixRefIdeal.nD Cert.MixRefIdeal.τ).loc Cert.MixRefIdeal.main_arg11) = m ((c.tc : Thread Cert.MixFwdIdeal.nD Cert.MixFwdIdeal.τ).loc Cert.MixFwdIdeal.main_arg11)) →
    ∃ (v0 : (c : Dev Cert.MixFwdIdeal.nD) → Buf (Elt Ideal) ((c.tc : Thread Cert.MixFwdIdeal.nD Cert.MixFwdIdeal.τ).loc Cert.MixFwdIdeal.main_v9_0)) (v1 : (c : Dev Cert.MixFwdIdeal.nD) → Buf (Elt Ideal) ((c.tc : Thread Cert.MixFwdIdeal.nD Cert.MixFwdIdeal.τ).loc Cert.MixFwdIdeal.main_v9_1)) (v2 : (c : Dev Cert.MixFwdIdeal.nD) → Buf (Elt Ideal) ((c.tc : Thread Cert.MixFwdIdeal.nD Cert.MixFwdIdeal.τ).loc Cert.MixFwdIdeal.main_v9_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v9_0) = v0 c
          ∧ r.2.mem ((c.tc : Thread Cert.MixFwdIdeal.nD Cert.MixFwdIdeal.τ).loc Cert.MixFwdIdeal.main_v9_1) = v1 c
          ∧ r.2.mem ((c.tc : Thread Cert.MixFwdIdeal.nD Cert.MixFwdIdeal.τ).loc Cert.MixFwdIdeal.main_v9_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v47) = v0 c
          ∧ r.2.mem ((c.tc : Thread Cert.MixRefIdeal.nD Cert.MixRefIdeal.τ).loc Cert.MixRefIdeal.main_v46) = v1 c
          ∧ r.2.mem ((c.tc : Thread Cert.MixRefIdeal.nD Cert.MixRefIdeal.τ).loc Cert.MixRefIdeal.main_v62) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def Claim : Prop :=
  ∃ (hDownBwd : Cert.DownBwd.Facts) (hDownBwdIdeal : Cert.DownBwdIdeal.Facts) (hDownRefIdeal : Cert.DownRefIdeal.Facts) (hSwaBwd : Cert.SwaBwd.Facts) (hSwaBwdIdeal : Cert.SwaBwdIdeal.Facts) (hSwaRefIdeal : Cert.SwaRefIdeal.Facts) (hUpBwd : Cert.UpBwd.Facts) (hUpBwdIdeal : Cert.UpBwdIdeal.Facts) (hUpRefIdeal : Cert.UpRefIdeal.Facts) (hInBwd : Cert.InBwd.Facts) (hInBwdIdeal : Cert.InBwdIdeal.Facts) (hInRefIdeal : Cert.InRefIdeal.Facts) (hLossBwd : Cert.LossBwd.Facts) (hLossBwdIdeal : Cert.LossBwdIdeal.Facts) (hLossRefIdeal : Cert.LossRefIdeal.Facts) (hPostBwd : Cert.PostBwd.Facts) (hPostBwdIdeal : Cert.PostBwdIdeal.Facts) (hPostRefIdeal : Cert.PostRefIdeal.Facts) (hActFwd : Cert.ActFwd.Facts) (hActFwdIdeal : Cert.ActFwdIdeal.Facts) (hActRefIdeal : Cert.ActRefIdeal.Facts) (hGradW : Cert.GradW.Facts) (hGradWIdeal : Cert.GradWIdeal.Facts) (hGradWRefIdeal : Cert.GradWRefIdeal.Facts) (hAdam : Cert.Adam.Facts) (hAdamIdeal : Cert.AdamIdeal.Facts) (hAdamRefIdeal : Cert.AdamRefIdeal.Facts) (hMixFwd : Cert.MixFwd.Facts) (hMixFwdIdeal : Cert.MixFwdIdeal.Facts) (hMixRefIdeal : Cert.MixRefIdeal.Facts) (hPre_swa_finite : Cert.Pre_swa_finite.Facts) (hPre_post_finite : Cert.Pre_post_finite.Facts) (hPre_mix_finite : Cert.Pre_mix_finite.Facts),
    quiescent_DownBwd (hDownBwd := hDownBwd)
    ∧ quiescent_DownBwdIdeal (hDownBwdIdeal := hDownBwdIdeal)
    ∧ quiescent_DownRefIdeal (hDownRefIdeal := hDownRefIdeal)
    ∧ quiescent_SwaBwd (hSwaBwd := hSwaBwd)
    ∧ quiescent_SwaBwdIdeal (hSwaBwdIdeal := hSwaBwdIdeal)
    ∧ quiescent_SwaBwdIdeal_pre_swa_finite (hSwaBwdIdeal := hSwaBwdIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_UpBwd (hUpBwd := hUpBwd)
    ∧ quiescent_UpBwdIdeal (hUpBwdIdeal := hUpBwdIdeal)
    ∧ quiescent_UpRefIdeal (hUpRefIdeal := hUpRefIdeal)
    ∧ quiescent_InBwd (hInBwd := hInBwd)
    ∧ quiescent_InBwdIdeal (hInBwdIdeal := hInBwdIdeal)
    ∧ quiescent_InRefIdeal (hInRefIdeal := hInRefIdeal)
    ∧ quiescent_LossBwd (hLossBwd := hLossBwd)
    ∧ quiescent_LossBwdIdeal (hLossBwdIdeal := hLossBwdIdeal)
    ∧ quiescent_LossRefIdeal (hLossRefIdeal := hLossRefIdeal)
    ∧ quiescent_PostBwd (hPostBwd := hPostBwd)
    ∧ quiescent_PostBwdIdeal (hPostBwdIdeal := hPostBwdIdeal)
    ∧ quiescent_PostBwdIdeal_pre_post_finite (hPostBwdIdeal := hPostBwdIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_ActFwd (hActFwd := hActFwd)
    ∧ quiescent_ActFwdIdeal (hActFwdIdeal := hActFwdIdeal)
    ∧ quiescent_ActRefIdeal (hActRefIdeal := hActRefIdeal)
    ∧ quiescent_GradW (hGradW := hGradW)
    ∧ quiescent_GradWIdeal (hGradWIdeal := hGradWIdeal)
    ∧ quiescent_GradWRefIdeal (hGradWRefIdeal := hGradWRefIdeal)
    ∧ quiescent_Adam (hAdam := hAdam)
    ∧ quiescent_AdamIdeal (hAdamIdeal := hAdamIdeal)
    ∧ quiescent_AdamRefIdeal (hAdamRefIdeal := hAdamRefIdeal)
    ∧ quiescent_MixFwd (hMixFwd := hMixFwd)
    ∧ quiescent_MixFwdIdeal (hMixFwdIdeal := hMixFwdIdeal)
    ∧ quiescent_MixFwdIdeal_pre_mix_finite (hMixFwdIdeal := hMixFwdIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ preserves_DownBwd_DownBwdIdeal
    ∧ algebraic_DownBwdIdeal_DownRefIdeal (hDownBwdIdeal := hDownBwdIdeal) (hDownRefIdeal := hDownRefIdeal)
    ∧ preserves_SwaBwd_SwaBwdIdeal
    ∧ algebraic_SwaBwdIdeal_SwaRefIdeal_pre_swa_finite (hSwaBwdIdeal := hSwaBwdIdeal) (hSwaRefIdeal := hSwaRefIdeal) (hPre_swa_finite := hPre_swa_finite)
    ∧ preserves_UpBwd_UpBwdIdeal
    ∧ algebraic_UpBwdIdeal_UpRefIdeal (hUpBwdIdeal := hUpBwdIdeal) (hUpRefIdeal := hUpRefIdeal)
    ∧ preserves_InBwd_InBwdIdeal
    ∧ algebraic_InBwdIdeal_InRefIdeal (hInBwdIdeal := hInBwdIdeal) (hInRefIdeal := hInRefIdeal)
    ∧ preserves_LossBwd_LossBwdIdeal
    ∧ algebraic_LossBwdIdeal_LossRefIdeal (hLossBwdIdeal := hLossBwdIdeal) (hLossRefIdeal := hLossRefIdeal)
    ∧ preserves_PostBwd_PostBwdIdeal
    ∧ algebraic_PostBwdIdeal_PostRefIdeal_pre_post_finite (hPostBwdIdeal := hPostBwdIdeal) (hPostRefIdeal := hPostRefIdeal) (hPre_post_finite := hPre_post_finite)
    ∧ preserves_ActFwd_ActFwdIdeal
    ∧ algebraic_ActFwdIdeal_ActRefIdeal (hActFwdIdeal := hActFwdIdeal) (hActRefIdeal := hActRefIdeal)
    ∧ preserves_GradW_GradWIdeal
    ∧ algebraic_GradWIdeal_GradWRefIdeal (hGradWIdeal := hGradWIdeal) (hGradWRefIdeal := hGradWRefIdeal)
    ∧ preserves_Adam_AdamIdeal
    ∧ algebraic_AdamIdeal_AdamRefIdeal (hAdamIdeal := hAdamIdeal) (hAdamRefIdeal := hAdamRefIdeal)
    ∧ preserves_MixFwd_MixFwdIdeal
    ∧ algebraic_MixFwdIdeal_MixRefIdeal_pre_mix_finite (hMixFwdIdeal := hMixFwdIdeal) (hMixRefIdeal := hMixRefIdeal) (hPre_mix_finite := hPre_mix_finite)
-- ==== Pre_mix_finite.lean ====
abbrev S8192x512 : Shape := ⟨2, ![8192, 512]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S_ : Shape := ⟨0, ![]⟩

class Facts : Prop where
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x512 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S8192x1024 .f32) (main_arg7 : FVec F S1x512 .f32) (main_arg8 : FVec F S1x512 .f32) (main_arg9 : FVec F S1x512 .f32) (main_arg10 : FVec F S1024x1024 .f32) (main_arg11 : FVec F S1x1024 .f32) : IVec S8192x512 1 × IVec S8192x512 1 × IVec S8192x512 1 × IVec S1x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S1x512 .f32 := Host.absf main_arg9
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  (main_v2, main_v5, main_v8, main_v11)
-- ==== Pre_post_finite.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x512 : S_.BroadcastsInDim S8192x512 (![] : Fin 0 → Fin S8192x512.rank)
  bcast_S_S1x512 : S_.BroadcastsInDim S1x512 (![] : Fin 0 → Fin S1x512.rank)
  bcast_S_S1024x1024 : S_.BroadcastsInDim S1024x1024 (![] : Fin 0 → Fin S1024x1024.rank)

variable [Facts]

def fn_part1 {F : FTy → Type} [FloatOps F] (main_arg6 : FVec F S1x512 .f32) (main_arg7 : FVec F S1x512 .f32) (main_arg8 : FVec F S1x512 .f32) (main_arg9 : FVec F S1024x1024 .f32) (main_v2 : IVec S8192x1024 1) (main_v5 : IVec S8192x512 1) (main_v8 : IVec S8192x512 1) (main_v11 : IVec S8192x512 1) (main_v14 : IVec S8192x512 1) (main_v17 : IVec S8192x512 1) : IVec S8192x1024 1 × IVec S8192x512 1 × IVec S8192x512 1 × IVec S8192x512 1 × IVec S8192x512 1 × IVec S8192x512 1 × IVec S1x512 1 × IVec S1x512 1 × IVec S1x512 1 × IVec S1024x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1024x1024 .f32 := Host.absf main_arg9
  let main_cst_8 : FVec F S_ .f32 := constant S_ .f32 0x7F800000#32
  let main_v28 : FVec F S1024x1024 .f32 := broadcastInDim S1024x1024 ![] bcast_S_S1024x1024 main_cst_8
  let main_v29 : IVec S1024x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x512 .f32) (main_arg2 : FVec F S8192x512 .f32) (main_arg3 : FVec F S8192x512 .f32) (main_arg4 : FVec F S8192x512 .f32) (main_arg5 : FVec F S8192x512 .f32) (main_arg6 : FVec F S1x512 .f32) (main_arg7 : FVec F S1x512 .f32) (main_arg8 : FVec F S1x512 .f32) (main_arg9 : FVec F S1024x1024 .f32) : IVec S8192x1024 1 × IVec S8192x512 1 × IVec S8192x512 1 × IVec S8192x512 1 × IVec S8192x512 1 × IVec S8192x512 1 × IVec S1x512 1 × IVec S1x512 1 × IVec S1x512 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_arg9 main_v2 main_v5 main_v8 main_v11 main_v14 main_v17
-- ==== Pre_swa_finite.lean ====
abbrev S2x4096x768 : Shape := ⟨3, ![2, 4096, 768]⟩
abbrev S8 : Shape := ⟨1, ![8]⟩
abbrev S2x4096x512 : Shape := ⟨3, ![2, 4096, 512]⟩
abbrev S_ : Shape := ⟨0, ![]⟩

class Facts : Prop where
  bcast_S_S2x4096x768 : S_.BroadcastsInDim S2x4096x768 (![] : Fin 0 → Fin S2x4096x768.rank)
  bcast_S_S8 : S_.BroadcastsInDim S8 (![] : Fin 0 → Fin S8.rank)
  bcast_S_S2x4096x512 : S_.BroadcastsInDim S2x4096x512 (![] : Fin 0 → Fin S2x4096x512.rank)

variable [Facts]

def fn {F : FTy → Type} [FloatOps F] (main_arg0 : FVec F S2x4096x768 .f32) (main_arg1 : FVec F S8 .f32) (main_arg2 : FVec F S2x4096x512 .f32) : IVec S2x4096x768 1 × IVec S8 1 × IVec S2x4096x512 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_v3 : FVec F S8 .f32 := Host.absf main_arg1
  let main_cst_0 : FVec F S_ .f32 := constant S_ .f32 0x7F800000#32
  let main_v4 : FVec F S8 .f32 := broadcastInDim S8 ![] bcast_S_S8 main_cst_0
  let main_v5 : IVec S8 1 := cmpf .olt main_v3 main_v4
  let main_v6 : FVec F S2x4096x512 .f32 := Host.absf main_arg2
  let main_cst_1 : FVec F S_ .f32 := constant S_ .f32 0x7F800000#32
  let main_v7 : FVec F S2x4096x512 .f32 := broadcastInDim S2x4096x512 ![] bcast_S_S2x4096x512 main_cst_1
  let main_v8 : IVec S2x4096x512 1 := cmpf .olt main_v6 main_v7
  (main_v2, main_v5, main_v8)
-- ==== DownBwd.lean ====
abbrev S8192x1024 : Shape := ⟨2, ![8192, 1024]⟩
abbrev S4096x1024 : Shape := ⟨2, ![4096, 1024]⟩
abbrev S8192x4096 : Shape := ⟨2, ![8192, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S4096x1024, .bf16⟩
  | .hbm, ⟨4, _⟩ => ⟨S8192x4096, .bf16⟩
  | .hbm, ⟨5, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== SwaBwd.lean ====
abbrev S2x4096x768 : Shape := ⟨3, ![2, 4096, 768]⟩
abbrev S8 : Shape := ⟨1, ![8]⟩
abbrev S2x4096x512 : Shape := ⟨3, ![2, 4096, 512]⟩
abbrev S2x4096x8x64 : Shape := ⟨4, ![2, 4096, 8, 64]⟩
abbrev S2x4096x128 : Shape := ⟨3, ![2, 4096, 128]⟩
abbrev S2x4096x2x64 : Shape := ⟨4, ![2, 4096, 2, 64]⟩
abbrev S2x32x128x2x4x64 : Shape := ⟨6, ![2, 32, 128, 2, 4, 64]⟩
abbrev S_ : Shape := ⟨0, ![]⟩
abbrev S2x128x2x64 : Shape := ⟨4, ![2, 128, 2, 64]⟩
abbrev S2x4224x2x64 : Shape := ⟨4, ![2, 4224, 2, 64]⟩
abbrev S2x33x128x2x64 : Shape := ⟨5, ![2, 33, 128, 2, 64]⟩
abbrev S2x32x128x2x64 : Shape := ⟨5, ![2, 32, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x2x4x128x256 : Shape := ⟨6, ![1, 1, 2, 4, 128, 256]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩
abbrev S2x32x8x128x256 : Shape := ⟨5, ![2, 32, 8, 128, 256]⟩
abbrev S2x32x8x128 : Shape := ⟨4, ![2, 32, 8, 128]⟩
abbrev S2x32x128x8 : Shape := ⟨4, ![2, 32, 128, 8]⟩
abbrev S2x4096x8 : Shape := ⟨3, ![2, 4096, 8]⟩
abbrev S1x128 : Shape := ⟨2, ![1, 128]⟩
abbrev S1x128x512 : Shape := ⟨3, ![1, 128, 512]⟩
abbrev S1x128x128 : Shape := ⟨3, ![1, 128, 128]⟩
abbrev S1x1x8x128x256 : Shape := ⟨5, ![1, 1, 8, 128, 256]⟩
abbrev S1x128x768 : Shape := ⟨3, ![1, 128, 768]⟩
abbrev S2x128x128 : Shape := ⟨3, ![2, 128, 128]⟩
abbrev S128x128 : Shape := ⟨2, ![128, 128]⟩
abbrev S1x1x1x128x256 : Shape := ⟨5, ![1, 1, 1, 128, 256]⟩
abbrev S256x128 : Shape := ⟨2, ![256, 128]⟩

abbrev nBuf : Space → Nat
  | .hbm => 128
  | .vmem => 20
  | .smem => 0
  | _ => 0

abbrev bufTy : (tb : Table) → Fin (tcTables nBuf tb) → BufTy
  | .hbm, ⟨0, _⟩ => ⟨S2x4096x768, .f32⟩
  | .hbm, ⟨1, _⟩ => ⟨S8, .f32⟩
  | .hbm, ⟨2, _⟩ => ⟨S2x4096x512, .f32⟩
  | .hbm, ⟨3, _⟩ => ⟨S2x4096x512, .f32⟩
  | .hbm, ⟨4, _⟩ => ⟨S2x4096x8x64, .f32⟩
  | .hbm, ⟨5, _⟩ => ⟨S2x4096x128, .f32⟩
  | .hbm, ⟨6, _⟩ => ⟨S2x4096x2x64, .f32⟩
  | .hbm, ⟨7, _⟩ => ⟨S2x4096x128, .f32⟩
  | .hbm, ⟨8, _⟩ => ⟨S2x4096x2x64, .f32⟩
  | .hbm, ⟨9, _⟩ => ⟨S2x32x128x2x4x64, .f32⟩
  | .hbm, ⟨10, _⟩ => ⟨S_, .f32⟩
  | .hbm, ⟨11, _⟩ => ⟨S2x128x2x64, .f32⟩
  | .hbm, ⟨12, _⟩ => ⟨S2x4224x2x64, .f32⟩
  | .hbm, ⟨13, _⟩ => ⟨S2x33x128x2x64, .f32⟩
  | .hbm, ⟨14, _⟩ => ⟨S2x32x128x2x64, .f32⟩
  | .hbm, ⟨15, _⟩ => ⟨S2x32x128x2x64, .f32⟩
  | .hbm, ⟨16, _⟩ => ⟨S2x32x256x2x64, .f32⟩
  | .hbm, ⟨17, _⟩ => ⟨S_, .f32⟩
  | .hbm, ⟨18, _⟩ => ⟨S2x128x2x64, .f32⟩
  | .hbm, ⟨19, _⟩ => ⟨S2x4224x2x64, .f32⟩
  | .hbm, ⟨20, _⟩ => ⟨S2x33x128x2x64, .f32⟩
  | .hbm, ⟨21, _⟩ => ⟨S2x32x128x2x64, .f32⟩
  | .hbm, ⟨22, _⟩ => ⟨S2x32x128x2x64, .f32⟩
  | .hbm, ⟨23, _⟩ => ⟨S2x32x256x2x64, .f32⟩
  | .hbm, ⟨24, _⟩ => ⟨S2x32x2x256x128x4, .f32⟩
  | .hbm, ⟨25, _⟩ => ⟨S2x32x2x4x128x256, .f32⟩
  | .hbm, ⟨26, _⟩ => ⟨S_, .f32⟩
  | .hbm, ⟨27, _⟩ => ⟨S2x32x2x4x128x256, .f32⟩
  | .hbm, ⟨28, _⟩ => ⟨S2x32x2x4x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S2x4x1x1, .f32⟩
  | .hbm, ⟨54, _⟩ => ⟨S2x4x1x1, .f32⟩
  | .hbm, ⟨55, _⟩ => ⟨S128x256, .f32⟩
  | .hbm, ⟨56, _⟩ => ⟨S1x1x128x256, .f32⟩
  | .hbm, ⟨57, _⟩ => ⟨S2x4x128x256, .f32⟩
  | .hbm, ⟨58, _⟩ => ⟨S2x4x128x256, .f32⟩
  | .hbm, ⟨59, _⟩ => ⟨S2x4x128x256, .f32⟩
  | .hbm, ⟨60, _⟩ => ⟨S32, .i32⟩
  | .hbm, ⟨61, _⟩ => ⟨S32x1, .i32⟩
  | .hbm, ⟨62, _⟩ => ⟨S_, .i32⟩
  | .hbm, ⟨63, _⟩ => ⟨S32x1, .i32⟩
  | .hbm, ⟨64, _⟩ => ⟨S32x1, .i32⟩
  | .hbm, ⟨65, _⟩ => ⟨S256, .i32⟩
  | .hbm, ⟨66, _⟩ => ⟨S1x256, .i32⟩
  | .hbm, ⟨67, _⟩ => ⟨S32x256, .i32⟩
  | .hbm, ⟨68, _⟩ => ⟨S32x256, .i32⟩
  | .hbm, ⟨69, _⟩ => ⟨S32x256, .i32⟩
  | .hbm, ⟨70, _⟩ => ⟨S_, .i32⟩
  | .hbm, ⟨71, _⟩ => ⟨S32x256, .i32⟩
  | .hbm, ⟨72, _⟩ => ⟨S32x256, .i32⟩
  | .hbm, ⟨73, _⟩ => ⟨S_, .i32⟩
  | .hbm, ⟨74, _⟩ => ⟨S128x256, .i32⟩
  | .hbm, ⟨75, _⟩ => ⟨S128x256, .i1⟩
  | .hbm, ⟨76, _⟩ => ⟨S_, .i32⟩
  | .hbm, ⟨77, _⟩ => ⟨S128x256, .i32⟩
  | .hbm, ⟨78, _⟩ => ⟨S128x256, .i1⟩
  | .hbm, ⟨79, _⟩ => ⟨S128x256, .i1⟩
  | .hbm, ⟨80, _⟩ => ⟨S1x128x256, .i1⟩
  | .hbm, ⟨81, _⟩ => ⟨S_, .i32⟩
  | .hbm, ⟨82, _⟩ => ⟨S32x256, .i32⟩
  | .hbm, ⟨83, _⟩ => ⟨S32x256, .i1⟩
  | .hbm, ⟨84, _⟩ => ⟨S32x1x256, .i1⟩
  | .hbm, ⟨85, _⟩ => ⟨S32x128x256, .i1⟩
  | .hbm, ⟨86, _⟩ => ⟨S32x128x256, .i1⟩
  | .hbm, ⟨87, _⟩ => ⟨S32x128x256, .i1⟩
  | .hbm, ⟨88, _⟩ => ⟨S1x32x1x1x128x256, .i1⟩
  | .hbm, ⟨89, _⟩ => ⟨S1x1x2x4x128x256, .f32⟩
  | .hbm, ⟨90, _⟩ => ⟨S2x32x2x4x128x256, .f32⟩
  | .hbm, ⟨91, _⟩ => ⟨S2x32x2x4x128x256, .f32⟩
  | .hbm, ⟨92, _⟩ => ⟨S_, .f32⟩
  | .hbm, ⟨93, _⟩ => ⟨S_, .f32⟩
  | .hbm, ⟨94, _⟩ => ⟨S2x32x2x4x128x256, .i1⟩
  | .hbm, ⟨95, _⟩ => ⟨S2x32x2x4x128x256, .f32⟩
  | .hbm, ⟨96, _⟩ => ⟨S2x32x2x4x128x256, .f32⟩
  | .hbm, ⟨97, _⟩ => ⟨S1x1x2x4x1x1, .f32⟩
  | .hbm, ⟨98, _⟩ => ⟨S_, .f32⟩
  | .hbm, ⟨99, _⟩ => ⟨S2x32x2x4x128, .f32⟩
  | .hbm, ⟨100, _⟩ => ⟨S2x32x2x4x128x1, .f32⟩
  | .hbm, ⟨101, _⟩ => ⟨S2x32x2x4x128x1, .f32⟩
  | .hbm, ⟨102, _⟩ => ⟨S2x32x2x4x128x1, .f32⟩
  | .hbm, ⟨103, _⟩ => ⟨S2x32x2x4x128x256, .f32⟩
  | .hbm, ⟨104, _⟩ => ⟨S2x32x2x4x128x256, .f32⟩
  | .hbm, ⟨105, _⟩ => ⟨S2x32x2x4x128x256, .f32⟩
  | .hbm, ⟨106, _⟩ => ⟨S2x32x2x4x128x1, .f32⟩
  | .hbm, ⟨107, _⟩ => ⟨S2x32x2x4x128x1, .f32⟩
  | .hbm, ⟨108, _⟩ => ⟨S2x32x2x4x128x1, .f32⟩
  | .hbm, ⟨109, _⟩ => ⟨S_, .f32⟩
  | .hbm, ⟨110, _⟩ => ⟨S2x32x2x4x128, .f32⟩
  | .hbm, ⟨111, _⟩ => ⟨S2x32x2x4x128x1, .f32⟩
  | .hbm, ⟨112, _⟩ => ⟨S2x32x2x4x128x1, .f32⟩
  | .hbm, ⟨113, _⟩ => ⟨S2x32x2x4x128x256, .f32⟩
  | .hbm, ⟨114, _⟩ => ⟨S2x32x2x4x128x256, .f32⟩
  | .hbm, ⟨115, _⟩ => ⟨S2x32x2x64x4x128, .f32⟩
  | .hbm, ⟨116, _⟩ => ⟨S2x32x128x2x4x64, .f32⟩
  | .hbm, ⟨117, _⟩ => ⟨S2x4096x512, .f32⟩
  | .hbm, ⟨118, _⟩ => ⟨S2x32x2x4x128x1, .f32⟩
  | .hbm, ⟨119, _⟩ => ⟨S2x32x8x128x256, .f32⟩
  | .hbm, ⟨120, _⟩ => ⟨S2x32x8x128, .f32⟩
  | .hbm, ⟨121, _⟩ => ⟨S2x32x128x8, .f32⟩
  | .hbm, ⟨122, _⟩ => ⟨S2x4096x8, .f32⟩
  | .hbm, ⟨123, _⟩ => ⟨S_, .i32⟩
  | .hbm, ⟨124, _⟩ => ⟨S_, .f32⟩
  | .hbm, ⟨125, _⟩ => ⟨S2x4096x128, .f32⟩
  | .hbm, ⟨126, _⟩ => ⟨S2x4096x768, .bf16⟩
  | .hbm, ⟨127, _⟩ => ⟨S1x128, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x512, .f32⟩
  | .local _ .vmem, ⟨11, _⟩ => ⟨S1x128x512, .f32⟩
  | .local _ .vmem, ⟨12, _⟩ => ⟨S1x1x8x128x256, .f32⟩
  | .local _ .vmem, ⟨13, _⟩ => ⟨S1x1x8x128x256, .f32⟩
  | .local _ .vmem, ⟨14, _⟩ => ⟨S1x128x128, .f32⟩
  | .local _ .vmem, ⟨15, _⟩ => ⟨S1x128x128, .f32⟩
  | .local _ .vmem, ⟨16, _⟩ => ⟨S1x128x768, .bf16⟩
  | .local _ .vmem, ⟨17, _⟩ => ⟨S1x128x768, .bf16⟩
  | .local _ .vmem, ⟨18, _⟩ => ⟨S1x128, .f32⟩
  | .local _ .vmem, ⟨19, _⟩ => ⟨S2x128x128, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_7 : Ref sig .tc := ⟨.hbm, 70, rfl⟩
abbrev main_v58 : Ref sig .tc := ⟨.hbm, 71, rfl⟩
abbrev main_v59 : Ref sig .tc := ⟨.hbm, 72, rfl⟩
abbrev main_c_8 : Ref sig .tc := ⟨.hbm, 73, rfl⟩
abbrev main_v60 : Ref sig .tc := ⟨.hbm, 74, rfl⟩
abbrev main_v61 : Ref sig .tc := ⟨.hbm, 75, rfl⟩
abbrev main_c_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_11 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_c_14 : Ref sig .tc := ⟨.hbm, 123, rfl⟩
abbrev main_call1_v0 : Ref sig .tc := ⟨.hbm, 124, rfl⟩
abbrev main_v101 : Ref sig .tc := ⟨.hbm, 125, rfl⟩
abbrev main_v102_0 : Ref sig .tc := ⟨.hbm, 126, rfl⟩
abbrev main_v102_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c4_i32 : BitVec 32 := 4#32
  let c0_i32 : BitVec 32 := 0#32
  ![arg0.toNat, v0.toNat, c4_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c5_i32 : BitVec 32 := 5#32
  let c0_i32 : BitVec 32 := 0#32
  ![arg0.toNat, v0.toNat, c5_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 5 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== SwaRefIdeal.lean ====
abbrev S2x4096x768 : Shape := ⟨3, ![2, 4096, 768]⟩
abbrev S8 : Shape := ⟨1, ![8]⟩
abbrev S2x4096x512 : Shape := ⟨3, ![2, 4096, 512]⟩
abbrev S2x4096x8x64 : Shape := ⟨4, ![2, 4096, 8, 64]⟩
abbrev S2x4096x128 : Shape := ⟨3, ![2, 4096, 128]⟩
abbrev S2x4096x2x64 : Shape := ⟨4, ![2, 4096, 2, 64]⟩
abbrev S2x32x128x2x4x64 : Shape := ⟨6, ![2, 32, 128, 2, 4, 64]⟩
abbrev S_ : Shape := ⟨0, ![]⟩
abbrev S2x128x2x64 : Shape := ⟨4, ![2, 128, 2, 64]⟩
abbrev S2x4224x2x64 : Shape := ⟨4, ![2, 4224, 2, 64]⟩
abbrev S2x33x128x2x64 : Shape := ⟨5, ![2, 33, 128, 2, 64]⟩
abbrev S2x32x128x2x64 : Shape := ⟨5, ![2, 32, 128, 2, 64]⟩
abbrev S2x32x256x2x64 : Shape := ⟨5, ![2, 32, 256, 2, 64]⟩
abbrev S2x32x2x256x128x4 : Shape := ⟨6, ![2, 32, 2, 256, 128, 4]⟩
abbrev S2x32x2x4x128x256 : Shape := ⟨6, ![2, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x2x4x128x256 : Shape := ⟨6, ![1, 1, 2, 4, 128, 256]⟩
abbrev S1x1x2x4x1x1 : Shape := ⟨6, ![1, 1, 2, 4, 1, 1]⟩
abbrev S2x32x2x4x128 : Shape := ⟨5, ![2, 32, 2, 4, 128]⟩
abbrev S2x32x2x4x128x1 : Shape := ⟨6, ![2, 32, 2, 4, 128, 1]⟩
abbrev S2x32x2x64x4x128 : Shape := ⟨6, ![2, 32, 2, 64, 4, 128]⟩
abbrev S2x32x2x64x256 : Shape := ⟨5, ![2, 32, 2, 64, 256]⟩
abbrev S2x4x1 : Shape := ⟨3, ![2, 4, 1]⟩
abbrev S2x32x2x128x4x64 : Shape := ⟨6, ![2, 32, 2, 128, 4, 64]⟩
abbrev S2x32x2x256x64 : Shape := ⟨5, ![2, 32, 2, 256, 64]⟩
abbrev S1x128 : Shape := ⟨2, ![1, 128]⟩

abbrev nBuf : Space → Nat
  | .hbm => 253
  | .vmem => 0
  | .smem => 0
  | _ => 0

abbrev hbmTy0_0 (i : Nat) : BufTy := match i % 128 with
  | 0 => ⟨S2x4096x768, .f32⟩
  | 1 => ⟨S8, .f32⟩
  | 2 => ⟨S2x4096x512, .f32⟩
  | 3 => ⟨S2x4096x512, .f32⟩
  | 4 => ⟨S2x4096x8x64, .f32⟩
  | 5 => ⟨S2x4096x128, .f32⟩
  | 6 => ⟨S2x4096x2x64, .f32⟩
  | 7 => ⟨S2x4096x128, .f32⟩
  | 8 => ⟨S2x4096x2x64, .f32⟩
  | 9 => ⟨S2x32x128x2x4x64, .f32⟩
  | 10 => ⟨S_, .f32⟩
  | 11 => ⟨S2x128x2x64, .f32⟩
  | 12 => ⟨S2x4224x2x64, .f32⟩
  | 13 => ⟨S_, .f32⟩
  | 14 => ⟨S2x128x2x64, .f32⟩
  | 15 => ⟨S2x33x128x2x64, .f32⟩
  | 16 => ⟨S2x32x128x2x64, .f32⟩
  | 17 => ⟨S2x32x128x2x64, .f32⟩
  | 18 => ⟨S2x32x256x2x64, .f32⟩
  | 19 => ⟨S_, .f32⟩
  | 20 => ⟨S2x128x2x64, .f32⟩
  | 21 => ⟨S2x4224x2x64, .f32⟩
  | 22 => ⟨S_, .f32⟩
  | 23 => ⟨S2x128x2x64, .f32⟩
  | 24 => ⟨S2x33x128x2x64, .f32⟩
  | 25 => ⟨S2x32x128x2x64, .f32⟩
  | 26 => ⟨S2x32x128x2x64, .f32⟩
  | 27 => ⟨S2x32x256x2x64, .f32⟩
  | 28 => ⟨S2x32x2x256x128x4, .f32⟩
  | 29 => ⟨S2x32x2x4x128x256, .f32⟩
  | 30 => ⟨S_, .f32⟩
  | 31 => ⟨S2x32x2x4x128x256, .f32⟩
  | 32 => ⟨S2x32x2x4x128x256, .f32⟩
  | 33 => ⟨S128, .i32⟩
  | 34 => ⟨S128x1, .i32⟩
  | 35 => ⟨S256, .i32⟩
  | 36 => ⟨S1x256, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S8, .f32⟩
  | 57 => ⟨S2x4x1x1, .f32⟩
  | 58 => ⟨S2x4x1x1, .f32⟩
  | 59 => ⟨S128x256, .f32⟩
  | 60 => ⟨S1x1x128x256, .f32⟩
  | 61 => ⟨S2x4x128x256, .f32⟩
  | 62 => ⟨S2x4x128x256, .f32⟩
  | 63 => ⟨S2x4x128x256, .f32⟩
  | 64 => ⟨S32, .i32⟩
  | 65 => ⟨S32x1, .i32⟩
  | 66 => ⟨S_, .i32⟩
  | 67 => ⟨S32x1, .i32⟩
  | 68 => ⟨S32x1, .i32⟩
  | 69 => ⟨S256, .i32⟩
  | 70 => ⟨S1x256, .i32⟩
  | 71 => ⟨S32x256, .i32⟩
  | 72 => ⟨S32x256, .i32⟩
  | 73 => ⟨S32x256, .i32⟩
  | 74 => ⟨S_, .i32⟩
  | 75 => ⟨S32x256, .i32⟩
  | 76 => ⟨S32x256, .i32⟩
  | 77 => ⟨S_, .i32⟩
  | 78 => ⟨S128x256, .i32⟩
  | 79 => ⟨S128x256, .i1⟩
  | 80 => ⟨S_, .i32⟩
  | 81 => ⟨S128x256, .i32⟩
  | 82 => ⟨S128x256, .i1⟩
  | 83 => ⟨S128x256, .i1⟩
  | 84 => ⟨S1x128x256, .i1⟩
  | 85 => ⟨S_, .i32⟩
  | 86 => ⟨S32x256, .i32⟩
  | 87 => ⟨S32x256, .i1⟩
  | 88 => ⟨S32x1x256, .i1⟩
  | 89 => ⟨S32x128x256, .i1⟩
  | 90 => ⟨S32x128x256, .i1⟩
  | 91 => ⟨S32x128x256, .i1⟩
  | 92 => ⟨S1x32x1x1x128x256, .i1⟩
  | 93 => ⟨S1x1x2x4x128x256, .f32⟩
  | 94 => ⟨S2x32x2x4x128x256, .f32⟩
  | 95 => ⟨S2x32x2x4x128x256, .f32⟩
  | 96 => ⟨S_, .f32⟩
  | 97 => ⟨S_, .f32⟩
  | 98 => ⟨S2x32x2x4x128x256, .i1⟩
  | 99 => ⟨S2x32x2x4x128x256, .f32⟩
  | 100 => ⟨S2x32x2x4x128x256, .f32⟩
  | 101 => ⟨S_, .f32⟩
  | 102 => ⟨S2x32x2x4x128x256, .f32⟩
  | 103 => ⟨S1x1x2x4x1x1, .f32⟩
  | 104 => ⟨S_, .f32⟩
  | 105 => ⟨S2x32x2x4x128, .f32⟩
  | 106 => ⟨S2x32x2x4x128x1, .f32⟩
  | 107 => ⟨S2x32x2x4x128x256, .f32⟩
  | 108 => ⟨S2x32x2x4x128x256, .i1⟩
  | 109 => ⟨S2x32x2x4x128x256, .f32⟩
  | 110 => ⟨S_, .f32⟩
  | 111 => ⟨S2x32x2x4x128, .f32⟩
  | 112 => ⟨S2x32x2x4x128x1, .f32⟩
  | 113 => ⟨S2x32x2x4x128x1, .f32⟩
  | 114 => ⟨S2x32x2x4x128x1, .f32⟩
  | 115 => ⟨S2x32x2x4x128x1, .f32⟩
  | 116 => ⟨S2x32x2x4x128x1, .i1⟩
  | 117 => ⟨S2x32x2x4x128x1, .f32⟩
  | 118 => ⟨S2x32x2x4x128x1, .i1⟩
  | 119 => ⟨S_, .f32⟩
  | 120 => ⟨S2x32x2x4x128x1, .f32⟩
  | 121 => ⟨S_, .f32⟩
  | 122 => ⟨S2x32x2x4x128x1, .f32⟩
  | 123 => ⟨S_, .f32⟩
  | 124 => ⟨S2x32x2x4x128x1, .f32⟩
  | 125 => ⟨S2x32x2x4x128x1, .f32⟩
  | 126 => ⟨S2x32x2x4x128x1, .f32⟩
  | 127 => ⟨S2x32x2x4x128x1, .f32⟩
  | _ => ⟨S2x4096x768, .f32⟩

abbrev hbmTy0_1 (i : Nat) : BufTy := match i % 128 with
  | 0 => ⟨S2x32x2x4x128x1, .i1⟩
  | 1 => ⟨S2x32x2x4x128x1, .f32⟩
  | 2 => ⟨S2x32x2x4x128x1, .i1⟩
  | 3 => ⟨S_, .f32⟩
  | 4 => ⟨S2x32x2x4x128x1, .f32⟩
  | 5 => ⟨S_, .f32⟩
  | 6 => ⟨S2x32x2x4x128x1, .f32⟩
  | 7 => ⟨S_, .f32⟩
  | 8 => ⟨S2x32x2x4x128x1, .f32⟩
  | 9 => ⟨S2x32x2x4x128x1, .f32⟩
  | 10 => ⟨S2x32x2x4x128x1, .f32⟩
  | 11 => ⟨S2x32x2x4x128x256, .f32⟩
  | 12 => ⟨S2x32x2x4x128x256, .f32⟩
  | 13 => ⟨S2x32x2x4x128x256, .f32⟩
  | 14 => ⟨S2x32x2x4x128x1, .f32⟩
  | 15 => ⟨S2x32x2x4x128x1, .f32⟩
  | 16 => ⟨S2x32x2x4x128x1, .f32⟩
  | 17 => ⟨S_, .f32⟩
  | 18 => ⟨S2x32x2x4x128, .f32⟩
  | 19 => ⟨S2x32x2x4x128x1, .f32⟩
  | 20 => ⟨S2x32x2x4x128x1, .f32⟩
  | 21 => ⟨S2x32x2x4x128x256, .f32⟩
  | 22 => ⟨S2x32x2x4x128x256, .f32⟩
  | 23 => ⟨S2x32x2x4x128x1, .f32⟩
  | 24 => ⟨S_, .f32⟩
  | 25 => ⟨S2x32x2x4x128x1, .f32⟩
  | 26 => ⟨S2x32x2x4x128x1, .f32⟩
  | 27 => ⟨S2x32x2x64x4x128, .f32⟩
  | 28 => ⟨S2x32x128x2x4x64, .f32⟩
  | 29 => ⟨S2x4096x512, .f32⟩
  | 30 => ⟨S2x32x2x4x128x1, .f32⟩
  | 31 => ⟨S2x32x2x4x128x1, .f32⟩
  | 32 => ⟨S_, .f32⟩
  | 33 => ⟨S2x32x2x4x128x1, .f32⟩
  | 34 => ⟨S2x32x2x4x128x1, .f32⟩
  | 35 => ⟨S2x32x128x2x4x64, .f32⟩
  | 36 => ⟨S2x32x2x64x4x128, .f32⟩
  | 37 => ⟨S2x32x2x4x128x256, .f32⟩
  | 38 => ⟨S2x32x2x64x256, .f32⟩
  | 39 => ⟨S2x32x256x2x64, .f32⟩
  | 40 => ⟨S2x32x2x4x128x256, .f32⟩
  | 41 => ⟨S2x32x2x4x128x256, .f32⟩
  | 42 => ⟨S2x32x2x4x128x256, .f32⟩
  | 43 => ⟨S_, .f32⟩
  | 44 => ⟨S2x32x2x4x128, .f32⟩
  | 45 => ⟨S2x32x2x4x128x1, .f32⟩
  | 46 => ⟨S2x32x2x4x128x1, .f32⟩
  | 47 => ⟨S2x32x2x4x128x256, .f32⟩
  | 48 => ⟨S2x32x2x4x128x256, .f32⟩
  | 49 => ⟨S_, .f32⟩
  | 50 => ⟨S2x32x2x4x128, .f32⟩
  | 51 => ⟨S2x32x2x4x128x256, .f32⟩
  | 52 => ⟨S2x32x2x4x128x256, .f32⟩
  | 53 => ⟨S2x32x2x4x128x1, .f32⟩
  | 54 => ⟨S_, .f32⟩
  | 55 => ⟨S2x4x1, .f32⟩
  | 56 => ⟨S1x1x2x4x1x1, .f32⟩
  | 57 => ⟨S2x32x2x4x128x1, .f32⟩
  | 58 => ⟨S2x32x2x4x128x256, .f32⟩
  | 59 => ⟨S2x32x2x4x128x256, .f32⟩
  | 60 => ⟨S_, .f32⟩
  | 61 => ⟨S2x32x2x4x128, .f32⟩
  | 62 => ⟨S2x32x2x4x128x1, .f32⟩
  | 63 => ⟨S2x32x2x4x128x1, .f32⟩
  | 64 => ⟨S2x32x2x4x128x1, .f32⟩
  | 65 => ⟨S_, .f32⟩
  | 66 => ⟨S2x4x1, .f32⟩
  | 67 => ⟨S1x1x2x4x1x1, .f32⟩
  | 68 => ⟨S1x1x2x4x1x1, .f32⟩
  | 69 => ⟨S2x32x2x4x128x1, .f32⟩
  | 70 => ⟨S_, .f32⟩
  | 71 => ⟨S2x32x2x4x128, .f32⟩
  | 72 => ⟨S2x32x2x4x128, .f32⟩
  | 73 => ⟨S2x32x2x4x128x256, .f32⟩
  | 74 => ⟨S2x32x2x4x128x256, .f32⟩
  | 75 => ⟨S2x32x2x4x128x256, .f32⟩
  | 76 => ⟨S8, .f32⟩
  | 77 => ⟨S_, .f32⟩
  | 78 => ⟨S2x32x2x4x128x256, .f32⟩
  | 79 => ⟨S2x32x2x4x128x256, .f32⟩
  | 80 => ⟨S_, .f32⟩
  | 81 => ⟨S2x32x2x4x128x256, .f32⟩
  | 82 => ⟨S2x32x2x4x128x256, .f32⟩
  | 83 => ⟨S2x32x2x256x128x4, .f32⟩
  | 84 => ⟨S2x32x2x128x4x64, .f32⟩
  | 85 => ⟨S2x32x128x2x4x64, .f32⟩
  | 86 => ⟨S2x32x2x256x64, .f32⟩
  | 87 => ⟨S2x32x256x2x64, .f32⟩
  | 88 => ⟨S2x32x128x2x64, .f32⟩
  | 89 => ⟨S2x32x128x2x64, .f32⟩
  | 90 => ⟨S_, .f32⟩
  | 91 => ⟨S2x33x128x2x64, .f32⟩
  | 92 => ⟨S_, .f32⟩
  | 93 => ⟨S2x33x128x2x64, .f32⟩
  | 94 => ⟨S2x33x128x2x64, .f32⟩
  | 95 => ⟨S2x4224x2x64, .f32⟩
  | 96 => ⟨S2x128x2x64, .f32⟩
  | 97 => ⟨S2x4096x2x64, .f32⟩
  | 98 => ⟨S2x32x128x2x64, .f32⟩
  | 99 => ⟨S2x32x128x2x64, .f32⟩
  | 100 => ⟨S_, .f32⟩
  | 101 => ⟨S2x33x128x2x64, .f32⟩
  | 102 => ⟨S_, .f32⟩
  | 103 => ⟨S2x33x128x2x64, .f32⟩
  | 104 => ⟨S2x33x128x2x64, .f32⟩
  | 105 => ⟨S2x4224x2x64, .f32⟩
  | 106 => ⟨S2x128x2x64, .f32⟩
  | 107 => ⟨S2x4096x2x64, .f32⟩
  | 108 => ⟨S2x4096x8x64, .f32⟩
  | 109 => ⟨S2x4096x128, .f32⟩
  | 110 => ⟨S_, .f32⟩
  | 111 => ⟨S2x4096x768, .f32⟩
  | 112 => ⟨S2x4096x128, .f32⟩
  | 113 => ⟨S_, .f32⟩
  | 114 => ⟨S2x4096x768, .f32⟩
  | 115 => ⟨S2x4096x768, .f32⟩
  | 116 => ⟨S2x4096x512, .f32⟩
  | 117 => ⟨S_, .f32⟩
  | 118 => ⟨S2x4096x768, .f32⟩
  | 119 => ⟨S2x4096x768, .f32⟩
  | 120 => ⟨S2x4096x768, .bf16⟩
  | 121 => ⟨S_, .i32⟩
  | 122 => ⟨S_, .f32⟩
  | 123 => ⟨S128, .f32⟩
  | 124 => ⟨S1x128, .f32⟩
  | _ => ⟨S2x4096x768, .f32⟩

abbrev hbmTy (i : Nat) : BufTy := match i / 128 with
  | 0 => hbmTy0_0 i
  | 1 => hbmTy0_1 i
  | _ => ⟨S2x4096x768, .f32⟩

abbrev bufTy : (tb : Table) → Fin (tcTables nBuf tb) → BufTy
  | .hbm, ⟨i, _⟩ => hbmTy i
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_9 : Ref sig .tc := ⟨.hbm, 74, rfl⟩
abbrev main_v60 : Ref sig .tc := ⟨.hbm, 75, rfl⟩
abbrev main_v61 : Ref sig .tc := ⟨.hbm, 76, rfl⟩
abbrev main_c_10 : Ref sig .tc := ⟨.hbm, 77, rfl⟩
abbrev main_v62 : Ref sig .tc := ⟨.hbm, 78, rfl⟩
abbrev main_v63 : Ref sig .tc := ⟨.hbm, 79, rfl⟩
abbrev main_c_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_13 : Ref sig .tc := ⟨.hbm, 96, rfl⟩
abbrev main_call0_v0 : Ref sig .tc := ⟨.hbm, 97, rfl⟩
abbrev main_v78_1 : Ref sig .tc := ⟨.hbm, 98, rfl⟩
abbrev main_call0_v2 : Ref sig .tc := ⟨.hbm, 99, rfl⟩
abbrev main_v78_0 : Ref sig .tc := ⟨.hbm, 100, rfl⟩
abbrev main_call0_cst : Ref sig .tc := ⟨.hbm, 101, rfl⟩
abbrev main_v78_2 : Ref sig .tc := ⟨.hbm, 102, rfl⟩
abbrev main_v79 : Ref sig .tc := ⟨.hbm, 103, rfl⟩
abbrev main_cst_14 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_15 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_16 : Ref sig .tc := ⟨.hbm, 119, rfl⟩
abbrev main_v93 : Ref sig .tc := ⟨.hbm, 120, rfl⟩
abbrev main_cst_17 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_19 : Ref sig .tc := ⟨.hbm, 131, rfl⟩
abbrev main_v102 : Ref sig .tc := ⟨.hbm, 132, rfl⟩
abbrev main_cst_20 : Ref sig .tc := ⟨.hbm, 133, rfl⟩
abbrev main_v103 : Ref sig .tc := ⟨.hbm, 134, rfl⟩
abbrev main_cst_21 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_22 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_23 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_25 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_26 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_27 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_28 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_29 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_30 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_call1_cst : Ref sig .tc := ⟨.hbm, 205, rfl⟩
abbrev main_call1_v0 : Ref sig .tc := ⟨.hbm, 206, rfl⟩
abbrev main_v164 : Ref sig .tc := ⟨.hbm, 207, rfl⟩
abbrev main_cst_31 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_cst_32 : Ref sig .tc := ⟨.hbm, 218, rfl⟩
abbrev main_v174 : Ref sig .tc := ⟨.hbm, 219, rfl⟩
abbrev main_cst_33 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_cst_34 : Ref sig .tc := ⟨.hbm, 228, rfl⟩
abbrev main_v182 : Ref sig .tc := ⟨.hbm, 229, rfl⟩
abbrev main_cst_35 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_cst_36 : Ref sig .tc := ⟨.hbm, 238, rfl⟩
abbrev main_v190 : Ref sig .tc := ⟨.hbm, 239, rfl⟩
abbrev main_v191 : Ref sig .tc := ⟨.hbm, 240, rfl⟩
abbrev main_cst_37 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_cst_38 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_c_39 : Ref sig .tc := ⟨.hbm, 249, rfl⟩
abbrev main_call2_v0 : Ref sig .tc := ⟨.hbm, 250, rfl⟩
abbrev main_v198 : Ref sig .tc := ⟨.hbm, 251, rfl⟩
abbrev main_v199 : Ref sig .tc := ⟨.hbm, 252, rfl⟩

abbrev nD : Nat := 1
abbrev τ : Topo := Topo.v7x

variable {F : FTy → Type} [FloatOps F]
-- ==== UpBwd.lean ====
abbrev S8192x4096 : Shape := ⟨2, ![8192, 4096]⟩
abbrev S8192x1024 : Shape := ⟨2, ![8192, 1024]⟩
abbrev S1024x4096 : Shape := ⟨2, ![1024, 4096]⟩
abbrev S1x1024 : Shape := ⟨2, ![1, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S1024x4096, .f32⟩
  | .hbm, ⟨3, _⟩ => ⟨S8192x1024, .f32⟩
  | .hbm, ⟨4, _⟩ => ⟨S1x1024, .f32⟩
  | .hbm, ⟨5, _⟩ => ⟨S8192x4096, .bf16⟩
  | .hbm, ⟨6, _⟩ => ⟨S1024x4096, .bf16⟩
  | .hbm, ⟨7, _⟩ => ⟨S8192x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v84 : BitVec 1 := Scalar.cmpi .eq arg0 c0_i32
  let v85 : BitVec 32 := Scalar.extui v84
  let c0_i32_35 : BitVec 32 := 0#32
  let v86 : BitVec 1 := Scalar.cmpi .ne v85 c0_i32_35
  v86

def k0_cond2 (i : grid0.Coords) : BitVec 1 :=
  let arg0 : BitVec 32 := BitVec.ofNat 32 (i 0).val
  let c0_i32_36 : BitVec 32 := 0#32
  let v87 : BitVec 1 := Scalar.cmpi .sgt arg0 c0_i32_36
  let v88 : BitVec 32 := Scalar.extui v87
  let c0_i32_37 : BitVec 32 := 0#32
  let v89 : BitVec 1 := Scalar.cmpi .ne v88 c0_i32_37
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpRefIdeal.lean ====
abbrev S8192x4096 : Shape := ⟨2, ![8192, 4096]⟩
abbrev S8192x1024 : Shape := ⟨2, ![8192, 1024]⟩
abbrev S1024x4096 : Shape := ⟨2, ![1024, 4096]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S1024x4096, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InBwd.lean ====
abbrev S8192x768 : Shape := ⟨2, ![8192, 768]⟩
abbrev S8192x1792 : Shape := ⟨2, ![8192, 1792]⟩
abbrev S8192x1024 : Shape := ⟨2, ![8192, 1024]⟩
abbrev S1024x2560 : Shape := ⟨2, ![1024, 2560]⟩
abbrev S1x1024 : Shape := ⟨2, ![1, 1024]⟩
abbrev S1024x768 : Shape := ⟨2, ![1024, 768]⟩
abbrev S1024x1792 : Shape := ⟨2, ![1024, 1792]⟩
abbrev S512x768 : Shape := ⟨2, ![512, 768]⟩
abbrev S512x1792 : Shape := ⟨2, ![512, 1792]⟩
abbrev S512x1024 : Shape := ⟨2, ![512, 1024]⟩
abbrev S256x768 : Shape := ⟨2, ![256, 768]⟩
abbrev S256x1792 : Shape := ⟨2, ![256, 1792]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S8192x1792, .f32⟩
  | .hbm, ⟨2, _⟩ => ⟨S8192x1024, .f32⟩
  | .hbm, ⟨3, _⟩ => ⟨S1024x2560, .f32⟩
  | .hbm, ⟨4, _⟩ => ⟨S8192x1024, .f32⟩
  | .hbm, ⟨5, _⟩ => ⟨S1x1024, .f32⟩
  | .hbm, ⟨6, _⟩ => ⟨S1024x2560, .bf16⟩
  | .hbm, ⟨7, _⟩ => ⟨S8192x768, .bf16⟩
  | .hbm, ⟨8, _⟩ => ⟨S8192x1792, .bf16⟩
  | .hbm, ⟨9, _⟩ => ⟨S1024x768, .bf16⟩
  | .hbm, ⟨10, _⟩ => ⟨S1024x1792, .bf16⟩
  | .hbm, ⟨11, _⟩ => ⟨S8192x1024, .f32⟩
  | .hbm, ⟨12, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x1792, .bf16⟩
  | .local _ .vmem, ⟨3, _⟩ => ⟨S512x1792, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x768, .bf16⟩
  | .local _ .vmem, ⟨9, _⟩ => ⟨S1024x1792, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let v95 : BitVec 32 := Scalar.extui v94
  let c0_i32_43 : BitVec 32 := 0#32
  let v96 : BitVec 1 := Scalar.cmpi .ne v95 c0_i32_43
  v96

def k0_cond2 (i : grid0.Coords) : BitVec 1 :=
  let arg0 : BitVec 32 := BitVec.ofNat 32 (i 0).val
  let c0_i32_44 : BitVec 32 := 0#32
  let v97 : BitVec 1 := Scalar.cmpi .sgt arg0 c0_i32_44
  let v98 : BitVec 32 := Scalar.extui v97
  let c0_i32_45 : BitVec 32 := 0#32
  let v99 : BitVec 1 := Scalar.cmpi .ne v98 c0_i32_45
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InRefIdeal.lean ====
abbrev S8192x768 : Shape := ⟨2, ![8192, 768]⟩
abbrev S8192x1792 : Shape := ⟨2, ![8192, 1792]⟩
abbrev S8192x1024 : Shape := ⟨2, ![8192, 1024]⟩
abbrev S1024x2560 : Shape := ⟨2, ![1024, 2560]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩

abbrev nBuf : Space → Nat
  | .hbm => 57
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x1792, .f32⟩
  | .hbm, ⟨2, _⟩ => ⟨S8192x1024, .f32⟩
  | .hbm, ⟨3, _⟩ => ⟨S1024x2560, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2560, .f32⟩
  | .hbm, ⟨28, _⟩ => ⟨S8192x2560, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== LossBwd.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .bf16⟩
  | .hbm, ⟨6, _⟩ => ⟨S4096x1024, .bf16⟩
  | .hbm, ⟨7, _⟩ => ⟨S8192x1024, .f32⟩
  | .hbm, ⟨8, _⟩ => ⟨S1x128, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x128, .f32⟩
  | .local _ .vmem, ⟨11, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v117 : BitVec 1 := Scalar.cmpi .eq arg0 c0_i32
  let v118 : BitVec 32 := Scalar.extui v117
  let c0_i32_45 : BitVec 32 := 0#32
  let v119 : BitVec 1 := Scalar.cmpi .ne v118 c0_i32_45
  v119

def k0_cond2 (i : grid0.Coords) : BitVec 1 :=
  let arg0 : BitVec 32 := BitVec.ofNat 32 (i 0).val
  let c0_i32_46 : BitVec 32 := 0#32
  let v120 : BitVec 1 := Scalar.cmpi .sgt arg0 c0_i32_46
  let v121 : BitVec 32 := Scalar.extui v120
  let c0_i32_47 : BitVec 32 := 0#32
  let v122 : BitVec 1 := Scalar.cmpi .ne v121 c0_i32_47
  v122

def k0_cond3 (i : grid0.Coords) : BitVec 1 :=
  let arg0 : BitVec 32 := BitVec.ofNat 32 (i 0).val
  let c0_i32_48 : BitVec 32 := 0#32
  let v123 : BitVec 1 := Scalar.cmpi .eq arg0 c0_i32_48
  let v124 : BitVec 32 := Scalar.extui v123
  let c0_i32_49 : BitVec 32 := 0#32
  let v125 : BitVec 1 := Scalar.cmpi .ne v124 c0_i32_49
  v125

def k0_cond4 (i : grid0.Coords) : BitVec 1 :=
  let arg0 : BitVec 32 := BitVec.ofNat 32 (i 0).val
  let c0_i32_50 : BitVec 32 := 0#32
  let v126 : BitVec 1 := Scalar.cmpi .sgt arg0 c0_i32_50
  let v127 : BitVec 32 := Scalar.extui v126
  let c0_i32_51 : BitVec 32 := 0#32
  let v128 : BitVec 1 := Scalar.cmpi .ne v127 c0_i32_51
  v128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1x128, .f32⟩
  | .hbm, ⟨77, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== PostBwd.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S512x512 : Shape := ⟨2, ![512, 512]⟩
abbrev S_ : Shape := ⟨0, ![]⟩
abbrev S512x1024 : Shape := ⟨2, ![512, 1024]⟩
abbrev S256x1024 : Shape := ⟨2, ![256, 1024]⟩
abbrev S256x512 : Shape := ⟨2, ![256, 512]⟩
abbrev S512 : Shape := ⟨1, ![512]⟩

abbrev nBuf : Space → Nat
  | .hbm => 62
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1024x1024, .f32⟩
  | .hbm, ⟨10, _⟩ => ⟨S1024x1024, .bf16⟩
  | .hbm, ⟨11, _⟩ => ⟨S512x512, .i32⟩
  | .hbm, ⟨12, _⟩ => ⟨S_, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i1⟩
  | .hbm, ⟨20, _⟩ => ⟨S512x512, .i32⟩
  | .hbm, ⟨21, _⟩ => ⟨S512x512, .i32⟩
  | .hbm, ⟨22, _⟩ => ⟨S_, .i32⟩
  | .hbm, ⟨23, _⟩ => ⟨S512x512, .i32⟩
  | .hbm, ⟨24, _⟩ => ⟨S512x512, .i1⟩
  | .hbm, ⟨25, _⟩ => ⟨S512x512, .i1⟩
  | .hbm, ⟨26, _⟩ => ⟨S_, .i32⟩
  | .hbm, ⟨27, _⟩ => ⟨S512x512, .i32⟩
  | .hbm, ⟨28, _⟩ => ⟨S512x512, .i32⟩
  | .hbm, ⟨29, _⟩ => ⟨S512x512, .i32⟩
  | .hbm, ⟨30, _⟩ => ⟨S512x512, .i32⟩
  | .hbm, ⟨31, _⟩ => ⟨S_, .i32⟩
  | .hbm, ⟨32, _⟩ => ⟨S_, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S_, .i32⟩
  | .hbm, ⟨37, _⟩ => ⟨S512x512, .i32⟩
  | .hbm, ⟨38, _⟩ => ⟨S512x512, .i1⟩
  | .hbm, ⟨39, _⟩ => ⟨S512x512, .i32⟩
  | .hbm, ⟨40, _⟩ => ⟨S512x512, .i32⟩
  | .hbm, ⟨41, _⟩ => ⟨S_, .i32⟩
  | .hbm, ⟨42, _⟩ => ⟨S512x512, .i32⟩
  | .hbm, ⟨43, _⟩ => ⟨S512x512, .i1⟩
  | .hbm, ⟨44, _⟩ => ⟨S512x512, .i1⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S512x512, .bf16⟩
  | .hbm, ⟨51, _⟩ => ⟨S512x1024, .bf16⟩
  | .hbm, ⟨52, _⟩ => ⟨S512x1024, .bf16⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S1x512, .f32⟩
  | .hbm, ⟨60, _⟩ => ⟨S1x512, .f32⟩
  | .hbm, ⟨61, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S1x512, .f32⟩
  | .local _ .vmem, ⟨31, _⟩ => ⟨S1x512, .f32⟩
  | .local _ .vmem, ⟨32, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v2 : Ref sig .tc := ⟨.hbm, 29, rfl⟩
abbrev main_v3 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9_0 : Ref sig .tc := ⟨.hbm, 53, rfl⟩
abbrev main_v9_1 : Ref sig .tc := ⟨.hbm, 54, rfl⟩
abbrev main_v9_2 : Ref sig .tc := ⟨.hbm, 55, rfl⟩
abbrev main_v9_3 : Ref sig .tc := ⟨.hbm, 56, rfl⟩
abbrev main_v9_4 : Ref sig .tc := ⟨.hbm, 57, rfl⟩
abbrev main_v9_5 : Ref sig .tc := ⟨.hbm, 58, rfl⟩
abbrev main_v9_6 : Ref sig .tc := ⟨.hbm, 59, rfl⟩
abbrev main_v9_7 : Ref sig .tc := ⟨.hbm, 60, rfl⟩
abbrev main_v9_8 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v236 : BitVec 1 := Scalar.cmpi .eq arg0 c0_i32
  let v237 : BitVec 32 := Scalar.extui v236
  let c0_i32_105 : BitVec 32 := 0#32
  let v238 : BitVec 1 := Scalar.cmpi .ne v237 c0_i32_105
  v238

def k0_cond2 (i : grid0.Coords) : BitVec 1 :=
  let arg0 : BitVec 32 := BitVec.ofNat 32 (i 0).val
  let c0_i32_106 : BitVec 32 := 0#32
  let v239 : BitVec 1 := Scalar.cmpi .sgt arg0 c0_i32_106
  let v240 : BitVec 32 := Scalar.extui v239
  let c0_i32_107 : BitVec 32 := 0#32
  let v241 : BitVec 1 := Scalar.cmpi .ne v240 c0_i32_107
  v241

def k0_cond3 (i : grid0.Coords) : BitVec 1 :=
  let arg0 : BitVec 32 := BitVec.ofNat 32 (i 0).val
  let c0_i32_108 : BitVec 32 := 0#32
  let v242 : BitVec 1 := Scalar.cmpi .eq arg0 c0_i32_108
  let v243 : BitVec 32 := Scalar.extui v242
  let c0_i32_109 : BitVec 32 := 0#32
  let v244 : BitVec 1 := Scalar.cmpi .ne v243 c0_i32_109
  v244

def k0_cond4 (i : grid0.Coords) : BitVec 1 :=
  let arg0 : BitVec 32 := BitVec.ofNat 32 (i 0).val
  let c0_i32_110 : BitVec 32 := 0#32
  let v245 : BitVec 1 := Scalar.cmpi .sgt arg0 c0_i32_110
  let v246 : BitVec 32 := Scalar.extui v245
  let c0_i32_111 : BitVec 32 := 0#32
  let v247 : BitVec 1 := Scalar.cmpi .ne v246 c0_i32_111
  v247

def k0_cond5 (i : grid0.Coords) : BitVec 1 :=
  let arg0 : BitVec 32 := BitVec.ofNat 32 (i 0).val
  let c0_i32_112 : BitVec 32 := 0#32
  let v248 : BitVec 1 := Scalar.cmpi .eq arg0 c0_i32_112
  let v249 : BitVec 32 := Scalar.extui v248
  let c0_i32_113 : BitVec 32 := 0#32
  let v250 : BitVec 1 := Scalar.cmpi .ne v249 c0_i32_113
  v250

def k0_cond6 (i : grid0.Coords) : BitVec 1 :=
  let arg0 : BitVec 32 := BitVec.ofNat 32 (i 0).val
  let c0_i32_114 : BitVec 32 := 0#32
  let v251 : BitVec 1 := Scalar.cmpi .sgt arg0 c0_i32_114
  let v252 : BitVec 32 := Scalar.extui v251
  let c0_i32_115 : BitVec 32 := 0#32
  let v253 : BitVec 1 := Scalar.cmpi .ne v252 c0_i32_115
  v253

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== PostRefIdeal.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S_ : Shape := ⟨0, ![]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩
abbrev S8x64 : Shape := ⟨2, ![8, 64]⟩
abbrev S1x8x64 : Shape := ⟨3, ![1, 8, 64]⟩

abbrev nBuf : Space → Nat
  | .hbm => 149
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S1x512, .f32⟩
  | 7 => ⟨S1x512, .f32⟩
  | 8 => ⟨S1x512, .f32⟩
  | 9 => ⟨S1024x1024, .f32⟩
  | 10 => ⟨S_, .f32⟩
  | 11 => ⟨S8192x512, .f32⟩
  | 12 => ⟨S512, .f32⟩
  | 13 => ⟨S512, .f32⟩
  | 14 => ⟨S512, .f32⟩
  | 15 => ⟨S8192x8x64, .f32⟩
  | 16 => ⟨S8192x8x64, .f32⟩
  | 17 => ⟨S8192x8x64, .f32⟩
  | 18 => ⟨S8192x8x64, .f32⟩
  | 19 => ⟨S_, .f32⟩
  | 20 => ⟨S8192x8, .f32⟩
  | 21 => ⟨S8192x8x1, .f32⟩
  | 22 => ⟨S_, .f32⟩
  | 23 => ⟨S8192x8x1, .f32⟩
  | 24 => ⟨S8192x8x1, .f32⟩
  | 25 => ⟨S8192x8x64, .f32⟩
  | 26 => ⟨S8192x8x64, .f32⟩
  | 27 => ⟨S8192x8x64, .f32⟩
  | 28 => ⟨S_, .f32⟩
  | 29 => ⟨S8192x8x64, .f32⟩
  | 30 => ⟨S8192x8x64, .f32⟩
  | 31 => ⟨S_, .f32⟩
  | 32 => ⟨S8192x8, .f32⟩
  | 33 => ⟨S8192x8x1, .f32⟩
  | 34 => ⟨S_, .f32⟩
  | 35 => ⟨S8192x8x1, .f32⟩
  | 36 => ⟨S8192x8x1, .f32⟩
  | 37 => ⟨S8192x8x64, .f32⟩
  | 38 => ⟨S8192x8x64, .f32⟩
  | 39 => ⟨S_, .f32⟩
  | 40 => ⟨S8192x8x1, .f32⟩
  | 41 => ⟨S8192x8x1, .f32⟩
  | 42 => ⟨S8192x8x1, .f32⟩
  | 43 => ⟨S8192x8x1, .f32⟩
  | 44 => ⟨S_, .f32⟩
  | 45 => ⟨S8192x8x1, .f32⟩
  | 46 => ⟨S8192x8x1, .f32⟩
  | 47 => ⟨S8192x8x64, .f32⟩
  | 48 => ⟨S8192x8x64, .f32⟩
  | 49 => ⟨S8192x512, .f32⟩
  | 50 => ⟨S1x512, .f32⟩
  | 51 => ⟨S8192x512, .f32⟩
  | 52 => ⟨S8192x512, .f32⟩
  | 53 => ⟨S1x512, .f32⟩
  | 54 => ⟨S8192x512, .f32⟩
  | 55 => ⟨S8192x512, .f32⟩
  | 56 => ⟨S8192x8x64, .f32⟩
  | 57 => ⟨S8x64, .f32⟩
  | 58 => ⟨S1x8x64, .f32⟩
  | 59 => ⟨S8192x8x64, .f32⟩
  | 60 => ⟨S8192x8x64, .f32⟩
  | 61 => ⟨S_, .f32⟩
  | 62 => ⟨S8192x8, .f32⟩
  | 63 => ⟨S8192x8x1, .f32⟩
  | 64 => ⟨S8192x8x64, .f32⟩
  | 65 => ⟨S8192x8x64, .f32⟩
  | 66 => ⟨S8192x512, .f32⟩
  | 67 => ⟨S8192x512, .f32⟩
  | 68 => ⟨S8192x512, .f32⟩
  | 69 => ⟨S8192x1024, .f32⟩
  | 70 => ⟨S8192x1024, .f32⟩
  | 71 => ⟨S8192x1024, .f32⟩
  | 72 => ⟨S8192x512, .f32⟩
  | 73 => ⟨S8192x512, .f32⟩
  | 74 => ⟨S8192x512, .f32⟩
  | 75 => ⟨S8192x512, .f32⟩
  | 76 => ⟨S8192x8x64, .f32⟩
  | 77 => ⟨S8192x8x64, .f32⟩
  | 78 => ⟨S8192x8x64, .f32⟩
  | 79 => ⟨S8192x8x64, .f32⟩
  | 80 => ⟨S_, .f32⟩
  | 81 => ⟨S8192x8, .f32⟩
  | 82 => ⟨S8192x8x1, .f32⟩
  | 83 => ⟨S_, .f32⟩
  | 84 => ⟨S8192x8, .f32⟩
  | 85 => ⟨S8192x8x64, .f32⟩
  | 86 => ⟨S8192x8x64, .f32⟩
  | 87 => ⟨S_, .f32⟩
  | 88 => ⟨S8x64, .f32⟩
  | 89 => ⟨S1x8x64, .f32⟩
  | 90 => ⟨S8192x8x64, .f32⟩
  | 91 => ⟨S8192x8x64, .f32⟩
  | 92 => ⟨S_, .f32⟩
  | 93 => ⟨S8x64, .f32⟩
  | 94 => ⟨S512, .f32⟩
  | 95 => ⟨S8192x8x64, .f32⟩
  | 96 => ⟨S8192x8x64, .f32⟩
  | 97 => ⟨S_, .f32⟩
  | 98 => ⟨S512, .f32⟩
  | 99 => ⟨S1x512, .f32⟩
  | 100 => ⟨S_, .f32⟩
  | 101 => ⟨S512, .f32⟩
  | 102 => ⟨S8192x512, .f32⟩
  | 103 => ⟨S_, .f32⟩
  | 104 => ⟨S512, .f32⟩
  | 105 => ⟨S1x512, .f32⟩
  | 106 => ⟨S8192x512, .f32⟩
  | 107 => ⟨S8192x512, .f32⟩
  | 108 => ⟨S_, .f32⟩
  | 109 => ⟨S512, .f32⟩
  | 110 => ⟨S8192x8x64, .f32⟩
  | 111 => ⟨S8192x8x64, .f32⟩
  | 112 => ⟨S_, .f32⟩
  | 113 => ⟨S8192x8, .f32⟩
  | 114 => ⟨S8192x8x1, .f32⟩
  | 115 => ⟨S8192x8x64, .f32⟩
  | 116 => ⟨S8192x8x64, .f32⟩
  | 117 => ⟨S8192x8x1, .f32⟩
  | 118 => ⟨S8192x8x64, .f32⟩
  | 119 => ⟨S_, .f32⟩
  | 120 => ⟨S8192x8, .f32⟩
  | 121 => ⟨S8192x8x1, .f32⟩
  | 122 => ⟨S_, .f32⟩
  | 123 => ⟨S8192x8x1, .f32⟩
  | 124 => ⟨S8192x8x1, .f32⟩
  | 125 => ⟨S_, .f32⟩
  | 126 => ⟨S8192x8, .f32⟩
  | 127 => ⟨S8192x8x64, .f32⟩
  | _ => ⟨S8192x1024, .f32⟩

abbrev hbmTy0_1 (i : Nat) : BufTy := match i % 128 with
  | 0 => ⟨S8192x8x64, .f32⟩
  | 1 => ⟨S8192x8x64, .f32⟩
  | 2 => ⟨S_, .f32⟩
  | 3 => ⟨S8192x8, .f32⟩
  | 4 => ⟨S8192x8x1, .f32⟩
  | 5 => ⟨S8192x8x64, .f32⟩
  | 6 => ⟨S8192x8x1, .f32⟩
  | 7 => ⟨S_, .f32⟩
  | 8 => ⟨S8192x8x1, .f32⟩
  | 9 => ⟨S8192x8x1, .f32⟩
  | 10 => ⟨S_, .f32⟩
  | 11 => ⟨S8192x8, .f32⟩
  | 12 => ⟨S8192x8x64, .f32⟩
  | 13 => ⟨S8192x8x64, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S1x512, .f32⟩
  | 20 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_12 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_cst_18 : Ref sig .tc := ⟨.hbm, 122, rfl⟩
abbrev main_v93 : Ref sig .tc := ⟨.hbm, 123, rfl⟩
abbrev main_v94 : Ref sig .tc := ⟨.hbm, 124, rfl⟩
abbrev main_cst_19 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_20 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_21 : Ref sig .tc := ⟨.hbm, 135, rfl⟩
abbrev main_v103 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]
-- ==== ActFwd.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .hbm, ⟨5, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S8192x4096, .bf16⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GradW.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradWRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adam.lean ====
abbrev S8x1024x512 : Shape := ⟨3, ![8, 1024, 512]⟩
abbrev S1024x512 : Shape := ⟨2, ![1024, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamIdeal.lean ====
variable {F : FTy → Type} [FloatOps F] [Named F]
def κ : String → Option EReal := fun
  | "inv_c1" => some ((8388608 / 5463681 : ℝ) : EReal)
  | "inv_c2" => some ((268435456 / 2672307 : ℝ) : EReal)
  | _ => none
-- ==== AdamRefIdeal.lean ====
abbrev S8x1024x512 : Shape := ⟨3, ![8, 1024, 512]⟩
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== MixFwd.lean ====
abbrev S8192x512 : Shape := ⟨2, ![8192, 512]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S512x512 : Shape := ⟨2, ![512, 512]⟩
abbrev S_ : Shape := ⟨0, ![]⟩
abbrev S512x1024 : Shape := ⟨2, ![512, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 58
  | .vmem => 27
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1024x1024, .f32⟩
  | .hbm, ⟨11, _⟩ => ⟨S1x1024, .f32⟩
  | .hbm, ⟨12, _⟩ => ⟨S1024x1024, .bf16⟩
  | .hbm, ⟨13, _⟩ => ⟨S512x512, .i32⟩
  | .hbm, ⟨14, _⟩ => ⟨S_, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i1⟩
  | .hbm, ⟨22, _⟩ => ⟨S512x512, .i32⟩
  | .hbm, ⟨23, _⟩ => ⟨S512x512, .i32⟩
  | .hbm, ⟨24, _⟩ => ⟨S_, .i32⟩
  | .hbm, ⟨25, _⟩ => ⟨S512x512, .i32⟩
  | .hbm, ⟨26, _⟩ => ⟨S512x512, .i1⟩
  | .hbm, ⟨27, _⟩ => ⟨S512x512, .i1⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S_, .i32⟩
  | .hbm, ⟨34, _⟩ => ⟨S_, .i32⟩
  | .hbm, ⟨35, _⟩ => ⟨S512x512, .i32⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S512x512, .i32⟩
  | .hbm, ⟨40, _⟩ => ⟨S512x512, .i1⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S512x512, .i1⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i32⟩
  | .hbm, ⟨51, _⟩ => ⟨S512x512, .i1⟩
  | .hbm, ⟨52, _⟩ => ⟨S512x512, .bf16⟩
  | .hbm, ⟨53, _⟩ => ⟨S512x1024, .bf16⟩
  | .hbm, ⟨54, _⟩ => ⟨S512x1024, .bf16⟩
  | .hbm, ⟨55, _⟩ => ⟨S8192x512, .bf16⟩
  | .hbm, ⟨56, _⟩ => ⟨S8192x1024, .f32⟩
  | .hbm, ⟨57, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S512x512, .bf16⟩
  | .local _ .vmem, ⟨22, _⟩ => ⟨S512x512, .bf16⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v2 : Ref sig .tc := ⟨.hbm, 31, rfl⟩
abbrev main_v3 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9_0 : Ref sig .tc := ⟨.hbm, 55, rfl⟩
abbrev main_v9_1 : Ref sig .tc := ⟨.hbm, 56, rfl⟩
abbrev main_v9_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixRefIdeal.lean ====
abbrev S8192x512 : Shape := ⟨2, ![8192, 512]⟩
abbrev S8192x1024 : Shape := ⟨2, ![8192, 1024]⟩
abbrev S1x512 : Shape := ⟨2, ![1, 512]⟩
abbrev S1024x1024 : Shape := ⟨2, ![1024, 1024]⟩
abbrev S1x1024 : Shape := ⟨2, ![1, 1024]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S512 : Shape := ⟨1, ![512]⟩
abbrev S8x64 : Shape := ⟨2, ![8, 64]⟩
abbrev S1x8x64 : Shape := ⟨3, ![1, 8, 64]⟩
abbrev S1024 : Shape := ⟨1, ![1024]⟩
abbrev S8192 : Shape := ⟨1, ![8192]⟩
abbrev S8192x1 : Shape := ⟨2, ![8192, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1024x1024, .f32⟩
  | .hbm, ⟨11, _⟩ => ⟨S1x1024, .f32⟩
  | .hbm, ⟨12, _⟩ => ⟨S8192x8x64, .f32⟩
  | .hbm, ⟨13, _⟩ => ⟨S8192x8x64, .f32⟩
  | .hbm, ⟨14, _⟩ => ⟨S8192x8x64, .f32⟩
  | .hbm, ⟨15, _⟩ => ⟨S8192x8x64, .f32⟩
  | .hbm, ⟨16, _⟩ => ⟨S_, .f32⟩
  | .hbm, ⟨17, _⟩ => ⟨S8192x8, .f32⟩
  | .hbm, ⟨18, _⟩ => ⟨S8192x8x1, .f32⟩
  | .hbm, ⟨19, _⟩ => ⟨S_, .f32⟩
  | .hbm, ⟨20, _⟩ => ⟨S8192x8x1, .f32⟩
  | .hbm, ⟨21, _⟩ => ⟨S8192x8x1, .f32⟩
  | .hbm, ⟨22, _⟩ => ⟨S8192x8x64, .f32⟩
  | .hbm, ⟨23, _⟩ => ⟨S8192x8x64, .f32⟩
  | .hbm, ⟨24, _⟩ => ⟨S8192x8x64, .f32⟩
  | .hbm, ⟨25, _⟩ => ⟨S_, .f32⟩
  | .hbm, ⟨26, _⟩ => ⟨S8192x8, .f32⟩
  | .hbm, ⟨27, _⟩ => ⟨S8192x8x1, .f32⟩
  | .hbm, ⟨28, _⟩ => ⟨S_, .f32⟩
  | .hbm, ⟨29, _⟩ => ⟨S8192x8x1, .f32⟩
  | .hbm, ⟨30, _⟩ => ⟨S8192x8x1, .f32⟩
  | .hbm, ⟨31, _⟩ => ⟨S8192x8x64, .f32⟩
  | .hbm, ⟨32, _⟩ => ⟨S8192x8x64, .f32⟩
  | .hbm, ⟨33, _⟩ => ⟨S_, .f32⟩
  | .hbm, ⟨34, _⟩ => ⟨S8192x8x1, .f32⟩
  | .hbm, ⟨35, _⟩ => ⟨S8192x8x1, .f32⟩
  | .hbm, ⟨36, _⟩ => ⟨S8192x8x1, .f32⟩
  | .hbm, ⟨37, _⟩ => ⟨S8192x8x64, .f32⟩
  | .hbm, ⟨38, _⟩ => ⟨S8192x8x64, .f32⟩
  | .hbm, ⟨39, _⟩ => ⟨S8192x512, .f32⟩
  | .hbm, ⟨40, _⟩ => ⟨S512, .f32⟩
  | .hbm, ⟨41, _⟩ => ⟨S1x512, .f32⟩
  | .hbm, ⟨42, _⟩ => ⟨S8192x512, .f32⟩
  | .hbm, ⟨43, _⟩ => ⟨S8192x512, .f32⟩
  | .hbm, ⟨44, _⟩ => ⟨S512, .f32⟩
  | .hbm, ⟨45, _⟩ => ⟨S1x512, .f32⟩
  | .hbm, ⟨46, _⟩ => ⟨S8192x512, .f32⟩
  | .hbm, ⟨47, _⟩ => ⟨S8192x512, .f32⟩
  | .hbm, ⟨48, _⟩ => ⟨S8192x8x64, .f32⟩
  | .hbm, ⟨49, _⟩ => ⟨S512, .f32⟩
  | .hbm, ⟨50, _⟩ => ⟨S8x64, .f32⟩
  | .hbm, ⟨51, _⟩ => ⟨S1x8x64, .f32⟩
  | .hbm, ⟨52, _⟩ => ⟨S8192x8x64, .f32⟩
  | .hbm, ⟨53, _⟩ => ⟨S8192x8x64, .f32⟩
  | .hbm, ⟨54, _⟩ => ⟨S_, .f32⟩
  | .hbm, ⟨55, _⟩ => ⟨S8192x8, .f32⟩
  | .hbm, ⟨56, _⟩ => ⟨S8192x8x1, .f32⟩
  | .hbm, ⟨57, _⟩ => ⟨S8192x8x64, .f32⟩
  | .hbm, ⟨58, _⟩ => ⟨S8192x8x64, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x512, .bf16⟩
  | .hbm, ⟨66, _⟩ => ⟨S1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_5 : Ref sig .tc := ⟨.hbm, 68, rfl⟩
abbrev main_v50 : Ref sig .tc := ⟨.hbm, 69, rfl⟩
abbrev main_v51 : Ref sig .tc := ⟨.hbm, 70, rfl⟩
abbrev main_cst_6 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Proof.Down.lean ====
/- The value of `mlp_down_bwd`: the product with the down projection, gated by the squared ReLU's derivative,
   is the reference's gradient. The reference chooses between the product and zero by the sign of `u`; the kernel
   multiplies by `2 max(u, 0)`, which is zero where `u` is not positive. -/
module

public import proofs.«01_k».proof.Defs
public import proofs.«01_k».proof.Proof.Gen.DownBwdIdeal.Value
public import proofs.«01_k».proof.Proof.Gen.DownRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownBwdIdeal.Down

open Cert.DownBwdIdeal Cert.DownBwdIdeal.Gen

variable (m : (ℓ : Loc nD τ sig) → Buf (Elt Ideal) ℓ)

/-- The reference's term over the three arguments. -/
def REF (X : FVec Ideal S8192x1024 .f32) (W : FVec Ideal S4096x1024 .f32) (U : FVec Ideal S8192x4096 .f32) : FVec Ideal S8192x4096 .bf16 :=
  truncf .bf16 (select (cmpf .ogt U (broadcastInDim Cert.DownRefIdeal.S8192x4096 ![] Cert.DownRefIdeal.Gen.bcast_S_S8192x4096 (constant Cert.DownRefIdeal.S_ .f32 0x00000000#32))) (mulf (Host.dotGeneral Cert.DownRefIdeal.dot_S8192x1024_S4096x1024_S8192x4096_1_1_0_0_n_n none X W) (mulf (broadcastInDim Cert.DownRefIdeal.S8192x4096 ![] Cert.DownRefIdeal.Gen.bcast_S_S8192x4096 (constant Cert.DownRefIdeal.S_ .f32 0x40000000#32)) (maximumf U (broadcastInDim Cert.DownRefIdeal.S8192x4096 ![] Cert.DownRefIdeal.Gen.bcast_S_S8192x4096 (constant Cert.DownRefIdeal.S_ .f32 0x00000000#32))))) (broadcastInDim Cert.DownRefIdeal.S8192x4096 ![] Cert.DownRefIdeal.Gen.bcast_S_S8192x4096 (constant Cert.DownRefIdeal.S_ .f32 0x00000000#32))) Cert.DownRefIdeal.Gen.bitsLt_bf16_f32

/-- Every window's block index at a grid point. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ win0_3.index t = ![(grid0.coords t 0).val, (grid0.coords t 1).val] :=
  (by decide +kernel : ∀ t : Fin grid0.N, _)

/-- A product with twice the positive part of `u` is zero unless `u` is positive. -/
theorem gate (a b u : EReal) : a * (b * max u 0) = if 0 < u then a * (b * max u 0) else 0 := by
  split_ifs with h
  · rfl
  · rw [max_eq_right (not_lt.1 h), mul_zero, mul_zero]

/-- What the body stores at a block index is the reference at the array index it stands at. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  refine (gate _ _ _).trans ?_
  blk_point [iblk, V, idx t]

/-- The result array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DownBwdIdeal.Down

namespace Cert.Proof

/-- `mlp_down_bwd` computes the gradient that the reference computes. -/
theorem down_value : Cert.algebraic_DownBwdIdeal_DownRefIdeal := by
  pair_intro
  · run_from Cert.DownBwdIdeal.Gen.run_main m g
  · run_from Cert.DownRefIdeal.Value.run m' g'
    exact (Cert.DownBwdIdeal.Down.final m c).symm

/-- The reference leaves its arguments and the counters as they were. -/
theorem down_ref_frame : Cert.quiescent_DownRefIdeal := fun m g _ =>
  (θ_run Cert.DownRefIdeal.defs _ _).mono (fun r h => ⟨fun c => (h c).2, sem_eq_zero_of_no_sems (by decide) r.2⟩)
    (Cert.DownRefIdeal.Value.run m g)

end Cert.Proof

end
-- ==== Proof.Arr.lean ====
/- Arrays of real numbers: the operations on extended reals, at arrays whose every entry is a real number, are the real ones. -/
module

public import proofs.«01_k».proof.Defs
public import Idealize.ShloMosaic.Lib.Pipeline.ValueKit
public import Idealize.ShloMosaic.Lib.Pointwise

@[expose] public section

noncomputable section

open Idealize.ShloMosaic

namespace Cert.Arr

/-- An array of real numbers. -/
def arr {s : Shape} {φ : FTy} (A : s.Idx → ℝ) : FVec Ideal s φ := fun i => ((A i : ℝ) : EReal)

theorem arr_at {s : Shape} {φ : FTy} (A : s.Idx → ℝ) (i : s.Idx) : (arr A : FVec Ideal s φ) i = ((A i : ℝ) : EReal) := rfl

theorem total {n : ℕ} (f : Fin n → ℝ) : ∑ x, ((f x : ℝ) : EReal) = ((∑ x, f x : ℝ) : EReal) := by
  induction n with
  | zero => simp
  | succ n ih => rw [Fin.sum_univ_succ, Fin.sum_univ_succ, ih, EReal.coe_add]

/-- A number whose magnitude is below plus infinity is real. -/
theorem real_of_finite (x : EReal) (h : FloatOps.cmpf (F := Ideal) (φ := .f32) .olt (FloatOps.absf (F := Ideal) (φ := .f32) x) (FloatOps.ofBits (F := Ideal) .f32 0x7F800000#32) = 1#1) : x = (x.toReal : EReal) := by
  have e : FloatOps.ofBits (F := Ideal) .f32 0x7F800000#32 = (⊤ : EReal) := by show Ideal.ofBits _ _ = _; simp [Ideal.ofBits, Ideal.ieee]
  rw [e] at h
  have h2 : ¬ FloatOps.absf (F := Ideal) (φ := .f32) x = (⊤ : EReal) := fun h3 => by
    rw [h3] at h
    have : Ideal.cmp .olt (⊤ : EReal) ⊤ = 1#1 := h
    simp [Ideal.cmp] at this
  have h4 : ¬ (max x (-x) : EReal) = ⊤ := h2
  induction x with
  | bot => simp at h4
  | top => simp at h4
  | coe r => rfl

variable {s t : Shape} {φ : FTy}

theorem arr_mul (A B : s.Idx → ℝ) : mulf (arr (φ := φ) A) (arr B) = arr (fun i => A i * B i) := by
  funext i; exact (EReal.coe_mul _ _).symm
theorem arr_add (A B : s.Idx → ℝ) : addf (arr (φ := φ) A) (arr B) = arr (fun i => A i + B i) := by
  funext i; exact (EReal.coe_add _ _).symm
theorem arr_sub (A B : s.Idx → ℝ) : subf (arr (φ := φ) A) (arr B) = arr (fun i => A i - B i) := by
  funext i; exact (EReal.coe_sub _ _).symm
theorem arr_trunc (A : s.Idx → ℝ) (h) : truncf (F := Ideal) .bf16 (arr (φ := .f32) A) h = arr A := rfl
theorem arr_ext (A : s.Idx → ℝ) (h) : extf (F := Ideal) .f32 (arr (φ := .bf16) A) h = arr A := rfl
theorem arr_neg (A : s.Idx → ℝ) : Host.negf (arr (φ := φ) A) = arr (fun i => - A i) := by
  funext i; exact (EReal.coe_neg _).symm
theorem arr_cast (A : s.Idx → ℝ) (h) : shapeCast t (arr (φ := φ) A) h = arr (φ := φ) (shapeCast t A h) := rfl
theorem arr_inDim (dims) (h : s.BroadcastsInDim t dims) (A : s.Idx → ℝ) : broadcastInDim t dims h (arr (φ := φ) A) = arr (φ := φ) (broadcastInDim t dims h A) := rfl
theorem arr_to (A : s.Idx → ℝ) (h) : broadcastTo t (arr (φ := φ) A) h = arr (φ := φ) (broadcastTo t A h) := rfl
theorem arr_slice (off) (A : s.Idx → ℝ) (h : s.Slices off t) : extractStridedSlice t off (arr (φ := φ) A) h = arr (φ := φ) (extractStridedSlice t off A h) := rfl

theorem rsqrt_real {a : ℝ} (h : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg h.not_gt, if_neg h.ne']
theorem div_real (a : ℝ) {b : ℝ} (h : b ≠ 0) : Ideal.div ((a : ℝ) : EReal) ((b : ℝ) : EReal) = ((a / b : ℝ) : EReal) := by
  rw [Ideal.div_coe h, ← EReal.coe_mul]
  congr 1; ring
theorem arr_rsqrt (A : s.Idx → ℝ) (h : ∀ i, 0 < A i) : rsqrt (arr (φ := .f32) A) = arr (fun i => (Real.sqrt (A i))⁻¹) := by
  funext i; exact rsqrt_real (h i)
theorem arr_hrsqrt (A : s.Idx → ℝ) (h : ∀ i, 0 < A i) : Host.rsqrt (arr (φ := .f32) A) = arr (fun i => (Real.sqrt (A i))⁻¹) := by
  funext i; exact rsqrt_real (h i)
theorem arr_div (A B : s.Idx → ℝ) (h : ∀ i, 0 < B i) : divf (arr (φ := .f32) A) (arr B) = arr (fun i => A i / B i) := by
  funext i; exact div_real _ (h i).ne'
theorem arr_hdiv (A B : s.Idx → ℝ) (h : ∀ i, 0 < B i) : Host.divf (arr (φ := .f32) A) (arr B) = arr (fun i => A i / B i) := by
  funext i; exact div_real _ (h i).ne'

theorem bits_64 : Ideal.ofBits .f32 0x42800000#32 = ((64 : ℝ) : EReal) := by
  simp [Ideal.ofBits, Ideal.ieee]; rw [← EReal.coe_mul]; norm_num
theorem bits_64th : Ideal.ofBits .f32 0x3C800000#32 = ((1 / 64 : ℝ) : EReal) := by
  simp [Ideal.ofBits, Ideal.ieee]; rw [← EReal.coe_mul]; norm_num
theorem bits_half : Ideal.ofBits .f32 0xBF000000#32 = ((-(1 / 2) : ℝ) : EReal) := by
  simp [Ideal.ofBits, Ideal.ieee]; try (rw [← EReal.coe_mul]; norm_num)
theorem bits_2 : Ideal.ofBits .f32 0x40000000#32 = ((2 : ℝ) : EReal) := by
  simp [Ideal.ofBits, Ideal.ieee]; try (rw [← EReal.coe_mul]; norm_num)
/-- The group norm's small constant. -/
def eps : ℝ := 10995116 * (2 ^ 34)⁻¹
theorem bits_eps : Ideal.ofBits .f32 0x3A27C5AC#32 = ((eps : ℝ) : EReal) := by
  unfold eps
  simp [Ideal.ofBits, Ideal.ieee]
theorem eps_pos : 0 < eps := by unfold eps; positivity

theorem inDim_const (dims) (h : s.BroadcastsInDim t dims) (r : ℝ) : broadcastInDim t dims h (fun _ : s.Idx => r) = fun _ => r := rfl
theorem hdiv_64 (A : s.Idx → ℝ) : Host.divf (arr (φ := .f32) A) (arr (fun _ => 64)) = arr (fun i => A i / 64) := arr_hdiv _ _ fun _ => by norm_num
/-- A mean of squares and a small constant is positive, wherever it is broadcast to. -/
theorem pos_inDim (dims) (h : s.BroadcastsInDim t dims) (A : s.Idx → ℝ) (hA : ∀ j, 0 ≤ A j) (i : t.Idx) : 0 < broadcastInDim t dims h A i / 64 + eps := by
  have h1 : 0 ≤ broadcastInDim t dims h A i := hA _
  have := eps_pos
  positivity

theorem const_0 : constant (F := Ideal) s .f32 0x00000000#32 = arr (fun _ => 0) := by funext i; exact Ideal.ofBits_zero_f32
theorem const_64 : constant (F := Ideal) s .f32 0x42800000#32 = arr (fun _ => 64) := by funext i; exact bits_64
theorem const_half : constant (F := Ideal) s .f32 0xBF000000#32 = arr (fun _ => -(1 / 2)) := by funext i; exact bits_half
theorem const_2 : constant (F := Ideal) s .f32 0x40000000#32 = arr (fun _ => 2) := by funext i; exact bits_2
theorem const_eps : constant (F := Ideal) s .f32 0x3A27C5AC#32 = arr (fun _ => eps) := by funext i; exact bits_eps
theorem splat_0 : broadcast s (Scalar.ofBits (F := Ideal) .f32 0x00000000#32) = arr (fun _ => 0) := by funext i; exact Ideal.ofBits_zero_f32
theorem splat_64th : broadcast s (Scalar.ofBits (F := Ideal) .f32 0x3C800000#32) = arr (fun _ => 1 / 64) := by funext i; exact bits_64th
theorem splat_half : broadcast s (Scalar.ofBits (F := Ideal) .f32 0xBF000000#32) = arr (fun _ => -(1 / 2)) := by funext i; exact bits_half
theorem splat_eps : broadcast s (Scalar.ofBits (F := Ideal) .f32 0x3A27C5AC#32) = arr (fun _ => eps) := by funext i; exact bits_eps

end Cert.Arr

end
-- ==== Proof.SwaMat.lean ====
module
public import proofs.«01_k».proof.Proof.Gen.SwaBwdIdeal.Value
public import Idealize.ShloMosaic.Lib.Pipeline.ValueKit
public import Idealize.ShloMosaic.Lib.Pointwise
public import Idealize.ShloMosaic.Lib.Claim
@[expose] public section
set_option maxRecDepth 16384
noncomputable section
namespace Cert.SwaBwdIdeal.Blk
open Cert.SwaBwdIdeal Cert.SwaBwdIdeal.Gen Idealize.ShloMosaic Idealize.ShloMosaic.TcCoe Idealize.SL.Sem Idealize.ShloMosaic.StableHlo
/-- A matrix of real numbers as an array of two axes. -/
def mat {a b : ℕ} {φ : FTy} (A : Fin a → Fin b → ℝ) : FVec Ideal ⟨2, ![a, b]⟩ φ := fun i => ((A (i 0) (i 1) : ℝ) : EReal)
theorem mat_at {a b : ℕ} {φ : FTy} (A : Fin a → Fin b → ℝ) (i : Fin a) (j : Fin b) : mat (φ := φ) A (ix2 i j) = ((A i j : ℝ) : EReal) := rfl
/-- A block of one layer, as a real matrix. -/
def mat1 {a b : ℕ} {φ : FTy} (A : Fin a → Fin b → ℝ) : FVec Ideal ⟨3, ![1, a, b]⟩ φ := fun i => ((A (i 1) (i 2) : ℝ) : EReal)

def nt {a b n : ℕ} (A : Fin a → Fin n → ℝ) (B : Fin b → Fin n → ℝ) : Fin a → Fin b → ℝ := fun i s => ∑ x, A i x * B s x
def nn {a b n : ℕ} (A : Fin a → Fin n → ℝ) (B : Fin n → Fin b → ℝ) : Fin a → Fin b → ℝ := fun i s => ∑ x, A i x * B x s
def tn {a b n : ℕ} (A : Fin n → Fin a → ℝ) (B : Fin n → Fin b → ℝ) : Fin a → Fin b → ℝ := fun i s => ∑ x, A x i * B x s
def times {a b : ℕ} (A B : Fin a → Fin b → ℝ) : Fin a → Fin b → ℝ := fun i s => A i s * B i s
def plus {a b : ℕ} (A B : Fin a → Fin b → ℝ) : Fin a → Fin b → ℝ := fun i s => A i s + B i s
def minus {a b : ℕ} (A B : Fin a → Fin b → ℝ) : Fin a → Fin b → ℝ := fun i s => A i s - B i s
def rows {a b : ℕ} (r : Fin 1 → Fin b → ℝ) : Fin a → Fin b → ℝ := fun _ s => r 0 s
def cols {a b : ℕ} (r : Fin a → Fin 1 → ℝ) : Fin a → Fin b → ℝ := fun i _ => r i 0
def konst {a b : ℕ} (x : ℝ) : Fin a → Fin b → ℝ := fun _ _ => x
def rowSum {a b : ℕ} (A : Fin a → Fin b → ℝ) : Fin a → Fin 1 → ℝ := fun i _ => ∑ s, A i s
def cat {a b n : ℕ} (A B : Fin a → Fin b → ℝ) : Fin n → Fin b → ℝ := fun s l => if h : s.val < a then A ⟨s.val, h⟩ l else if h' : s.val - a < a then B ⟨s.val - a, h'⟩ l else 0

theorem coe_total {n : ℕ} (f : Fin n → ℝ) : ∑ x, ((f x : ℝ) : EReal) = ((∑ x, f x : ℝ) : EReal) := by
  induction n with
  | zero => simp
  | succ n ih => rw [Fin.sum_univ_succ, Fin.sum_univ_succ, ih, EReal.coe_add]

variable {a b : ℕ} {φ : FTy}
theorem mat_times (A B : Fin a → Fin b → ℝ) : mulf (mat (φ := φ) A) (mat B) = mat (times A B) := by
  funext i; exact (EReal.coe_mul _ _).symm
theorem mat_plus (A B : Fin a → Fin b → ℝ) : addf (mat (φ := φ) A) (mat B) = mat (plus A B) := by
  funext i; exact (EReal.coe_add _ _).symm
theorem mat_minus (A B : Fin a → Fin b → ℝ) : subf (mat (φ := φ) A) (mat B) = mat (minus A B) := by
  funext i; exact (EReal.coe_sub _ _).symm
theorem mat_trunc (A : Fin a → Fin b → ℝ) (h) : truncf (F := Ideal) .bf16 (mat (φ := .f32) A) h = mat (φ := .bf16) A := by
  funext i; rfl
/-- The product of a block with a transposed band. -/
theorem mat_nt (A : Fin 128 → Fin 128 → ℝ) (B : Fin 256 → Fin 128 → ℝ) :
    matmul (F := Ideal) dot_S128x128_S256x128_S128x256_1_1_0_0_n_n none (mat (φ := .bf16) A : FVec Ideal S128x128 .bf16) (mat (φ := .bf16) B : FVec Ideal S256x128 .bf16) (constant S128x256 .f32 0x00000000#32) = mat (φ := .f32) (nt A B) := by
  funext j; idx_vars j
  pointwise [mat, nt]
  simp only [← EReal.coe_mul, coe_total]
theorem mat_nn (A : Fin 128 → Fin 256 → ℝ) (B : Fin 256 → Fin 128 → ℝ) :
    matmul (F := Ideal) dot_S128x256_S256x128_S128x128_1_0_0_1_n_n none (mat (φ := .bf16) A : FVec Ideal S128x256 .bf16) (mat (φ := .bf16) B : FVec Ideal S256x128 .bf16) (constant S128x128 .f32 0x00000000#32) = mat (φ := .f32) (nn A B) := by
  funext j; idx_vars j
  pointwise [mat, nn]
  simp only [← EReal.coe_mul, coe_total]
theorem mat_tn (A : Fin 128 → Fin 256 → ℝ) (B : Fin 128 → Fin 128 → ℝ) :
    matmul (F := Ideal) dot_S128x256_S128x128_S256x128_0_0_1_1_n_n none (mat (φ := .bf16) A : FVec Ideal S128x256 .bf16) (mat (φ := .bf16) B : FVec Ideal S128x128 .bf16) (constant S256x128 .f32 0x00000000#32) = mat (φ := .f32) (tn A B) := by
  funext j; idx_vars j
  pointwise [mat, tn]
  simp only [← EReal.coe_mul, coe_total]
theorem mat_swap (A : Fin 256 → Fin 128 → ℝ) (B : Fin 128 → Fin 128 → ℝ) :
    matmul (F := Ideal) dot_S256x128_S128x128_S256x128_1_0_0_1_n_n none (mat (φ := .bf16) A : FVec Ideal S256x128 .bf16) (mat (φ := .bf16) B : FVec Ideal S128x128 .bf16) (constant S256x128 .f32 0x00000000#32) = mat (φ := .f32) (nn A B) := by
  funext j; idx_vars j
  pointwise [mat, nn]
  simp only [← EReal.coe_mul, coe_total]
theorem eighth : (Ideal.ofBits .f32 0x3E000000#32) = ((1/8 : ℝ) : EReal) := by
  simp [Ideal.ofBits, Ideal.ieee]
  rw [← EReal.coe_mul]; congr 1; norm_num
theorem mat_eighth1 : broadcast S1x128 (Scalar.ofBits (F := Ideal) .f32 0x3E000000#32) = mat (φ := .f32) (konst (1/8)) := by
  funext i; exact eighth
theorem mat_eighth256 : broadcast S256x128 (Scalar.ofBits (F := Ideal) .f32 0x3E000000#32) = mat (φ := .f32) (konst (1/8)) := by
  funext i; exact eighth
theorem mat_zero256 : broadcast S256x128 (Scalar.ofBits (F := Ideal) .f32 0x00000000#32) = mat (φ := .f32) (konst 0) := by
  funext i; exact Ideal.ofBits_zero_f32
theorem mat_zero128 : broadcast S128x128 (Scalar.ofBits (F := Ideal) .f32 0x00000000#32) = mat (φ := .f32) (konst 0) := by
  funext i; exact Ideal.ofBits_zero_f32
theorem mat_cat (A B : Fin 128 → Fin 128 → ℝ) :
    (concatenate (α := Ideal .f32) S256x128 0 [⟨S128x128, mat A⟩, ⟨S128x128, mat B⟩] concatenates_S128x128_S128x128_S256x128_d0) = mat (φ := .f32) (cat A B) := by
  funext j; idx_vars j
  pointwise [mat, cat]
  by_cases h : j0.val < 128
  · simp only [dif_pos h]
  · have h' : j0.val - 128 < 128 := by omega
    simp only [dif_neg h, dif_pos h']
theorem mat_rowSum (A : Fin 128 → Fin 256 → ℝ) : shapeCast S128x1 (multiReduction .add [1] S128 (mat (φ := .f32) A : FVec Ideal S128x256 .f32) 0x00000000#32) shapeCasts_S128_S128x1 = mat (φ := .f32) (rowSum A) := by
  funext j; idx_vars j
  pointwise [mat, rowSum]
  exact coe_total _
theorem mat_colSum (A : Fin 128 → Fin 128 → ℝ) : shapeCast S1x128 (multiReduction .add [0] S128 (mat (φ := .f32) A : FVec Ideal S128x128 .f32) 0x00000000#32) shapeCasts_S128_S1x128 = mat (φ := .f32) (fun _ l => ∑ i, A i l) := by
  funext j; idx_vars j
  pointwise [mat]
  exact coe_total _
theorem mat_rows (A : Fin 1 → Fin 128 → ℝ)  : broadcastTo S128x128 (mat (φ := .f32) A : FVec Ideal S1x128 .f32) broadcasts_S1x128_S128x128 = mat (φ := .f32) (rows A) := by
  funext j; idx_vars j
  pointwise [mat, rows]
theorem mat_cols (A : Fin 128 → Fin 1 → ℝ)  : broadcastTo S128x256 (mat (φ := .f32) A : FVec Ideal S128x1 .f32) broadcasts_S128x1_S128x256 = mat (φ := .f32) (cols A) := by
  funext j; idx_vars j
  pointwise [mat, cols]
theorem mat_cols128 (A : Fin 128 → Fin 1 → ℝ)  : broadcastTo S128x128 (mat (φ := .f32) A : FVec Ideal S128x1 .f32) broadcasts_S128x1_S128x128 = mat (φ := .f32) (cols A) := by
  funext j; idx_vars j
  pointwise [mat, cols]
theorem mat_top (A : Fin 256 → Fin 128 → ℝ) : extractStridedSlice S128x128 ![0, 0] (mat (φ := .f32) A : FVec Ideal S256x128 .f32) slices_S256x128_o0_0_S128x128 = mat (φ := .f32) (fun s l => A ⟨s.val, by omega⟩ l) := by
  funext j; idx_vars j
  pointwise [mat]
theorem mat_bottom (A : Fin 256 → Fin 128 → ℝ) : extractStridedSlice S128x128 ![128, 0] (mat (φ := .f32) A : FVec Ideal S256x128 .f32) slices_S256x128_o128_0_S128x128 = mat (φ := .f32) (fun s l => A ⟨128 + s.val, by omega⟩ l) := by
  funext j; idx_vars j
  pointwise [mat]
/-- The lanes below 64. -/
def half0 : Fin 1 → Fin 128 → ℝ := fun _ l => if l.val < 64 then 1 else 0
/-- The lanes from 64 on. -/
def half1 : Fin 1 → Fin 128 → ℝ := fun _ l => if 64 ≤ l.val then 1 else 0
/-- The permutation that exchanges the two halves of the lanes. -/
def swap : Fin 128 → Fin 128 → ℝ := fun r l => if (r.val + 64) % 128 = l.val then 1 else 0
/-- The indicator of one lane. -/
def lane (h : ℕ) : Fin 1 → Fin 128 → ℝ := fun _ l => if l.val = h then 1 else 0

theorem pick (w : BitVec 1) (p : Prop) [Decidable p] (h : w = if p then 1#1 else 0#1) :
    (Scalar.select w 1 0 : EReal) = ((if p then 1 else 0 : ℝ) : EReal) := by
  subst h; split <;> simp [Scalar.select]
theorem half0W (a : Fin 1) (l : Fin 128) : k0_pay23 (F := Ideal) (ix2 a l) = ((if l.val < 64 then 1 else 0 : ℝ) : EReal) := by
  pointwise [k0_pay23]
  refine pick _ _ ?_
  clear a
  revert l; decide +kernel
theorem pay23 : k0_pay23 (F := Ideal) = mat half0 := by
  funext j; idx_vars j
  exact half0W j0 j1
theorem half1W (a : Fin 1) (l : Fin 128) : k0_pay26 (F := Ideal) (iota Kind.tc S1x128 32 [1] iota_S1x128_d1_w32) (64#32) k0_pay24 k0_pay25 (ix2 a l) = ((if 64 ≤ l.val then 1 else 0 : ℝ) : EReal) := by
  pointwise [k0_pay26, k0_pay24, k0_pay25]
  refine pick _ _ ?_
  clear a
  revert l; decide +kernel
theorem pay26 : k0_pay26 (F := Ideal) (iota Kind.tc S1x128 32 [1] iota_S1x128_d1_w32) (64#32) k0_pay24 k0_pay25 = mat half1 := by
  funext j; idx_vars j
  exact half1W j0 j1
theorem swapW : ∀ a b : Fin 128, k0_pay27 (ix2 a b) = if (a.val + 64) % 128 = b.val then 1#1 else 0#1 := by
  intro a b
  pointwise [k0_pay27]
  revert a b; decide +kernel
theorem pay28 : k0_pay28 (F := Ideal) k0_pay27 = mat swap := by
  funext j; idx_vars j
  pointwise [mat, k0_pay28, swap]
  exact pick _ _ (swapW _ _)

end Cert.SwaBwdIdeal.Blk
end
-- ==== Proof.SwaLoad.lean ====
module
public import proofs.«01_k».proof.Proof.Gen.SwaBwdIdeal.Value
public import Idealize.ShloMosaic.Lib.Pipeline.ValueKit
public import Idealize.ShloMosaic.Lib.Pointwise
public import Idealize.ShloMosaic.Lib.Claim
public import proofs.«01_k».proof.Proof.SwaMat
@[expose] public section
set_option maxRecDepth 16384
noncomputable section
namespace Cert.SwaBwdIdeal.Blk
open Cert.SwaBwdIdeal Cert.SwaBwdIdeal.Gen Idealize.ShloMosaic Idealize.ShloMosaic.TcCoe Idealize.SL.Sem Idealize.ShloMosaic.StableHlo
variable (m : (ℓ : Loc nD τ sig) → Buf (Elt Ideal) ℓ) (c : Dev nD)

/-- The columns of one pair of heads. -/
def pair (q : Fin 128 → Fin 512 → ℝ) (j : Fin 4) : Fin 128 → Fin 128 → ℝ := fun i l => q i ⟨j.val * 128 + l.val, by omega⟩
variable (D : Vec Ideal S1x128x128 .f32) (k : Fin 128 → Fin 128 → ℝ) (hD : ∀ i l, D (ix3 0 i l) = ((k i l : ℝ) : EReal))
include hD
theorem oneLoad : shapeCast S128x128 D shapeCasts_S1x128x128_S128x128 = mat (φ := .f32) k := by
  funext j; idx_vars j
  pointwise [mat]
  exact hD _ _
omit hD
theorem headCast (D : Vec Ideal S1x1x1x128x256 .f32) (p : Fin 128 → Fin 256 → ℝ) (hD : ∀ i l, D (ix5 0 0 0 i l) = ((p i l : ℝ) : EReal)) (h2) :
    shapeCast S128x256 D h2 = mat (φ := .f32) p := by
  funext j; idx_vars j
  pointwise [mat]
  exact hD _ _
theorem pairLoad (B : Vec Ideal S1x128x512 .f32) (q : Fin 128 → Fin 512 → ℝ) (hB : ∀ i l, B (ix3 0 i l) = ((q i l : ℝ) : EReal))
    (o : ℕ) (j : Fin 4) (ho : o = j.val * 128) (h1) : shapeCast S128x128 (View.ld B (Rect.unit (s := S1x128x512) ![0, 0, o] ![1, 128, 128] h1)) shapeCasts_S1x128x128_S128x128 = mat (φ := .f32) (pair q j) := by
  subst ho
  refine oneLoad _ _ fun i l => Eq.trans ?_ (hB i ⟨j.val * 128 + l.val, by omega⟩)
  show B _ = B _
  congr 1
  funext a
  fin_cases a <;> ext <;> simp [Rect.unit]
theorem headLoad (E : Vec Ideal S1x1x8x128x256 .f32) (p : Fin 8 → Fin 128 → Fin 256 → ℝ) (hE : ∀ h i l, E (ix5 0 0 h i l) = ((p h i l : ℝ) : EReal))
    (h : ℕ) (hh : h < 8) (h1) (h2) : shapeCast S128x256 (View.ld E (Rect.unit (s := S1x1x8x128x256) ![0, 0, h, 0, 0] ![1, 1, 1, 128, 256] h1)) h2 = mat (φ := .f32) (p ⟨h, hh⟩) := by
  refine headCast _ _ (fun i l => Eq.trans ?_ (hE ⟨h, hh⟩ i l)) _
  show E _ = E _
  congr 1
  funext a
  fin_cases a <;> ext <;> simp [Rect.unit]
/-- A carried block: one layer of the two that are carried. -/
theorem carryLoad (C : Vec Ideal S2x128x128 .f32) (p : Fin 2 → Fin 128 → Fin 128 → ℝ) (hC : ∀ h i l, C (ix3 h i l) = ((p h i l : ℝ) : EReal))
    (h : ℕ) (hh : h < 2) (h1) : shapeCast S128x128 (View.ld C (Rect.unit (s := S2x128x128) ![h, 0, 0] ![1, 128, 128] h1)) shapeCasts_S1x128x128_S128x128 = mat (φ := .f32) (p ⟨h, hh⟩) := by
  refine oneLoad _ _ (fun i l => Eq.trans ?_ (hC ⟨h, hh⟩ i l))
  show C _ = C _
  congr 1
  funext a
  fin_cases a <;> ext <;> simp [Rect.unit]
theorem mat_up {φ} (A : Fin 128 → Fin 128 → ℝ) : shapeCast S1x128x128 (mat (φ := φ) A : FVec Ideal S128x128 φ) shapeCasts_S128x128_S1x128x128 = mat1 A := by
  funext j; idx_vars j
  pointwise [mat, mat1]
theorem laneW : ∀ (h : Fin 8) (l : Fin 128), IntOp.cmpi CmpIPredicate.eq (BitVec.ofNat 32 l.val) (BitVec.ofNat 32 h.val) = if l.val = h.val then 1#1 else 0#1 := by
  decide +kernel
theorem mat_lane (h : ℕ) (hh : h < 8) : select (α := Ideal .f32) (cmpi .eq (iota Kind.tc S1x128 32 [1] iota_S1x128_d1_w32) (broadcast S1x128 (BitVec.ofNat 32 h))) (broadcast S1x128 (Scalar.ofBits (F := Ideal) .f32 0x3F800000#32)) (broadcast S1x128 (Scalar.ofBits (F := Ideal) .f32 0x00000000#32)) = mat (φ := .f32) (lane h) := by
  funext j; idx_vars j
  pointwise [mat, lane]
  exact pick _ _ (laneW ⟨h, hh⟩ j1)

end Cert.SwaBwdIdeal.Blk
end
-- ==== Proof.SwaReal.lean ====
module
public import proofs.«01_k».proof.Proof.SwaLoad
@[expose] public section
set_option maxRecDepth 16384
noncomputable section
namespace Cert.SwaBwdIdeal.Blk
open Cert.SwaBwdIdeal Cert.SwaBwdIdeal.Gen Idealize.ShloMosaic

/-- A sum over 128 lanes is the sum over its two halves. -/
theorem sum_halves (f : Fin 128 → ℝ) : ∑ l, f l = (∑ x : Fin 64, f ⟨x.val, by omega⟩) + ∑ x : Fin 64, f ⟨64 + x.val, by omega⟩ :=
  Fin.sum_univ_add (a := 64) (b := 64) f

/-- The columns of one query head. -/
def head (f : Fin 128 → Fin 512 → ℝ) (h : Fin 8) : Fin 128 → Fin 64 → ℝ := fun i x => f i ⟨h.val * 64 + x.val, by omega⟩
/-- The columns of the key (or value) head that query head `h` uses. -/
def kvh (K : Fin 256 → Fin 128 → ℝ) (h : Fin 8) : Fin 256 → Fin 64 → ℝ := fun s x => K s ⟨h.val / 4 * 64 + x.val, by omega⟩

section Spec
variable (q d : Fin 128 → Fin 512 → ℝ) (K V : Fin 256 → Fin 128 → ℝ) (p : Fin 8 → Fin 128 → Fin 256 → ℝ)
/-- The gradient of the probabilities. -/
def dpS (h : Fin 8) (i : Fin 128) (s : Fin 256) : ℝ := ∑ x, head d h i x * kvh V h s x
/-- The sum along a row of probability times gradient. -/
def deltaS (h : Fin 8) (i : Fin 128) : ℝ := ∑ s, p h i s * dpS d V h i s
/-- The gradient of the scores. -/
def dsS (h : Fin 8) (i : Fin 128) (s : Fin 256) : ℝ := p h i s * (dpS d V h i s - deltaS d V p h i)
def dqS (i : Fin 128) (h : Fin 8) (x : Fin 64) : ℝ := (∑ s, dsS d V p h i s * kvh K h s x) * (1/8)
/-- The query heads of key head `kv`. -/
def qh (kv : Fin 2) (g : Fin 4) : Fin 8 := ⟨kv.val * 4 + g.val, by omega⟩
def dkS (kv : Fin 2) (s : Fin 256) (x : Fin 64) : ℝ := ∑ g, (∑ i, dsS d V p (qh kv g) i s * head q (qh kv g) i x) * (1/8)
def dvS (kv : Fin 2) (s : Fin 256) (x : Fin 64) : ℝ := ∑ g, ∑ i, p (qh kv g) i s * head d (qh kv g) i x
/-- The two gradients over the band of 256 keys, by lane. -/
def dkB (s : Fin 256) (l : Fin 128) : ℝ := dkS q d V p ⟨l.val / 64, by omega⟩ s ⟨l.val % 64, by omega⟩
def dvB (s : Fin 256) (l : Fin 128) : ℝ := dvS d p ⟨l.val / 64, by omega⟩ s ⟨l.val % 64, by omega⟩
end Spec

theorem nn_swap (A : Fin 256 → Fin 128 → ℝ) (s : Fin 256) (l : Fin 128) : nn A swap s l = A s ⟨(l.val + 64) % 128, by omega⟩ := by
  unfold nn swap
  rw [Finset.sum_eq_single ⟨(l.val + 64) % 128, by omega⟩]
  · rw [if_pos (by show ((l.val + 64) % 128 + 64) % 128 = l.val; omega), mul_one]
  · intro b _ hb
    rw [if_neg, mul_zero]
    intro h
    apply hb; ext; show b.val = (l.val + 64) % 128; omega
  · intro h; exact absurd (Finset.mem_univ _) h
theorem nt_half0 (D : Fin 128 → Fin 128 → ℝ) (U : Fin 256 → Fin 128 → ℝ) (i : Fin 128) (s : Fin 256) :
    nt (times D (rows half0)) U i s = ∑ x : Fin 64, D i ⟨x.val, by omega⟩ * U s ⟨x.val, by omega⟩ := by
  unfold nt; rw [sum_halves]; simp [times, rows, half0]
theorem nt_half1 (D : Fin 128 → Fin 128 → ℝ) (U : Fin 256 → Fin 128 → ℝ) (i : Fin 128) (s : Fin 256) :
    nt (times D (rows half1)) U i s = ∑ x : Fin 64, D i ⟨64 + x.val, by omega⟩ * U s ⟨64 + x.val, by omega⟩ := by
  unfold nt; rw [sum_halves]
  have h : ∀ x : Fin 64, ¬ 64 ≤ x.val := fun x => by omega
  simp [times, rows, half1, h]

/-- The gradient of the scores as a block of the kernel forms it. -/
def dsK (P : Fin 128 → Fin 256 → ℝ) (D : Fin 128 → Fin 128 → ℝ) (U : Fin 256 → Fin 128 → ℝ) : Fin 128 → Fin 256 → ℝ :=
  times P (minus (nt D U) (cols (rowSum (times P (nt D U)))))

variable (q d : Fin 128 → Fin 512 → ℝ) (K V : Fin 256 → Fin 128 → ℝ) (p : Fin 8 → Fin 128 → Fin 256 → ℝ)
/-- The four ways in which a head reaches its key head's lanes. -/
theorem nt_even0 (h : Fin 8) (j : Fin 4) (hj : h.val = 2 * j.val) (hk : h.val / 4 = 0) : nt (times (pair d j) (rows half0)) V = dpS d V h := by
  funext i s; rw [nt_half0]
  refine Finset.sum_congr rfl fun x _ => ?_
  unfold pair head kvh
  congr 2 <;> ext <;> simp <;> omega
theorem nt_odd0 (h : Fin 8) (j : Fin 4) (hj : h.val = 2 * j.val + 1) (hk : h.val / 4 = 0) : nt (times (pair d j) (rows half1)) (nn V swap) = dpS d V h := by
  funext i s; rw [nt_half1]
  refine Finset.sum_congr rfl fun x _ => ?_
  rw [nn_swap]
  unfold pair head kvh
  congr 2 <;> ext <;> simp <;> omega
theorem nt_even1 (h : Fin 8) (j : Fin 4) (hj : h.val = 2 * j.val) (hk : h.val / 4 = 1) : nt (times (pair d j) (rows half0)) (nn V swap) = dpS d V h := by
  funext i s; rw [nt_half0]
  refine Finset.sum_congr rfl fun x _ => ?_
  rw [nn_swap]
  unfold pair head kvh
  congr 2 <;> ext <;> simp <;> omega
theorem nt_odd1 (h : Fin 8) (j : Fin 4) (hj : h.val = 2 * j.val + 1) (hk : h.val / 4 = 1) : nt (times (pair d j) (rows half1)) V = dpS d V h := by
  funext i s; rw [nt_half1]
  refine Finset.sum_congr rfl fun x _ => ?_
  unfold pair head kvh
  congr 2 <;> ext <;> simp <;> omega
theorem rs_dp (h : Fin 8) : rowSum (times (p h) (dpS d V h)) = fun i _ => deltaS d V p h i := rfl
theorem ds_dp (h : Fin 8) : times (p h) (minus (dpS d V h) (cols (fun i _ => deltaS d V p h i))) = dsS d V p h := rfl

/-- The lanes of a pair of heads: below 64 the even head, from there on the odd one. -/
theorem lane_cases (P : Fin 128 → Prop) (h0 : ∀ x : Fin 64, P ⟨x.val, by omega⟩) (h1 : ∀ x : Fin 64, P ⟨64 + x.val, by omega⟩) (l : Fin 128) : P l := by
  by_cases h : l.val < 64
  · exact h0 ⟨l.val, h⟩
  · have e : l = ⟨64 + (⟨l.val - 64, by omega⟩ : Fin 64).val, by simp; omega⟩ := by ext; simp; omega
    rw [e]; exact h1 _

/-- One pair's tile of the gradient of the queries, for the pairs of key head 0. -/
theorem tile_dq0 (j : Fin 4) (e o : Fin 8) (he : e.val = 2 * j.val) (ho : o.val = 2 * j.val + 1) (hj : j.val < 2) (i l : Fin 128) :
    plus (times (nn (dsS d V p e) K) (rows (times (konst (1/8)) half0))) (times (nn (dsS d V p o) (nn K swap)) (rows (times (konst (1/8)) half1))) i l
      = dqS d K V p i ⟨(j.val * 128 + l.val) / 64, by omega⟩ ⟨(j.val * 128 + l.val) % 64, by omega⟩ := by
  revert l
  refine lane_cases _ (fun x => ?_) (fun x => ?_)
  · have e1 : (⟨(j.val * 128 + x.val) / 64, by omega⟩ : Fin 8) = e := by ext; simp; omega
    have e2 : (⟨(j.val * 128 + x.val) % 64, by omega⟩ : Fin 64) = x := by ext; simp; omega
    simp only [e1, e2]
    simp [plus, times, rows, konst, half0, half1, nn, dqS, kvh]
    have e3 : e.val / 4 = 0 := by omega
    simp [e3]
  · have e1 : (⟨(j.val * 128 + (64 + x.val)) / 64, by omega⟩ : Fin 8) = o := by ext; simp; omega
    have e2 : (⟨(j.val * 128 + (64 + x.val)) % 64, by omega⟩ : Fin 64) = x := by ext; simp; omega
    simp only [e1, e2]
    simp only [plus, times, rows, konst, half0, half1, dqS, kvh]
    unfold nn
    have e3 : o.val / 4 = 0 := by omega
    have e4 : ∀ s, (∑ r, K s r * swap r ⟨64 + x.val, by omega⟩) = K s ⟨x.val, by omega⟩ := fun s => by
      rw [show (∑ r, K s r * swap r ⟨64 + x.val, by omega⟩) = nn K swap s ⟨64 + x.val, by omega⟩ from rfl, nn_swap]
      congr 1; ext; simp; omega
    simp [e3, e4]
/-- … and for the pairs of key head 1. -/
theorem tile_dq1 (j : Fin 4) (e o : Fin 8) (he : e.val = 2 * j.val) (ho : o.val = 2 * j.val + 1) (hj : 2 ≤ j.val) (i l : Fin 128) :
    plus (times (nn (dsS d V p e) (nn K swap)) (rows (times (konst (1/8)) half0))) (times (nn (dsS d V p o) K) (rows (times (konst (1/8)) half1))) i l
      = dqS d K V p i ⟨(j.val * 128 + l.val) / 64, by omega⟩ ⟨(j.val * 128 + l.val) % 64, by omega⟩ := by
  revert l
  refine lane_cases _ (fun x => ?_) (fun x => ?_)
  · have e1 : (⟨(j.val * 128 + x.val) / 64, by omega⟩ : Fin 8) = e := by ext; simp; omega
    have e2 : (⟨(j.val * 128 + x.val) % 64, by omega⟩ : Fin 64) = x := by ext; simp; omega
    simp only [e1, e2]
    simp only [plus, times, rows, konst, half0, half1, dqS, kvh]
    unfold nn
    have e3 : e.val / 4 = 1 := by omega
    have e4 : ∀ s, (∑ r, K s r * swap r ⟨x.val, by omega⟩) = K s ⟨64 + x.val, by omega⟩ := fun s => by
      rw [show (∑ r, K s r * swap r ⟨x.val, by omega⟩) = nn K swap s ⟨x.val, by omega⟩ from rfl, nn_swap]
      congr 1; ext; simp; omega
    simp [e3, e4]
  · have e1 : (⟨(j.val * 128 + (64 + x.val)) / 64, by omega⟩ : Fin 8) = o := by ext; simp; omega
    have e2 : (⟨(j.val * 128 + (64 + x.val)) % 64, by omega⟩ : Fin 64) = x := by ext; simp; omega
    simp only [e1, e2]
    simp [plus, times, rows, konst, half0, half1, nn, dqS, kvh]
    have e3 : o.val / 4 = 1 := by omega
    simp [e3]

/-- A product of a head's block with one half of a pair of heads. -/
theorem tn_half0 {n : ℕ} (P : Fin 128 → Fin n → ℝ) (D : Fin 128 → Fin 128 → ℝ) (s : Fin n) (x : Fin 64) :
    tn P (times D (rows half0)) s ⟨x.val, by omega⟩ = ∑ i, P i s * D i ⟨x.val, by omega⟩ := by simp [tn, times, rows, half0]
theorem tn_half0' {n : ℕ} (P : Fin 128 → Fin n → ℝ) (D : Fin 128 → Fin 128 → ℝ) (s : Fin n) (x : Fin 64) :
    tn P (times D (rows half0)) s ⟨64 + x.val, by omega⟩ = 0 := by simp [tn, times, rows, half0]
theorem tn_half1 {n : ℕ} (P : Fin 128 → Fin n → ℝ) (D : Fin 128 → Fin 128 → ℝ) (s : Fin n) (x : Fin 64) :
    tn P (times D (rows half1)) s ⟨64 + x.val, by omega⟩ = ∑ i, P i s * D i ⟨64 + x.val, by omega⟩ := by simp [tn, times, rows, half1]
theorem tn_half1' {n : ℕ} (P : Fin 128 → Fin n → ℝ) (D : Fin 128 → Fin 128 → ℝ) (s : Fin n) (x : Fin 64) :
    tn P (times D (rows half1)) s ⟨x.val, by omega⟩ = 0 := by simp [tn, times, rows, half1]

theorem pair_even (f : Fin 128 → Fin 512 → ℝ) (j : Fin 4) (h : Fin 8) (hh : h.val = 2 * j.val) (i : Fin 128) (x : Fin 64) :
    pair f j i ⟨x.val, by omega⟩ = head f h i x := by
  unfold pair head; congr 1; ext; simp; omega
theorem pair_odd (f : Fin 128 → Fin 512 → ℝ) (j : Fin 4) (h : Fin 8) (hh : h.val = 2 * j.val + 1) (i : Fin 128) (x : Fin 64) :
    pair f j i ⟨64 + x.val, by omega⟩ = head f h i x := by
  unfold pair head; congr 1; ext; simp; omega
/-- The band accumulated over the heads: directly for the heads whose half is their key head's, through the exchange of halves for the others. -/
theorem band (w : ℝ) (P : Fin 8 → Fin 128 → Fin 256 → ℝ) (f : Fin 128 → Fin 512 → ℝ) (s : Fin 256) (l : Fin 128) :
    plus (plus (plus (plus (plus (konst 0) (times (tn (P 0) (times (pair f 0) (rows half0))) (konst w))) (times (tn (P 2) (times (pair f 1) (rows half0))) (konst w)))
        (times (tn (P 5) (times (pair f 2) (rows half1))) (konst w))) (times (tn (P 7) (times (pair f 3) (rows half1))) (konst w)))
      (nn (plus (plus (plus (plus (konst 0) (times (tn (P 1) (times (pair f 0) (rows half1))) (konst w))) (times (tn (P 3) (times (pair f 1) (rows half1))) (konst w)))
        (times (tn (P 4) (times (pair f 2) (rows half0))) (konst w))) (times (tn (P 6) (times (pair f 3) (rows half0))) (konst w))) swap) s l
      = ∑ g, (∑ i, P (qh ⟨l.val / 64, by omega⟩ g) i s * head f (qh ⟨l.val / 64, by omega⟩ g) i ⟨l.val % 64, by omega⟩) * w := by
  revert l
  refine lane_cases _ (fun x => ?_) (fun x => ?_)
  · have e1 : (⟨x.val / 64, by omega⟩ : Fin 2) = 0 := by ext; simp
    have e2 : (⟨x.val % 64, by omega⟩ : Fin 64) = x := by ext; simp
    simp only [e1, e2]
    have e3 : (⟨(x.val + 64) % 128, by omega⟩ : Fin 128) = ⟨64 + x.val, by omega⟩ := by ext; simp; omega
    simp only [plus, nn_swap, e3]
    simp only [times, konst, tn_half0, tn_half0', tn_half1, tn_half1', Fin.sum_univ_four, zero_add, zero_mul, add_zero]
    simp only [pair_even f 0 0 rfl, pair_even f 1 2 rfl, pair_odd f 0 1 rfl, pair_odd f 1 3 rfl]
    simp only [show qh 0 0 = 0 from rfl, show qh 0 1 = 1 from rfl, show qh 0 2 = 2 from rfl, show qh 0 3 = 3 from rfl]
    ring
  · have e1 : (⟨(64 + x.val) / 64, by omega⟩ : Fin 2) = 1 := by ext; simp
    have e2 : (⟨(64 + x.val) % 64, by omega⟩ : Fin 64) = x := by ext; simp
    simp only [e1, e2]
    have e3 : (⟨(64 + x.val + 64) % 128, by omega⟩ : Fin 128) = ⟨x.val, by omega⟩ := by ext; simp; omega
    simp only [plus, nn_swap, e3]
    simp only [times, konst, tn_half0, tn_half0', tn_half1, tn_half1', Fin.sum_univ_four, zero_add, zero_mul, add_zero]
    simp only [pair_even f 2 4 rfl, pair_even f 3 6 rfl, pair_odd f 2 5 rfl, pair_odd f 3 7 rfl]
    simp only [show qh 1 0 = 4 from rfl, show qh 1 1 = 5 from rfl, show qh 1 2 = 6 from rfl, show qh 1 3 = 7 from rfl]
    ring
end Cert.SwaBwdIdeal.Blk
end
-- ==== Proof.SwaPoint.lean ====
module
public import proofs.«01_k».proof.Proof.Gen.SwaBwdIdeal.Value
public import Idealize.ShloMosaic.Lib.Pipeline.ValueKit
public import Idealize.ShloMosaic.Lib.Pointwise
public import Idealize.ShloMosaic.Lib.Claim
public import Idealize.ShloMosaic.Lib.Pipeline.ReadBack
public import proofs.«01_k».proof.Proof.SwaReal
@[expose] public section
set_option maxRecDepth 16384
noncomputable section
namespace Cert.SwaBwdIdeal.Blk
open Cert.SwaBwdIdeal Cert.SwaBwdIdeal.Gen Idealize.ShloMosaic Idealize.ShloMosaic.TcCoe Idealize.SL.Sem Idealize.ShloMosaic.StableHlo
variable (m : (ℓ : Loc nD τ sig) → Buf (Elt Ideal) ℓ) (c : Dev nD)

theorem mat_id (A : Fin 1 → Fin 128 → ℝ) (h) : shapeCast S1x128 (mat (φ := .f32) A : FVec Ideal S1x128 .f32) h = mat (φ := .f32) A := by
  funext j; idx_vars j
  pointwise [mat]
/-- Eight columns, each on its own lane. -/
theorem lanes (f : Fin 8 → Fin 128 → ℝ) :
    plus (plus (plus (plus (plus (plus (plus (plus (konst 0) (times (cols (fun i _ => f 0 i)) (rows (lane 0)))) (times (cols (fun i _ => f 1 i)) (rows (lane 1))))
      (times (cols (fun i _ => f 2 i)) (rows (lane 2)))) (times (cols (fun i _ => f 3 i)) (rows (lane 3)))) (times (cols (fun i _ => f 4 i)) (rows (lane 4))))
      (times (cols (fun i _ => f 5 i)) (rows (lane 5)))) (times (cols (fun i _ => f 6 i)) (rows (lane 6)))) (times (cols (fun i _ => f 7 i)) (rows (lane 7)))
      = (fun i (l : Fin 128) => if h : l.val < 8 then f ⟨l.val, h⟩ i else 0 : Fin 128 → Fin 128 → ℝ) := by
  funext i l
  simp only [plus, konst, times, cols, rows, lane]
  by_cases h : l.val < 8
  · rw [dif_pos h]
    obtain ⟨k, hk⟩ : ∃ k : Fin 8, k = ⟨l.val, h⟩ := ⟨_, rfl⟩
    have hl : l.val = k.val := by rw [hk]
    rw [← hk, hl]
    fin_cases k <;> simp
  · rw [dif_neg h]
    simp [show l.val ≠ 0 by omega, show l.val ≠ 1 by omega, show l.val ≠ 2 by omega, show l.val ≠ 3 by omega, show l.val ≠ 4 by omega, show l.val ≠ 5 by omega, show l.val ≠ 6 by omega, show l.val ≠ 7 by omega]
theorem times_one {a b : ℕ} (A : Fin a → Fin b → ℝ) : times A (konst 1) = A := by
  funext i j; simp [times, konst]

variable (t : Fin cfg0.N) (q d : Fin 128 → Fin 512 → ℝ) (kp kc vp vc ps : Fin 128 → Fin 128 → ℝ) (p : Fin 8 → Fin 128 → Fin 256 → ℝ) (cr : Fin 2 → Fin 128 → Fin 128 → ℝ) (ac : Fin 128 → ℝ)
/-- An array of three axes of real numbers. -/
def mat3 {a b e : ℕ} {φ : FTy} (A : Fin a → Fin b → Fin e → ℝ) : FVec Ideal ⟨3, ![a, b, e]⟩ φ := fun i => ((A (i 0) (i 1) (i 2) : ℝ) : EReal)
/-- The sinks' factor of a row, on the first eight lanes. -/
def sinkW (l i : Fin 128) : ℝ := if h : l.val < 8 then deltaS d (cat vp vc) p ⟨l.val, h⟩ i else 0
/-- One row of the block's result: the queries' lanes, then the keys', then the values', the last two with what was carried to them. -/
def out8 (i : Fin 128) (L : Fin 768) : ℝ :=
  if h : L.val < 512 then dqS d (cat kp kc) (cat vp vc) p i ⟨L.val / 64, by omega⟩ ⟨L.val % 64, by omega⟩
  else if h' : L.val < 640 then dkB q d (cat vp vc) p ⟨128 + i.val, by omega⟩ ⟨L.val - 512, by omega⟩ + cr 0 i ⟨L.val - 512, by omega⟩
  else dvB d p ⟨128 + i.val, by omega⟩ ⟨L.val - 640, by omega⟩ + cr 1 i ⟨L.val - 640, by omega⟩
/-- What a block carries to the one before it. -/
def carryS (h : Fin 2) (s l : Fin 128) : ℝ :=
  if h = 0 then dkB q d (cat vp vc) p ⟨s.val, by omega⟩ l else dvB d p ⟨s.val, by omega⟩ l

theorem o_v (i l i' : Fin 128) (L : Fin 768) (hi : i'.val = i.val) (hL : L.val = 640 + l.val) :
    plus (fun s l => ∑ g, ∑ i, p (qh ⟨l.val / 64, by omega⟩ g) i ⟨128 + s.val, by omega⟩ * head d (qh ⟨l.val / 64, by omega⟩ g) i ⟨l.val % 64, by omega⟩) (cr 1) i l
      = out8 q d kp kc vp vc p cr i' L := by
  obtain rfl : i' = i := Fin.ext hi
  have e : ∀ h, (⟨L.val - 640, h⟩ : Fin 128) = l := fun h => Fin.ext (by show L.val - 640 = l.val; omega)
  unfold out8
  rw [dif_neg (by omega), dif_neg (by omega), e]
  rfl
theorem o_k (i l i' : Fin 128) (L : Fin 768) (hi : i'.val = i.val) (hL : L.val = 512 + l.val) :
    plus (fun s l => ∑ g, (∑ i, dsS d (cat vp vc) p (qh ⟨l.val / 64, by omega⟩ g) i ⟨128 + s.val, by omega⟩ * head q (qh ⟨l.val / 64, by omega⟩ g) i ⟨l.val % 64, by omega⟩) * (1/8)) (cr 0) i l
      = out8 q d kp kc vp vc p cr i' L := by
  obtain rfl : i' = i := Fin.ext hi
  have e : ∀ h, (⟨L.val - 512, h⟩ : Fin 128) = l := fun h => Fin.ext (by show L.val - 512 = l.val; omega)
  unfold out8
  rw [dif_neg (by omega), dif_pos (by omega), e]
  rfl
theorem o_q0 (j : Fin 4) (e o : Fin 8) (he : e.val = 2 * j.val) (ho : o.val = 2 * j.val + 1) (hj : j.val < 2) (i l i' : Fin 128) (L : Fin 768) (hi : i'.val = i.val) (hL : L.val = j.val * 128 + l.val) :
    plus (times (nn (dsS d (cat vp vc) p e) (cat kp kc)) (rows (times (konst (1/8)) half0))) (times (nn (dsS d (cat vp vc) p o) (nn (cat kp kc) swap)) (rows (times (konst (1/8)) half1))) i l
      = out8 q d kp kc vp vc p cr i' L := by
  obtain rfl : i' = i := Fin.ext hi
  rw [tile_dq0 d (cat kp kc) (cat vp vc) p j e o he ho hj]
  unfold out8
  rw [dif_pos (by omega)]
  simp only [hL]
theorem o_q1 (j : Fin 4) (e o : Fin 8) (he : e.val = 2 * j.val) (ho : o.val = 2 * j.val + 1) (hj : 2 ≤ j.val) (i l i' : Fin 128) (L : Fin 768) (hi : i'.val = i.val) (hL : L.val = j.val * 128 + l.val) :
    plus (times (nn (dsS d (cat vp vc) p e) (nn (cat kp kc) swap)) (rows (times (konst (1/8)) half0))) (times (nn (dsS d (cat vp vc) p o) (cat kp kc)) (rows (times (konst (1/8)) half1))) i l
      = out8 q d kp kc vp vc p cr i' L := by
  obtain rfl : i' = i := Fin.ext hi
  rw [tile_dq1 d (cat kp kc) (cat vp vc) p j e o he ho hj]
  unfold out8
  rw [dif_pos (by omega)]
  simp only [hL]
theorem carried1 (a b : Fin 128) :
    mat1 (φ := .f32) (fun s l => ∑ g, ∑ i, p (qh ⟨l.val / 64, by omega⟩ g) i ⟨s.val, by omega⟩ * head d (qh ⟨l.val / 64, by omega⟩ g) i ⟨l.val % 64, by omega⟩) (ix3 0 a b)
      = mat3 (φ := .f32) (carryS q d vp vc p) (ix3 1 a b) := rfl
theorem carried0 (a b : Fin 128) :
    mat1 (φ := .f32) (fun s l => ∑ g, (∑ i, dsS d (cat vp vc) p (qh ⟨l.val / 64, by omega⟩ g) i ⟨s.val, by omega⟩ * head q (qh ⟨l.val / 64, by omega⟩ g) i ⟨l.val % 64, by omega⟩) * (1/8)) (ix3 0 a b)
      = mat3 (φ := .f32) (carryS q d vp vc p) (ix3 0 a b) := rfl
/-- One layer of the carried array, as a block of it. -/
theorem layer (h : Fin 2) (s l : Fin 128) (h1) : (Rect.unit (s := S2x128x128) ![h.val, 0, 0] ![1, 128, 128] h1).emb (ix3 0 s l) = ix3 h s l := by
  funext a; fin_cases a <;> ext <;> simp [Rect.unit, Rect.emb]
theorem off_layer {s l : Fin 128} {h1} : (ix3 0 s l : S2x128x128.Idx) ∉ (Rect.unit (s := S2x128x128) ![1, 0, 0] ![1, 128, 128] h1).set := by
  rw [Rect.mem_set_unit]
  intro h
  have := (h 0).1
  simp at this
variable (hq : ∀ i l, (X0_0 m c t : Vec Ideal S1x128x512 .f32) (ix3 0 i l) = ((q i l : ℝ) : EReal))
  (hd : ∀ i l, (iblk m c 5 t : Vec Ideal S1x128x512 .f32) (ix3 0 i l) = ((d i l : ℝ) : EReal))
  (hkp : ∀ i l, (iblk m c 1 t : Vec Ideal S1x128x128 .f32) (ix3 0 i l) = ((kp i l : ℝ) : EReal))
  (hkc : ∀ i l, (iblk m c 2 t : Vec Ideal S1x128x128 .f32) (ix3 0 i l) = ((kc i l : ℝ) : EReal))
  (hvp : ∀ i l, (iblk m c 3 t : Vec Ideal S1x128x128 .f32) (ix3 0 i l) = ((vp i l : ℝ) : EReal))
  (hvc : ∀ i l, (iblk m c 4 t : Vec Ideal S1x128x128 .f32) (ix3 0 i l) = ((vc i l : ℝ) : EReal))
  (hp : ∀ h i l, (iblk m c 6 t : Vec Ideal S1x1x8x128x256 .f32) (ix5 0 0 h i l) = ((p h i l : ℝ) : EReal))
  (hs : ∀ i l, (iblk m c 7 t : Vec Ideal S1x128x128 .f32) (ix3 0 i l) = ((ps i l : ℝ) : EReal))
  (hcr : ¬t.val % 32 = 0 → ∀ h i l, (outsAt0 m c (t.val - 1) (Nat.lt_of_le_of_lt (Nat.sub_le _ _) t.isLt)).2.2 (ix3 h i l) = ((cr h i l : ℝ) : EReal))
  (hcz : t.val % 32 = 0 → cr = fun _ _ _ => 0)
  (hac : ¬t.val % 64 = 0 → (outsAt0 m c (t.val - 1) (Nat.lt_of_le_of_lt (Nat.sub_le _ _) t.isLt)).2.1 = mat (φ := .f32) (fun _ => ac))
  (haz : t.val % 64 = 0 → ac = fun _ => 0)
include hq hd hkp hkc hvp hvc hp hs hcr hcz hac haz

set_option maxHeartbeats 2000000 in
/-- What one block's point leaves: its rows of the result, the sinks' sum and what it carries on. -/
theorem step : (outsAt0 m c t.val t.isLt).1 = mat1 (φ := .bf16) (out8 q d kp kc vp vc p cr) ∧ (outsAt0 m c t.val t.isLt).2.1 = mat (φ := .f32) (fun _ l => ac l - ∑ i, ps i l * sinkW d vp vc p l i) ∧ (outsAt0 m c t.val t.isLt).2.2 = mat3 (φ := .f32) (carryS q d vp vc p) := by
  have q0 : ∀ h1, k0_pay3 (View.ld (X0_0 m c t) (Rect.unit (s := S1x128x512) ![0, 0, 0] ![1, 128, 128] h1)) = mat (φ := .f32) (pair q 0) := fun h1 => pairLoad _ q hq 0 0 rfl h1
  have q1 : ∀ h1, k0_pay4 (View.ld (X0_0 m c t) (Rect.unit (s := S1x128x512) ![0, 0, 128] ![1, 128, 128] h1)) = mat (φ := .f32) (pair q 1) := fun h1 => pairLoad _ q hq 128 1 rfl h1
  have q2 : ∀ h1, k0_pay5 (View.ld (X0_0 m c t) (Rect.unit (s := S1x128x512) ![0, 0, 256] ![1, 128, 128] h1)) = mat (φ := .f32) (pair q 2) := fun h1 => pairLoad _ q hq 256 2 rfl h1
  have q3 : ∀ h1, k0_pay6 (View.ld (X0_0 m c t) (Rect.unit (s := S1x128x512) ![0, 0, 384] ![1, 128, 128] h1)) = mat (φ := .f32) (pair q 3) := fun h1 => pairLoad _ q hq 384 3 rfl h1
  have d0 : ∀ h1, k0_pay7 (View.ld (iblk m c 5 t) (Rect.unit (s := S1x128x512) ![0, 0, 0] ![1, 128, 128] h1)) = mat (φ := .f32) (pair d 0) := fun h1 => pairLoad _ d hd 0 0 rfl h1
  have d1 : ∀ h1, k0_pay8 (View.ld (iblk m c 5 t) (Rect.unit (s := S1x128x512) ![0, 0, 128] ![1, 128, 128] h1)) = mat (φ := .f32) (pair d 1) := fun h1 => pairLoad _ d hd 128 1 rfl h1
  have d2 : ∀ h1, k0_pay9 (View.ld (iblk m c 5 t) (Rect.unit (s := S1x128x512) ![0, 0, 256] ![1, 128, 128] h1)) = mat (φ := .f32) (pair d 2) := fun h1 => pairLoad _ d hd 256 2 rfl h1
  have d3 : ∀ h1, k0_pay10 (View.ld (iblk m c 5 t) (Rect.unit (s := S1x128x512) ![0, 0, 384] ![1, 128, 128] h1)) = mat (φ := .f32) (pair d 3) := fun h1 => pairLoad _ d hd 384 3 rfl h1
  have ekp : k0_pay19 (iblk m c 1 t) = mat (φ := .f32) kp := oneLoad _ kp hkp
  have ekc : k0_pay20 (iblk m c 2 t) = mat (φ := .f32) kc := oneLoad _ kc hkc
  have evp : k0_pay21 (iblk m c 3 t) = mat (φ := .f32) vp := oneLoad _ vp hvp
  have evc : k0_pay22 (iblk m c 4 t) = mat (φ := .f32) vc := oneLoad _ vc hvc
  have c29 : ∀ A B : Fin 128 → Fin 128 → ℝ, k0_pay29 (F := Ideal) (mat (φ := .f32) A) (mat (φ := .f32) B) = mat (φ := .f32) (cat A B) := fun A B => mat_cat A B
  have c30 : ∀ A B : Fin 128 → Fin 128 → ℝ, k0_pay30 (F := Ideal) (mat (φ := .f32) A) (mat (φ := .f32) B) = mat (φ := .f32) (cat A B) := fun A B => mat_cat A B
  have l0 : shapeCast S128x128 (iblk m c 1 t : Vec Ideal S1x128x128 .f32) shapeCasts_S1x128x128_S128x128 = mat (φ := .f32) kp := oneLoad _ kp hkp
  have rs : ∀ (A : Fin 128 → Fin 256 → ℝ) (h1) (h4), shapeCast S128x1 (FloatOps.reduceAdd (F := Ideal) [1] h1 (mat (φ := .f32) A : FVec Ideal S128x256 .f32)) h4 = mat (φ := .f32) (rowSum A) := fun A _ _ => mat_rowSum A
  have cs : ∀ (A : Fin 128 → Fin 128 → ℝ) (h1) (h4), shapeCast S1x128 (FloatOps.reduceAdd (F := Ideal) [0] h1 (mat (φ := .f32) A : FVec Ideal S128x128 .f32)) h4 = mat (φ := .f32) (fun _ l => ∑ i, A i l) := fun A _ _ => mat_colSum A
  have p0 : ∀ h1 h2, shapeCast S128x256 (View.ld (iblk m c 6 t) (Rect.unit (s := S1x1x8x128x256) ![0, 0, 0, 0, 0] ![1, 1, 1, 128, 256] h1)) h2 = mat (φ := .f32) (p 0) := headLoad _ p hp 0 (by decide)
  have p1 : ∀ h1 h2, shapeCast S128x256 (View.ld (iblk m c 6 t) (Rect.unit (s := S1x1x8x128x256) ![0, 0, 1, 0, 0] ![1, 1, 1, 128, 256] h1)) h2 = mat (φ := .f32) (p 1) := headLoad _ p hp 1 (by decide)
  have p2 : ∀ h1 h2, shapeCast S128x256 (View.ld (iblk m c 6 t) (Rect.unit (s := S1x1x8x128x256) ![0, 0, 2, 0, 0] ![1, 1, 1, 128, 256] h1)) h2 = mat (φ := .f32) (p 2) := headLoad _ p hp 2 (by decide)
  have p3 : ∀ h1 h2, shapeCast S128x256 (View.ld (iblk m c 6 t) (Rect.unit (s := S1x1x8x128x256) ![0, 0, 3, 0, 0] ![1, 1, 1, 128, 256] h1)) h2 = mat (φ := .f32) (p 3) := headLoad _ p hp 3 (by decide)
  have p4 : ∀ h1 h2, shapeCast S128x256 (View.ld (iblk m c 6 t) (Rect.unit (s := S1x1x8x128x256) ![0, 0, 4, 0, 0] ![1, 1, 1, 128, 256] h1)) h2 = mat (φ := .f32) (p 4) := headLoad _ p hp 4 (by decide)
  have p5 : ∀ h1 h2, shapeCast S128x256 (View.ld (iblk m c 6 t) (Rect.unit (s := S1x1x8x128x256) ![0, 0, 5, 0, 0] ![1, 1, 1, 128, 256] h1)) h2 = mat (φ := .f32) (p 5) := headLoad _ p hp 5 (by decide)
  have p6 : ∀ h1 h2, shapeCast S128x256 (View.ld (iblk m c 6 t) (Rect.unit (s := S1x1x8x128x256) ![0, 0, 6, 0, 0] ![1, 1, 1, 128, 256] h1)) h2 = mat (φ := .f32) (p 6) := headLoad _ p hp 6 (by decide)
  have p7 : ∀ h1 h2, shapeCast S128x256 (View.ld (iblk m c 6 t) (Rect.unit (s := S1x1x8x128x256) ![0, 0, 7, 0, 0] ![1, 1, 1, 128, 256] h1)) h2 = mat (φ := .f32) (p 7) := headLoad _ p hp 7 (by decide)
  have es : k0_pay114 (iblk m c 7 t) = mat (φ := .f32) ps := oneLoad _ ps hs
  have c0 := fun h0 h1 => carryLoad _ cr (hcr h0) 0 (by decide) h1
  have z0 := fun (h0 : t.val % 32 = 0) h1 => carryLoad (k0_pay1 (F := Ideal)) cr (by rw [hcz h0]; intro h i l; exact Ideal.ofBits_zero_f32) 0 (by decide) h1
  have c1 := fun h0 h1 => carryLoad _ cr (hcr h0) 1 (by decide) h1
  have z1 := fun (h0 : t.val % 32 = 0) h1 => carryLoad (k0_pay1 (F := Ideal)) cr (by rw [hcz h0]; intro h i l; exact Ideal.ofBits_zero_f32) 1 (by decide) h1
  have a0 : t.val % 64 = 0 → k0_pay2 (F := Ideal) = mat (φ := .f32) (fun _ => ac) := fun h0 => by rw [haz h0]; funext i; exact Ideal.ofBits_zero_f32

  have bk := band (1/8) (dsS d (cat vp vc) p) q
  have bv := band 1 p d
  simp only [times_one, mul_one] at bv
  refine ⟨?_, ?_, ?_⟩
  · rcases (show (t.val % 32 = 0 ∧ t.val % 64 = 0) ∨ (¬t.val % 32 = 0 ∧ ¬t.val % 64 = 0) ∨ (t.val % 32 = 0 ∧ ¬t.val % 64 = 0) by omega) with ⟨h0, h1⟩ | ⟨h0, h1⟩ | ⟨h0, h1⟩
    rw [outsAt0_A m c t h0 h1]
    rotate_left
    rw [outsAt0_B m c t h0 h1]
    rotate_left
    rw [outsAt0_C m c t h0 h1]
    all_goals frame_out
    all_goals try rw [View.readCov_fill _ _ _ _ _ (fun a => by fin_cases a <;> rfl), View.readCov_fill _ _ _ _ _ (fun a => by fin_cases a <;> rfl)]
    all_goals try rw [Idealize.ShloMosaic.read_unread_whole]
    all_goals simp only [q0, q1, q2, q3, d0, d1, d2, d3, ekp, ekc, evp, evc, c29, c30, pay23]
    all_goals simp only [k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, multiReduction]
    all_goals rw [pay28, pay26, c30 vp vc, l0, c29 kp kc]
    all_goals simp only [l0, rs, cs, p0, p1, p2, p3, p4, p5, p6, p7, mat_times, mat_lane 0 (by decide), mat_lane 1 (by decide), mat_lane 2 (by decide), mat_lane 3 (by decide), mat_lane 4 (by decide), mat_lane 5 (by decide), mat_lane 6 (by decide), mat_lane 7 (by decide), mat_plus, mat_minus, mat_trunc, mat_nt, mat_nn, mat_tn, mat_swap, mat_eighth1, mat_eighth256, mat_zero256, mat_zero128, mat_cat, mat_rowSum, mat_colSum, mat_rows, mat_cols, mat_cols128, mat_top, mat_bottom, mat_up, z0, z1, c0, c1, h0, not_false_eq_true]
    all_goals simp only [Fin.reduceFinMk, nt_even0 d (cat vp vc) 0 0 rfl rfl, nt_odd0 d (cat vp vc) 1 0 rfl rfl, nt_even0 d (cat vp vc) 2 1 rfl rfl, nt_odd0 d (cat vp vc) 3 1 rfl rfl, nt_even1 d (cat vp vc) 4 2 rfl rfl, nt_odd1 d (cat vp vc) 5 2 rfl rfl, nt_even1 d (cat vp vc) 6 3 rfl rfl, nt_odd1 d (cat vp vc) 7 3 rfl rfl, rs_dp, ds_dp]
    all_goals simp only [bk, bv]
    all_goals funext y
    all_goals canon_tiles x h
    all_goals idx_vars x
    all_goals refine congrArg (fun r : ℝ => (r : EReal)) ?_
    all_goals first
      | exact o_v q d kp kc vp vc p cr x1 x2 (y 1) (y 2) h1 h2
      | exact o_k q d kp kc vp vc p cr x1 x2 (y 1) (y 2) h1 h2
      | exact o_q1 q d kp kc vp vc p cr 3 6 7 rfl rfl (by decide) x1 x2 (y 1) (y 2) h1 h2
      | exact o_q1 q d kp kc vp vc p cr 2 4 5 rfl rfl (by decide) x1 x2 (y 1) (y 2) h1 h2
      | exact o_q0 q d kp kc vp vc p cr 1 2 3 rfl rfl (by decide) x1 x2 (y 1) (y 2) h1 h2
      | exact o_q0 q d kp kc vp vc p cr 0 0 1 rfl rfl (by decide) x1 x2 (y 1) (y 2) h1 (by omega)
  · rcases (show (t.val % 32 = 0 ∧ t.val % 64 = 0) ∨ (¬t.val % 32 = 0 ∧ ¬t.val % 64 = 0) ∨ (t.val % 32 = 0 ∧ ¬t.val % 64 = 0) by omega) with ⟨h0, h1⟩ | ⟨h0, h1⟩ | ⟨h0, h1⟩
    rw [outsAt0_A m c t h0 h1]
    rotate_left
    rw [outsAt0_B m c t h0 h1]
    rotate_left
    rw [outsAt0_C m c t h0 h1]
    all_goals frame_out
    all_goals try rw [a0 h1]
    all_goals try rw [hac h1]
    all_goals simp only [q0, q1, q2, q3, d0, d1, d2, d3, ekp, ekc, evp, evc, c29, c30, pay23, es]
    all_goals simp only [k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, multiReduction]
    all_goals rw [pay28, pay26, c30 vp vc]
    all_goals simp only [l0, rs, cs, p0, p1, p2, p3, p4, p5, p6, p7, mat_times, mat_lane 0 (by decide), mat_lane 1 (by decide), mat_lane 2 (by decide), mat_lane 3 (by decide), mat_lane 4 (by decide), mat_lane 5 (by decide), mat_lane 6 (by decide), mat_lane 7 (by decide), mat_plus, mat_minus, mat_trunc, mat_nt, mat_nn, mat_tn, mat_swap, mat_eighth1, mat_eighth256, mat_zero256, mat_zero128, mat_cat, mat_rowSum, mat_colSum, mat_rows, mat_cols, mat_cols128, mat_top, mat_bottom, mat_up, mat_id]
    all_goals simp only [nt_even0 d (cat vp vc) 0 0 rfl rfl, nt_odd0 d (cat vp vc) 1 0 rfl rfl, nt_even0 d (cat vp vc) 2 1 rfl rfl, nt_odd0 d (cat vp vc) 3 1 rfl rfl, nt_even1 d (cat vp vc) 4 2 rfl rfl, nt_odd1 d (cat vp vc) 5 2 rfl rfl, nt_even1 d (cat vp vc) 6 3 rfl rfl, nt_odd1 d (cat vp vc) 7 3 rfl rfl, rs_dp, ds_dp, lanes]
    all_goals rfl
  · rcases (show (t.val % 32 = 0 ∧ t.val % 64 = 0) ∨ (¬t.val % 32 = 0 ∧ ¬t.val % 64 = 0) ∨ (t.val % 32 = 0 ∧ ¬t.val % 64 = 0) by omega) with ⟨h0, h1⟩ | ⟨h0, h1⟩ | ⟨h0, h1⟩
    rw [outsAt0_A m c t h0 h1]
    rotate_left
    rw [outsAt0_B m c t h0 h1]
    rotate_left
    rw [outsAt0_C m c t h0 h1]
    all_goals frame_out
    all_goals simp only [q0, q1, q2, q3, d0, d1, d2, d3, ekp, ekc, evp, evc, c29, c30, pay23]
    all_goals simp only [k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, multiReduction]
    all_goals rw [pay28, pay26, c30 vp vc]
    all_goals simp only [l0, rs, cs, p0, p1, p2, p3, p4, p5, p6, p7, mat_times, mat_lane 0 (by decide), mat_lane 1 (by decide), mat_lane 2 (by decide), mat_lane 3 (by decide), mat_lane 4 (by decide), mat_lane 5 (by decide), mat_lane 6 (by decide), mat_lane 7 (by decide), mat_plus, mat_minus, mat_trunc, mat_nt, mat_nn, mat_tn, mat_swap, mat_eighth1, mat_eighth256, mat_zero256, mat_zero128, mat_cat, mat_rowSum, mat_colSum, mat_rows, mat_cols, mat_cols128, mat_top, mat_bottom, mat_up]
    all_goals simp only [nt_even0 d (cat vp vc) 0 0 rfl rfl, nt_odd0 d (cat vp vc) 1 0 rfl rfl, nt_even0 d (cat vp vc) 2 1 rfl rfl, nt_odd0 d (cat vp vc) 3 1 rfl rfl, nt_even1 d (cat vp vc) 4 2 rfl rfl, nt_odd1 d (cat vp vc) 5 2 rfl rfl, nt_even1 d (cat vp vc) 6 3 rfl rfl, nt_odd1 d (cat vp vc) 7 3 rfl rfl, rs_dp, ds_dp]
    all_goals simp only [bk, bv]
    all_goals funext y
    all_goals idx_vars y
    all_goals rcases (show y0 = 0 ∨ y0 = 1 by omega) with e | e
    all_goals subst e
    all_goals first
      | rw [← layer 1 y1 y2 inb_S2x128x128_S1x128x128_1_0_0]
        refine (View.canon_cons_emb _ _ _ _).trans ?_
        rw [layer 1 y1 y2 inb_S2x128x128_S1x128x128_1_0_0]
        exact carried1 q d vp vc p y1 y2
      | refine (View.canon_cons_of_not_mem _ _ ?_).trans ?_
        · exact off_layer (h1 := inb_S2x128x128_S1x128x128_1_0_0)
        rw [← layer 0 y1 y2 inb_S2x128x128_S1x128x128_0_0_0]
        refine (View.canon_cons_emb _ _ _ _).trans ?_
        rw [layer 0 y1 y2 inb_S2x128x128_S1x128x128_0_0_0]
        exact carried0 q d vp vc p y1 y2
end Cert.SwaBwdIdeal.Blk
end
-- ==== Proof.SwaBlk.lean ====
/-
  The blocks the attention kernel's point reads, as entries of the arrays they are cut from.
-/
module
public import proofs.«01_k».proof.Proof.SwaPoint
@[expose] public section
set_option maxRecDepth 16384
noncomputable section
namespace Cert.SwaBwdIdeal.Blk
open Cert.SwaBwdIdeal Cert.SwaBwdIdeal.Gen Idealize.ShloMosaic Idealize.ShloMosaic.TcCoe Idealize.SL.Sem
variable (m : (ℓ : Loc nD τ sig) → Buf (Elt Ideal) ℓ) (c : Dev nD) (t : Fin cfg0.N)

theorem idx : ∀ t : Fin cfg0.N, win0_0.index t = ![t.val / 32, 31 - t.val % 32, 0] ∧ win0_1.index t = ![t.val / 32, 31 - t.val % 32 - 1, 4]
    ∧ win0_2.index t = ![t.val / 32, 31 - t.val % 32, 4] ∧ win0_3.index t = ![t.val / 32, 31 - t.val % 32 - 1, 5]
    ∧ win0_4.index t = ![t.val / 32, 31 - t.val % 32, 5] ∧ win0_5.index t = ![t.val / 32, 31 - t.val % 32, 0]
    ∧ win0_6.index t = ![t.val / 32, 31 - t.val % 32, 0, 0, 0] ∧ win0_7.index t = ![t.val / 32, 31 - t.val % 32, 0]
    ∧ win0_8.index t = ![t.val / 32, 31 - t.val % 32, 0] ∧ win0_9.index t = ![0, 0] :=
  (by decide +kernel : ∀ t : Fin grid0.N, _)
theorem t_lt : t.val < 64 := lt_of_lt_of_eq t.isLt N_0

theorem x0 (i : Fin 128) (l : Fin 512) (h1 h2 h3) : (X0_0 m c t : Vec Ideal S1x128x512 .f32) (ix3 0 i l)
    = (m ((c : Thread nD τ).loc main_arg0) : Vec Ideal S2x4096x768 .f32) (ix3 ⟨t.val / 32, h1⟩ ⟨(31 - t.val % 32) * 128 + i.val, h2⟩ ⟨l.val, h3⟩) := by
  unfold X0_0 Pipeline.Window.fill
  rw [dif_pos (moved0_0 t (ix3 0 i l))]
  rw [← V_main_arg0 m c]
  show View.read (Elt Ideal) ((cfg0.win 0).blk t).view (V m c main_arg0) _ = _
  generalize V m c main_arg0 = X
  blk_ext [idx t]
theorem read1 (X : Vec Ideal S2x4096x768 .f32) (i l : Fin 128) (h1 h2 h3) :
    View.read (Elt Ideal) ((cfg0.win 1).blk t).view (X : Buf (Elt Ideal) ((cfg0.win 1).arr.view.loc (c.tc : Thread nD τ))) (ix3 0 i l) = X (ix3 ⟨t.val / 32, h1⟩ ⟨(31 - t.val % 32 - 1) * 128 + i.val, h2⟩ ⟨512 + l.val, h3⟩) := by
  blk_ext [idx t]
theorem x1 (i l : Fin 128) (h1 h2 h3) : (iblk m c 1 t : Vec Ideal S1x128x128 .f32) (ix3 0 i l)
    = (m ((c : Thread nD τ).loc main_arg0) : Vec Ideal S2x4096x768 .f32) (ix3 ⟨t.val / 32, h1⟩ ⟨(31 - t.val % 32 - 1) * 128 + i.val, h2⟩ ⟨512 + l.val, h3⟩) :=
  (read1 t (V m c main_arg0) i l h1 h2 h3).trans (congrFun (V_main_arg0 m c) _)
theorem read2 (X : Vec Ideal S2x4096x768 .f32) (i l : Fin 128) (h1 h2 h3) :
    View.read (Elt Ideal) ((cfg0.win 2).blk t).view (X : Buf (Elt Ideal) ((cfg0.win 2).arr.view.loc (c.tc : Thread nD τ))) (ix3 0 i l) = X (ix3 ⟨t.val / 32, h1⟩ ⟨(31 - t.val % 32) * 128 + i.val, h2⟩ ⟨512 + l.val, h3⟩) := by
  blk_ext [idx t]
theorem x2 (i l : Fin 128) (h1 h2 h3) : (iblk m c 2 t : Vec Ideal S1x128x128 .f32) (ix3 0 i l)
    = (m ((c : Thread nD τ).loc main_arg0) : Vec Ideal S2x4096x768 .f32) (ix3 ⟨t.val / 32, h1⟩ ⟨(31 - t.val % 32) * 128 + i.val, h2⟩ ⟨512 + l.val, h3⟩) :=
  (read2 t (V m c main_arg0) i l h1 h2 h3).trans (congrFun (V_main_arg0 m c) _)
theorem read3 (X : Vec Ideal S2x4096x768 .f32) (i l : Fin 128) (h1 h2 h3) :
    View.read (Elt Ideal) ((cfg0.win 3).blk t).view (X : Buf (Elt Ideal) ((cfg0.win 3).arr.view.loc (c.tc : Thread nD τ))) (ix3 0 i l) = X (ix3 ⟨t.val / 32, h1⟩ ⟨(31 - t.val % 32 - 1) * 128 + i.val, h2⟩ ⟨640 + l.val, h3⟩) := by
  blk_ext [idx t]
theorem x3 (i l : Fin 128) (h1 h2 h3) : (iblk m c 3 t : Vec Ideal S1x128x128 .f32) (ix3 0 i l)
    = (m ((c : Thread nD τ).loc main_arg0) : Vec Ideal S2x4096x768 .f32) (ix3 ⟨t.val / 32, h1⟩ ⟨(31 - t.val % 32 - 1) * 128 + i.val, h2⟩ ⟨640 + l.val, h3⟩) :=
  (read3 t (V m c main_arg0) i l h1 h2 h3).trans (congrFun (V_main_arg0 m c) _)
theorem read4 (X : Vec Ideal S2x4096x768 .f32) (i l : Fin 128) (h1 h2 h3) :
    View.read (Elt Ideal) ((cfg0.win 4).blk t).view (X : Buf (Elt Ideal) ((cfg0.win 4).arr.view.loc (c.tc : Thread nD τ))) (ix3 0 i l) = X (ix3 ⟨t.val / 32, h1⟩ ⟨(31 - t.val % 32) * 128 + i.val, h2⟩ ⟨640 + l.val, h3⟩) := by
  blk_ext [idx t]
theorem x4 (i l : Fin 128) (h1 h2 h3) : (iblk m c 4 t : Vec Ideal S1x128x128 .f32) (ix3 0 i l)
    = (m ((c : Thread nD τ).loc main_arg0) : Vec Ideal S2x4096x768 .f32) (ix3 ⟨t.val / 32, h1⟩ ⟨(31 - t.val % 32) * 128 + i.val, h2⟩ ⟨640 + l.val, h3⟩) :=
  (read4 t (V m c main_arg0) i l h1 h2 h3).trans (congrFun (V_main_arg0 m c) _)
theorem read5 (X : Vec Ideal S2x4096x512 .f32) (i : Fin 128) (l : Fin 512) (h1 h2) :
    View.read (Elt Ideal) ((cfg0.win 5).blk t).view (X : Buf (Elt Ideal) ((cfg0.win 5).arr.view.loc (c.tc : Thread nD τ))) (ix3 0 i l) = X (ix3 ⟨t.val / 32, h1⟩ ⟨(31 - t.val % 32) * 128 + i.val, h2⟩ l) := by
  blk_ext [idx t]
theorem x5 (i : Fin 128) (l : Fin 512) (h1 h2) : (iblk m c 5 t : Vec Ideal S1x128x512 .f32) (ix3 0 i l)
    = (m ((c : Thread nD τ).loc main_arg2) : Vec Ideal S2x4096x512 .f32) (ix3 ⟨t.val / 32, h1⟩ ⟨(31 - t.val % 32) * 128 + i.val, h2⟩ l) :=
  (read5 t (V m c main_arg2) i l h1 h2).trans (congrFun (V_main_arg2 m c) _)
theorem read6 (X : Vec Ideal S2x32x8x128x256 .f32) (h : Fin 8) (i : Fin 128) (s : Fin 256) (h1 h2) :
    View.read (Elt Ideal) ((cfg0.win 6).blk t).view (X : Buf (Elt Ideal) ((cfg0.win 6).arr.view.loc (c.tc : Thread nD τ))) (ix5 0 0 h i s) = X (ix5 ⟨t.val / 32, h1⟩ ⟨31 - t.val % 32, h2⟩ h i s) := by
  blk_ext [idx t]
theorem x6 (h : Fin 8) (i : Fin 128) (s : Fin 256) (h1 h2) : (iblk m c 6 t : Vec Ideal S1x1x8x128x256 .f32) (ix5 0 0 h i s)
    = (V m c main_v97 : Vec Ideal S2x32x8x128x256 .f32) (ix5 ⟨t.val / 32, h1⟩ ⟨31 - t.val % 32, h2⟩ h i s) :=
  read6 t (V m c main_v97) h i s h1 h2
theorem read7 (X : Vec Ideal S2x4096x128 .f32) (i l : Fin 128) (h1 h2) :
    View.read (Elt Ideal) ((cfg0.win 7).blk t).view (X : Buf (Elt Ideal) ((cfg0.win 7).arr.view.loc (c.tc : Thread nD τ))) (ix3 0 i l) = X (ix3 ⟨t.val / 32, h1⟩ ⟨(31 - t.val % 32) * 128 + i.val, h2⟩ l) := by
  blk_ext [idx t]
theorem x7 (i l : Fin 128) (h1 h2) : (iblk m c 7 t : Vec Ideal S1x128x128 .f32) (ix3 0 i l)
    = (V m c main_v101 : Vec Ideal S2x4096x128 .f32) (ix3 ⟨t.val / 32, h1⟩ ⟨(31 - t.val % 32) * 128 + i.val, h2⟩ l) :=
  read7 t (V m c main_v101) i l h1 h2
end Cert.SwaBwdIdeal.Blk
end
-- ==== Proof.SwaHost.lean ====
/-
  The probabilities the attention kernel takes are the reference's, in another shape.
-/
module
public import proofs.«01_k».proof.Proof.Gen.SwaRefIdeal.Run
public import proofs.«01_k».proof.Proof.Gen.SwaBwdIdeal.Value
public import Idealize.ShloMosaic.Lib.Pipeline.ValueKit
public import Idealize.ShloMosaic.Lib.Pointwise
public import Idealize.ShloMosaic.Lib.Claim
public import Idealize.ShloMosaic.Lib.StableHlo.RunRead
@[expose] public section
set_option maxRecDepth 16384
noncomputable section
namespace Cert.SwaBwdIdeal.Math
open Cert.SwaBwdIdeal Cert.SwaBwdIdeal.Gen Idealize.ShloMosaic Idealize.ShloMosaic.TcCoe Idealize.SL.Sem Idealize.ShloMosaic.StableHlo
variable (m : (ℓ : Loc nD τ sig) → Buf (Elt Ideal) ℓ) (c : Dev nD)
variable (W : Valuation Cert.SwaRefIdeal.τ Cert.SwaRefIdeal.sig (Elt Ideal))

/-- The block of zeros the keys are padded with. -/
theorem e7 : upto [hostOps0 (F := Ideal), hostOps0_1, hostOps0_2, hostOps0_3].flatten (fun b => m (c, b)) 9 (Proc.devRef .tc main_v7) = (broadcastInDim S2x128x2x64 ![] bcast_S_S2x128x2x64 (constant (F := Ideal) S_ .f32 0x00000000#32)) := by
  after_reads_simp <;> rfl
/-- The keys, one head at a time. -/
theorem e3 : upto [hostOps0 (F := Ideal), hostOps0_1, hostOps0_2, hostOps0_3].flatten (fun b => m (c, b)) 9 (Proc.devRef .tc main_v3) = (shapeCast _ (extractStridedSlice S2x4096x128 ![0, 0, 512] (m (c, Proc.devRef .tc main_arg0)) slices_S2x4096x768_S2x4096x128_0_0_512) shapeCasts_S2x4096x128_S2x4096x2x64) := by
  after_reads_simp <;> rfl
theorem e10 (h0 : W (Proc.devRef .tc Cert.SwaRefIdeal.main_arg0) = m ((c.tc : Thread nD τ).loc main_arg0)) : upto [hostOps0 (F := Ideal), hostOps0_1, hostOps0_2, hostOps0_3].flatten (fun b => m (c, b)) 13 (Proc.devRef .tc main_v10) = extractStridedSlice S2x32x128x2x64 ![0, 0, 0, 0, 0] (Cert.SwaRefIdeal.Value.res_main_v10 W) Cert.SwaRefIdeal.Gen.slices_S2x33x128x2x64_S2x32x128x2x64_0_0_0_0_0 := by
  after_reads_simp
  rw [e7 m c, e3 m c]
  unfold Cert.SwaRefIdeal.Value.res_main_v10
  rw [h0]; rfl
theorem e11 (h0 : W (Proc.devRef .tc Cert.SwaRefIdeal.main_arg0) = m ((c.tc : Thread nD τ).loc main_arg0)) : upto [hostOps0 (F := Ideal), hostOps0_1, hostOps0_2, hostOps0_3].flatten (fun b => m (c, b)) 13 (Proc.devRef .tc main_v11) = extractStridedSlice S2x32x128x2x64 ![0, 1, 0, 0, 0] (Cert.SwaRefIdeal.Value.res_main_v10 W) Cert.SwaRefIdeal.Gen.slices_S2x33x128x2x64_S2x32x128x2x64_0_1_0_0_0 := by
  after_reads_simp
  rw [e7 m c, e3 m c]
  unfold Cert.SwaRefIdeal.Value.res_main_v10
  rw [h0]; rfl

set_option maxHeartbeats 4000000 in
theorem V97 (h0 : W (Proc.devRef .tc Cert.SwaRefIdeal.main_arg0) = m ((c.tc : Thread nD τ).loc main_arg0)) (h1 : W (Proc.devRef .tc Cert.SwaRefIdeal.main_arg1) = m ((c.tc : Thread nD τ).loc main_arg1)) :
    V m c main_v97 = shapeCast _ (Cert.SwaRefIdeal.Value.res_main_v117 W) shapeCasts_S2x32x2x4x128x256_S2x32x8x128x256 := by
  show after [hostOps0, hostOps0_1, hostOps0_2, hostOps0_3].flatten (fun b => m (c, b)) (Proc.devRef .tc main_v97) = _
  after_reads_simp
  rw [e10 m c W h0, e11 m c W h0]
  change _ = shapeCast _ _ _
  rw [show m (c, Proc.devRef .tc main_arg0) = _ from h0.symm, show m (c, Proc.devRef .tc main_arg1) = _ from h1.symm]
  rfl
set_option maxHeartbeats 4000000 in
theorem V96 (h0 : W (Proc.devRef .tc Cert.SwaRefIdeal.main_arg0) = m ((c.tc : Thread nD τ).loc main_arg0)) (h1 : W (Proc.devRef .tc Cert.SwaRefIdeal.main_arg1) = m ((c.tc : Thread nD τ).loc main_arg1)) :
    V m c main_v96 = Host.divf (Cert.SwaRefIdeal.Value.res_main_v112 W) (Cert.SwaRefIdeal.Value.res_main_v115 W) := by
  show after [hostOps0, hostOps0_1, hostOps0_2, hostOps0_3].flatten (fun b => m (c, b)) (Proc.devRef .tc main_v96) = _
  after_reads_simp
  rw [e10 m c W h0, e11 m c W h0]
  change Host.divf _ _ = Host.divf _ _
  rw [show m (c, Proc.devRef .tc main_arg0) = _ from h0.symm, show m (c, Proc.devRef .tc main_arg1) = _ from h1.symm]
  rfl
/-- The sinks' probabilities as the kernel takes them: a row's eight heads on the first lanes, zero beyond. -/
def sinkRows (x : FVec Ideal S2x32x2x4x128x1 .f32) : FVec Ideal S2x4096x128 .f32 :=
  pad S2x4096x128 ![0,0,0] ![0,0,120] ![0,0,0] (shapeCast _ (transpose S2x32x128x8 [0,1,3,2] (shapeCast _ x shapeCasts_S2x32x2x4x128x1_S2x32x8x128) transposes_S2x32x8x128_S2x32x128x8_0_1_3_2) shapeCasts_S2x32x128x8_S2x4096x8 : FVec Ideal S2x4096x8 .f32) (sitofp .f32 (constantI S_ 32 0#32)) pads_S2x4096x8_S2x4096x128_000_000_01200 h_S_
set_option maxHeartbeats 4000000 in
theorem V101 : V m c main_v101 = sinkRows (V m c main_v96) := by
  show after [hostOps0, hostOps0_1, hostOps0_2, hostOps0_3].flatten (fun b => m (c, b)) (Proc.devRef .tc main_v101) = sinkRows (after [hostOps0, hostOps0_1, hostOps0_2, hostOps0_3].flatten (fun b => m (c, b)) (Proc.devRef .tc main_v96))
  after_reads_simp
  rfl
theorem sinkRows_at (x) (b : Fin 2) (n : Fin 32) (i l : Fin 128) (h1) : sinkRows x (ix3 b ⟨n.val * 128 + i.val, h1⟩ l) = if h : l.val < 8 then x (ix6 b n ⟨l.val / 4, by omega⟩ ⟨l.val % 4, by omega⟩ i 0) else (0 : EReal) := by
  pointwise [sinkRows]
  refine dite_congr (propext ⟨fun h => h.2, fun h => ⟨h1, h⟩⟩) (fun _ => rfl) (fun _ => ?_)
  show (((0#32 : BitVec 32).toInt : ℝ) : EReal) = 0
  simp
theorem V97_at (x : FVec Ideal S2x32x2x4x128x256 .f32) (b : Fin 2) (n : Fin 32) (h : Fin 8) (i : Fin 128) (s : Fin 256) :
    (shapeCast _ x shapeCasts_S2x32x2x4x128x256_S2x32x8x128x256 : FVec Ideal S2x32x8x128x256 .f32) (ix5 b n h i s) = x (ix6 b n ⟨h.val / 4, by omega⟩ ⟨h.val % 4, by omega⟩ i s) := by
  pointwise []
end Cert.SwaBwdIdeal.Math
end
-- ==== Proof.SwaSum.lean ====
/-
  The attention reference's reductions read at an index: over the keys of a row (the last axis), over the unit axis that
  stands for a row's one sum, and over every row of a head.
-/
module
public import proofs.«01_k».proof.Proof.Gen.SwaRefIdeal.Run
public import Idealize.ShloMosaic.Lib.Pipeline.ValueKit
public import Idealize.ShloMosaic.Lib.Pointwise
public import Idealize.ShloMosaic.Lib.Claim
@[expose] public section
set_option maxRecDepth 16384
noncomputable section
namespace Cert.SwaRefIdeal.Math
open Cert.SwaRefIdeal Cert.SwaRefIdeal.Gen Cert.SwaRefIdeal.Value Idealize.ShloMosaic Idealize.ShloMosaic.TcCoe Idealize.SL.Sem Idealize.ShloMosaic.StableHlo

/-- The entries of a row: those that drop to it when the last axis is reduced. -/
theorem row_fiber {K : Nat} (h : (⟨6, ![2, 32, 2, 4, 128, K]⟩ : Shape).ReducesTo [5] S2x32x2x4x128)
    (b : Fin 2) (n : Fin 32) (kv : Fin 2) (g : Fin 4) (i : Fin 128) (x : (⟨6, ![2, 32, 2, 4, 128, K]⟩ : Shape).Idx) :
    h.drop x = ix5 b n kv g i ↔ ∃ k : Fin K, ix6 b n kv g i k = x := by
  constructor
  · intro e
    refine ⟨x 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext c
    apply Fin.ext
    match c with
    | ⟨0, _⟩ => rfl
    | ⟨1, _⟩ => rfl
    | ⟨2, _⟩ => rfl
    | ⟨3, _⟩ => rfl
    | ⟨4, _⟩ => rfl

/-- The sum over the last axis, at a row. -/
theorem row_sum {K : Nat} (h : (⟨6, ![2, 32, 2, 4, 128, K]⟩ : Shape).ReducesTo [5] S2x32x2x4x128)
    (b : Fin 2) (n : Fin 32) (kv : Fin 2) (g : Fin 4) (i : Fin 128) (x : (⟨6, ![2, 32, 2, 4, 128, K]⟩ : Shape).Idx → EReal) (z : EReal) :
    Ideal.hostReduceAdd h x z (ix5 b n kv g i) = z + ∑ k : Fin K, x (ix6 b n kv g i k) :=
  congrArg (z + ·) (Finset.sum_filter_eq_sum_of_fiber _ (fun k : Fin K => ix6 b n kv g i k) (fun _ _ e => congrFun e 5) (row_fiber h b n kv g i) x)

/-- The largest entry over the last axis, at a row. -/
theorem row_max {K : Nat} (h : (⟨6, ![2, 32, 2, 4, 128, K]⟩ : Shape).ReducesTo [5] S2x32x2x4x128)
    (b : Fin 2) (n : Fin 32) (kv : Fin 2) (g : Fin 4) (i : Fin 128) (x : (⟨6, ![2, 32, 2, 4, 128, K]⟩ : Shape).Idx → EReal) (z : EReal) :
    (Finset.univ.filter fun y => h.drop y = ix5 b n kv g i).fold max z x = (Finset.univ : Finset (Fin K)).fold max z (fun k => x (ix6 b n kv g i k)) :=
  Finset.fold_filter_eq_fold_of_fiber max _ (fun k : Fin K => ix6 b n kv g i k) (fun _ _ e => congrFun e 5) (row_fiber h b n kv g i) z x

/-- The entries of a head: those that drop to it when sequences, blocks and rows are reduced. -/
theorem head_fiber (h : (⟨6, ![2, 32, 2, 4, 128, 1]⟩ : Shape).ReducesTo [0, 1, 4] S2x4x1)
    (kv : Fin 2) (g : Fin 4) (x : (⟨6, ![2, 32, 2, 4, 128, 1]⟩ : Shape).Idx) :
    h.drop x = ix3 kv g 0 ↔ ∃ k : Fin 2 × Fin 32 × Fin 128, ix6 k.1 k.2.1 kv g k.2.2 0 = x := by
  constructor
  · intro e
    refine ⟨(x 0, x 1, x 4), ?_⟩
    funext a; apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (congrArg Fin.val (congrFun e 2)).symm
  · rintro ⟨k, rfl⟩
    funext c
    apply Fin.ext
    match c with
    | ⟨0, _⟩ => rfl
    | ⟨1, _⟩ => rfl
    | ⟨2, _⟩ => rfl

/-- The sum over sequences, blocks and rows, at a head. -/
theorem head_sum (h : (⟨6, ![2, 32, 2, 4, 128, 1]⟩ : Shape).ReducesTo [0, 1, 4] S2x4x1)
    (kv : Fin 2) (g : Fin 4) (x : (⟨6, ![2, 32, 2, 4, 128, 1]⟩ : Shape).Idx → EReal) (z : EReal) :
    Ideal.hostReduceAdd h x z (ix3 kv g 0) = z + ∑ b : Fin 2, ∑ n : Fin 32, ∑ i : Fin 128, x (ix6 b n kv g i 0) := by
  refine congrArg (z + ·) ((Finset.sum_filter_eq_sum_of_fiber _ (fun k : Fin 2 × Fin 32 × Fin 128 => ix6 k.1 k.2.1 kv g k.2.2 0) ?_ (head_fiber h kv g) x).trans ?_)
  · rintro ⟨a, b, c⟩ ⟨a', b', c'⟩ e
    exact Prod.ext (congrFun e 0) (Prod.ext (congrFun e 1) (congrFun e 4))
  · rw [Fintype.sum_prod_type]
    exact Finset.sum_congr rfl fun b _ => Fintype.sum_prod_type _
end Cert.SwaRefIdeal.Math
end
-- ==== Proof.SwaFwd.lean ====
/-
  The attention reference, forward and backward, entry by entry.
-/
module
public import proofs.«01_k».proof.Proof.SwaSum
public import Idealize.ShloMosaic.Lib.Pipeline.ValueKit
public import Idealize.ShloMosaic.Lib.Pointwise
public import Idealize.ShloMosaic.Lib.Claim
@[expose] public section
set_option maxRecDepth 16384
noncomputable section
namespace Cert.SwaRefIdeal.Math
open Cert.SwaRefIdeal Cert.SwaRefIdeal.Gen Cert.SwaRefIdeal.Value Idealize.ShloMosaic Idealize.ShloMosaic.TcCoe Idealize.SL.Sem Idealize.ShloMosaic.StableHlo
variable (V0 : Valuation τ sig (Elt Ideal))
def A0 (b : Fin 2) (r : Fin 4096) (l : Fin 768) : EReal := V0 (Proc.devRef .tc main_arg0) (ix3 b r l)
def A1 (h : Fin 8) : EReal := V0 (Proc.devRef .tc main_arg1) (ix1 h)
def A2 (b : Fin 2) (r : Fin 4096) (l : Fin 512) : EReal := V0 (Proc.devRef .tc main_arg2) (ix3 b r l)
def rQ (b : Fin 2) (n : Fin 32) (kv : Fin 2) (g : Fin 4) (i : Fin 128) (d : Fin 64) : EReal := res_main_v6 V0 (ix6 b n i kv g d)
def rK (b : Fin 2) (n : Fin 32) (kv : Fin 2) (s : Fin 256) (d : Fin 64) : EReal := res_main_v13 V0 (ix5 b n s kv d)
def rV (b : Fin 2) (n : Fin 32) (kv : Fin 2) (s : Fin 256) (d : Fin 64) : EReal := res_main_v20 V0 (ix5 b n s kv d)
def rDv (b : Fin 2) (n : Fin 32) (kv : Fin 2) (s : Fin 256) (d : Fin 64) : EReal := res_main_v132 V0 (ix5 b n s kv d)
def rDk (b : Fin 2) (n : Fin 32) (kv : Fin 2) (s : Fin 256) (d : Fin 64) : EReal := res_main_v171 V0 (ix5 b n s kv d)
def rK0 (b : Fin 2) (n : Fin 33) (s : Fin 128) (kv : Fin 2) (d : Fin 64) : EReal := res_main_v10 V0 (ix5 b n s kv d)
def rV0 (b : Fin 2) (n : Fin 33) (s : Fin 128) (kv : Fin 2) (d : Fin 64) : EReal := res_main_v17 V0 (ix5 b n s kv d)
def rS (b : Fin 2) (n : Fin 32) (kv : Fin 2) (g : Fin 4) (i : Fin 128) (s : Fin 256) : EReal := res_main_v78_0 V0 (ix6 b n kv g i s)
def rTop (b : Fin 2) (n : Fin 32) (kv : Fin 2) (g : Fin 4) (i : Fin 128) : EReal := res_main_v80 V0 (ix5 b n kv g i)
def rTie (b : Fin 2) (n : Fin 32) (kv : Fin 2) (g : Fin 4) (i : Fin 128) (s : Fin 256) : EReal := res_main_v84 V0 (ix6 b n kv g i s)
def rM (b : Fin 2) (n : Fin 32) (kv : Fin 2) (g : Fin 4) (i : Fin 128) : EReal := res_main_v88 V0 (ix6 b n kv g i 0)
def rE (b : Fin 2) (n : Fin 32) (kv : Fin 2) (g : Fin 4) (i : Fin 128) (s : Fin 256) : EReal := res_main_v109 V0 (ix6 b n kv g i s)
def rEs (b : Fin 2) (n : Fin 32) (kv : Fin 2) (g : Fin 4) (i : Fin 128) : EReal := res_main_v112 V0 (ix6 b n kv g i 0)
def rDen (b : Fin 2) (n : Fin 32) (kv : Fin 2) (g : Fin 4) (i : Fin 128) : EReal := res_main_v115 V0 (ix6 b n kv g i 0)
def rP (b : Fin 2) (n : Fin 32) (kv : Fin 2) (g : Fin 4) (i : Fin 128) (s : Fin 256) : EReal := res_main_v117 V0 (ix6 b n kv g i s)
def rDo (b : Fin 2) (n : Fin 32) (kv : Fin 2) (g : Fin 4) (i : Fin 128) (d : Fin 64) : EReal := res_main_v129 V0 (ix6 b n kv d g i)
def rDp (b : Fin 2) (n : Fin 32) (kv : Fin 2) (g : Fin 4) (i : Fin 128) (s : Fin 256) : EReal := res_main_v130 V0 (ix6 b n kv g i s)
def rC (b : Fin 2) (n : Fin 32) (kv : Fin 2) (g : Fin 4) (i : Fin 128) : EReal := res_main_v138 V0 (ix6 b n kv g i 0)
def rDsink (b : Fin 2) (n : Fin 32) (kv : Fin 2) (g : Fin 4) (i : Fin 128) : EReal := res_main_v144 V0 (ix6 b n kv g i 0)
def rG (b : Fin 2) (n : Fin 32) (kv : Fin 2) (g : Fin 4) (i : Fin 128) (s : Fin 256) : EReal := res_main_v148 V0 (ix6 b n kv g i s)
def rDm (b : Fin 2) (n : Fin 32) (kv : Fin 2) (g : Fin 4) (i : Fin 128) : EReal := res_main_v152 V0 (ix6 b n kv g i 0)
def rDs (b : Fin 2) (n : Fin 32) (kv : Fin 2) (g : Fin 4) (i : Fin 128) (s : Fin 256) : EReal := res_main_v167 V0 (ix6 b n kv s i g)
variable (b : Fin 2) (n : Fin 32) (kv : Fin 2) (g : Fin 4) (i : Fin 128) (s : Fin 256) (d : Fin 64)

theorem q_at (h1 h2) : rQ V0 b n kv g i d = A0 V0 b ⟨n.val * 128 + i.val, h1⟩ ⟨kv.val * 256 + g.val * 64 + d.val, h2⟩ := by
  pointwise [rQ, A0, res_main_v6]
/-- A band's entry, whichever half it is in. -/
theorem nest (f : Fin 4096 → EReal) (n : Fin 32) (s : Fin 256) (h1 h2 h3) :
    (if h : s.val < 128 then (if h' : n.val * 128 + s.val < 128 then 0 else f ⟨n.val * 128 + s.val - 128, h1⟩)
      else (if h' : (1 + n.val) * 128 + (s.val - 128) < 128 then 0 else f ⟨(1 + n.val) * 128 + (s.val - 128) - 128, h2⟩))
      = if n.val = 0 ∧ s.val < 128 then 0 else f ⟨n.val * 128 + s.val - 128, h3⟩ := by
  split_ifs
  all_goals first
    | rfl
    | omega
    | exact congrArg f (Fin.ext (by show (1 + n.val) * 128 + (s.val - 128) - 128 = n.val * 128 + s.val - 128; omega))
/-- Two runs of 128 keys side by side. -/
theorem two (x y : FVec Ideal S2x32x128x2x64 .f32) : (concatenate S2x32x256x2x64 2 [⟨S2x32x128x2x64, x⟩, ⟨S2x32x128x2x64, y⟩] concatenates_S2x32x128x2x64_S2x32x128x2x64_S2x32x256x2x64_d2 (ix5 b n s kv d) : EReal)
    = if h : s.val < 128 then x (ix5 b n ⟨s.val, h⟩ kv d) else y (ix5 b n ⟨s.val - 128, by omega⟩ kv d) := by
  pointwise []
theorem low (x : FVec Ideal S2x33x128x2x64 .f32) (y : Fin 128) : extractStridedSlice S2x32x128x2x64 ![0, 0, 0, 0, 0] x slices_S2x33x128x2x64_S2x32x128x2x64_0_0_0_0_0 (ix5 b n y kv d) = x (ix5 b ⟨n.val, by omega⟩ y kv d) := by
  pointwise []
theorem high (x : FVec Ideal S2x33x128x2x64 .f32) (y : Fin 128) : extractStridedSlice S2x32x128x2x64 ![0, 1, 0, 0, 0] x slices_S2x33x128x2x64_S2x32x128x2x64_0_1_0_0_0 (ix5 b n y kv d) = x (ix5 b ⟨1 + n.val, by omega⟩ y kv d) := by
  pointwise []
theorem k0_at (r : Fin 33) (y : Fin 128) (h1 h2) : rK0 V0 b r y kv d = if h : r.val * 128 + y.val < 128 then 0 else A0 V0 b ⟨r.val * 128 + y.val - 128, h1⟩ ⟨512 + (kv.val * 64 + d.val), h2⟩ := by
  pointwise [rK0, A0, res_main_v10]
theorem k1_at : rK V0 b n kv s d = if h : s.val < 128 then rK0 V0 b ⟨n.val, by omega⟩ ⟨s.val, h⟩ kv d else rK0 V0 b ⟨1 + n.val, by omega⟩ ⟨s.val - 128, by omega⟩ kv d := by
  refine (two b n kv s d _ _).trans ?_
  split_ifs
  · exact low b n kv d _ _
  · exact high b n kv d _ _
theorem k_at (h1 : n.val * 128 + s.val - 128 < 4096) (h2) :
    rK V0 b n kv s d = if n.val = 0 ∧ s.val < 128 then 0 else A0 V0 b ⟨n.val * 128 + s.val - 128, h1⟩ ⟨512 + (kv.val * 64 + d.val), h2⟩ := by
  rw [k1_at V0 b n kv s d]
  exact (dite_congr rfl (fun h => k0_at V0 b kv d _ _ (by show n.val * 128 + s.val - 128 < 4096; omega) h2) (fun h => k0_at V0 b kv d _ _ (by show (1 + n.val) * 128 + (s.val - 128) - 128 < 4096; omega) h2)).trans
    (nest (fun r => A0 V0 b r ⟨512 + (kv.val * 64 + d.val), h2⟩) n s (by omega) (by omega) h1)
theorem v0_at (r : Fin 33) (y : Fin 128) (h1 h2) : rV0 V0 b r y kv d = if h : r.val * 128 + y.val < 128 then 0 else A0 V0 b ⟨r.val * 128 + y.val - 128, h1⟩ ⟨640 + (kv.val * 64 + d.val), h2⟩ := by
  pointwise [rV0, A0, res_main_v17]
theorem v1_at : rV V0 b n kv s d = if h : s.val < 128 then rV0 V0 b ⟨n.val, by omega⟩ ⟨s.val, h⟩ kv d else rV0 V0 b ⟨1 + n.val, by omega⟩ ⟨s.val - 128, by omega⟩ kv d := by
  refine (two b n kv s d _ _).trans ?_
  split_ifs
  · exact low b n kv d _ _
  · exact high b n kv d _ _
theorem v_at (h1 : n.val * 128 + s.val - 128 < 4096) (h2) :
    rV V0 b n kv s d = if n.val = 0 ∧ s.val < 128 then 0 else A0 V0 b ⟨n.val * 128 + s.val - 128, h1⟩ ⟨640 + (kv.val * 64 + d.val), h2⟩ := by
  rw [v1_at V0 b n kv s d]
  exact (dite_congr rfl (fun h => v0_at V0 b kv d _ _ (by show n.val * 128 + s.val - 128 < 4096; omega) h2) (fun h => v0_at V0 b kv d _ _ (by show (1 + n.val) * 128 + (s.val - 128) - 128 < 4096; omega) h2)).trans
    (nest (fun r => A0 V0 b r ⟨640 + (kv.val * 64 + d.val), h2⟩) n s (by omega) (by omega) h1)
theorem v33_at : res_main_v33 V0 (ix2 i s) = IntOp.addi (IntOp.subi (BitVec.ofNat 32 i.val) (BitVec.ofNat 32 s.val)) 128#32 := by
  pointwise [res_main_v33]
theorem valid_at : res_main_v78_1 V0 (ix6 b n kv g i s) = IntOp.andi
      (IntOp.andi
        (IntOp.cmpi CmpIPredicate.sge (IntOp.addi (IntOp.subi (BitVec.ofNat 32 i.val) (BitVec.ofNat 32 s.val)) 128#32) 0#32)
        (IntOp.cmpi CmpIPredicate.slt (IntOp.addi (IntOp.subi (BitVec.ofNat 32 i.val) (BitVec.ofNat 32 s.val)) 128#32)
          128#32))
      (IntOp.cmpi CmpIPredicate.sge
        (IntOp.subi (IntOp.addi (IntOp.muli (BitVec.ofNat 32 n.val) 128#32) (BitVec.ofNat 32 s.val)) 128#32) 0#32) := by
  pointwise [res_main_v78_1, res_main_v33]
theorem score_at : rS V0 b n kv g i s = Scalar.select (res_main_v78_1 V0 (ix6 b n kv g i s))
      ((∑ x, rK V0 b n kv s x * rQ V0 b n kv g i x) * Ideal.ofBits FTy.f32 1040187392#32 +
        -Ideal.exp
              (Ideal.ofBits FTy.f32 1060205080#32 *
                Ideal.div
                  (Ideal.ofBits FTy.f32 3238002688#32 * (1 + FloatOps.sitofp (F := Ideal) FTy.f32 (BitVec.ofNat 32 (kv.val * 4 + g.val))))
                  (Ideal.ofBits FTy.f32 1090519040#32)) *
          FloatOps.sitofp (F := Ideal) FTy.f32 (IntOp.addi (IntOp.subi (BitVec.ofNat 32 i.val) (BitVec.ofNat 32 s.val)) 128#32))
      (Ideal.ofBits FTy.f32 4286578688#32) := by
  rw [← v33_at V0]
  pointwise [rS, rK, rQ, res_main_v78_0]
  rfl
theorem top_at : rTop V0 b n kv g i = (Finset.univ : Finset (Fin 256)).fold max (Ideal.ofBits FTy.f32 4286578688#32) (fun k => rS V0 b n kv g i k) := by
  unfold rTop rS
  pointwise [res_main_v80]
  exact row_max _ b n kv g i _ _
theorem tie_at : rTie V0 b n kv g i s = FloatOps.uitofp (F := Ideal) FTy.f32
      (BitVec.ofBool (decide (rS V0 b n kv g i s = rTop V0 b n kv g i))) := by
  pointwise [rTie, rS, rTop, res_main_v84]
theorem sink_at (h) : res_main_v79 V0 (ix6 0 0 kv g 0 0) = V0 (Proc.devRef .tc main_arg1) (ix1 ⟨kv.val * 4 + g.val, h⟩) := by
  pointwise [res_main_v79]
theorem v86_at : res_main_v86 V0 (ix6 b n kv g i 0) = res_main_v80 V0 (ix5 b n kv g i) := by
  pointwise [res_main_v86]
theorem m_at (h) : rM V0 b n kv g i = max (rTop V0 b n kv g i) (A1 V0 ⟨kv.val * 4 + g.val, h⟩) := by
  unfold rM rTop A1
  rw [← sink_at V0, ← v86_at V0]
  have e : ∀ (x y : FVec Ideal S2x32x2x4x128x1 .f32) (j), maximumf x y j = max (x j : EReal) (y j) := fun x y j => congrFun (congrFun Ideal.maximumf_eq_max _) _
  unfold res_main_v88
  rw [e]
  refine congrArg (max _) ?_
  pointwise []
theorem e_at : rE V0 b n kv g i s = Ideal.exp (rS V0 b n kv g i s - rM V0 b n kv g i) := by
  pointwise [rE, rS, rM, res_main_v109]
theorem es_at (h) : rEs V0 b n kv g i = Ideal.exp (A1 V0 ⟨kv.val * 4 + g.val, h⟩ - rM V0 b n kv g i) := by
  unfold rEs A1 rM
  rw [← sink_at V0]
  pointwise [res_main_v112]
theorem den_at : rDen V0 b n kv g i = (∑ k, rE V0 b n kv g i k) + rEs V0 b n kv g i := by
  unfold rDen rE rEs
  pointwise [res_main_v115]
  rw [row_sum]; simp only [zero_add]
theorem p_at : rP V0 b n kv g i s = Ideal.div (rE V0 b n kv g i s) (rDen V0 b n kv g i) := by
  pointwise [rP, rE, rDen, res_main_v117]
theorem do_at (h1 h2) : rDo V0 b n kv g i d = A2 V0 b ⟨n.val * 128 + i.val, h1⟩ ⟨kv.val * 256 + g.val * 64 + d.val, h2⟩ := by
  pointwise [rDo, A2, res_main_v129]
theorem dp_at : rDp V0 b n kv g i s = ∑ x, rDo V0 b n kv g i x * rV V0 b n kv s x := by
  pointwise [rDp, rDo, rV, res_main_v130]
theorem c_at : rC V0 b n kv g i = -∑ k, rDp V0 b n kv g i k * Ideal.div 1 (rDen V0 b n kv g i * rDen V0 b n kv g i) * rE V0 b n kv g i k := by
  unfold rC
  pointwise [res_main_v138]
  rw [row_sum, zero_add]
  refine congrArg (fun e : EReal => -e) (Finset.sum_congr rfl fun k _ => ?_)
  pointwise [rDp, rDen, rE]
theorem dsink_at : rDsink V0 b n kv g i = rC V0 b n kv g i * rEs V0 b n kv g i := by
  pointwise [rDsink, rC, rEs, res_main_v144]
theorem g_at : rG V0 b n kv g i s = (Ideal.div (rDp V0 b n kv g i s) (rDen V0 b n kv g i) + rC V0 b n kv g i) * rE V0 b n kv g i s := by
  unfold rG rDp rDen rC rE
  pointwise [res_main_v148]
  rw [row_sum]
  refine congrArg (fun x : EReal => (_ + x) * _) ((zero_add _).trans (Fin.sum_univ_one _))
theorem dm_at : rDm V0 b n kv g i = -rDsink V0 b n kv g i + ∑ k, -rG V0 b n kv g i k := by
  unfold rDm
  pointwise [res_main_v152]
  rw [row_sum, zero_add]
  rfl
/-- The gradient of the scores, where the largest entry's own share is zero. -/
theorem ds_at (h0 : rDm V0 b n kv g i = 0) : rDs V0 b n kv g i s = Scalar.select (res_main_v78_1 V0 (ix6 b n kv g i s))
    ((rG V0 b n kv g i s + Ideal.div 0 (∑ k, rTie V0 b n kv g i k) * rTie V0 b n kv g i s) * Ideal.ofBits FTy.f32 1040187392#32) 0 := by
  unfold rDs
  pointwise [res_main_v167]
  rw [row_sum, row_sum, zero_add, zero_add]
  simp only [Finset.univ_unique, Finset.sum_singleton]
  have e : ∀ (u : FVec Ideal S2x32x2x4x128x1 .f32), mulf (res_main_v152 V0) u (ix6 b n kv g i 0) = (0 : EReal) := fun u => by
    show rDm V0 b n kv g i * _ = 0
    rw [h0, zero_mul]
  erw [e]
  rfl
theorem dv_at : rDv V0 b n kv s d = ∑ g, ∑ i, rDo V0 b n kv g i d * rP V0 b n kv g i s := by
  pointwise [rDv, rDo, rP, res_main_v132]
theorem dk_at : rDk V0 b n kv s d = ∑ i, ∑ g, rDs V0 b n kv g i s * rQ V0 b n kv g i d := by
  pointwise [rDk, rDs, rQ, res_main_v171]
end Cert.SwaRefIdeal.Math
end
-- ==== Proof.SwaOut.lean ====
/-
  The attention reference's two results, entry by entry.
-/
module
public import proofs.«01_k».proof.Proof.SwaFwd
public import Idealize.ShloMosaic.Lib.Pipeline.ValueKit
public import Idealize.ShloMosaic.Lib.Pointwise
public import Idealize.ShloMosaic.Lib.Claim
@[expose] public section
set_option maxRecDepth 16384
noncomputable section
namespace Cert.SwaRefIdeal.Math
open Cert.SwaRefIdeal Cert.SwaRefIdeal.Gen Cert.SwaRefIdeal.Value Idealize.ShloMosaic Idealize.ShloMosaic.TcCoe Idealize.SL.Sem Idealize.ShloMosaic.StableHlo
variable (V0 : Valuation τ sig (Elt Ideal))
variable (b : Fin 2) (n : Fin 32) (kv : Fin 2) (g : Fin 4) (i : Fin 128) (s : Fin 256) (d : Fin 64)

/-- The attention block's gradient, as the reference leaves it. -/
def dzVec : FVec Ideal S2x4096x768 .bf16 := truncf .bf16 (addf (addf (pad S2x4096x768 ![0, 0, 640] ![0, 0, 0] ![0, 0, 0] (shapeCast _ (extractStridedSlice S2x4096x2x64 ![0, 128, 0, 0] (res_main_v177 V0) slices_S2x4224x2x64_S2x4096x2x64_0_128_0_0) shapeCasts_S2x4096x2x64_S2x4096x128) (constant S_ .f32 0x00000000#32) pads_S2x4096x128_S2x4096x768_000_000_64000 h_S_) (pad S2x4096x768 ![0, 0, 512] ![0, 0, 128] ![0, 0, 0] (shapeCast _ (extractStridedSlice S2x4096x2x64 ![0, 128, 0, 0] (res_main_v185 V0) slices_S2x4224x2x64_S2x4096x2x64_0_128_0_0) shapeCasts_S2x4096x2x64_S2x4096x128) (constant S_ .f32 0x00000000#32) pads_S2x4096x128_S2x4096x768_000_000_5121280 h_S_)) (pad S2x4096x768 ![0, 0, 0] ![0, 0, 256] ![0, 0, 0] (shapeCast _ (shapeCast _ (transpose S2x32x128x2x4x64 [0, 1, 3, 2, 4, 5] (Host.dotGeneral (φ₁ := .f32) (φ₂ := .f32) dot_S2x32x2x256x128x4_S2x32x256x2x64_S2x32x2x128x4x64_3_2_45_4_012_013 none (res_main_v167 V0) (res_main_v13 V0)) transposes_S2x32x2x128x4x64_S2x32x128x2x4x64_0_1_3_2_4_5) shapeCasts_S2x32x128x2x4x64_S2x4096x8x64) shapeCasts_S2x4096x8x64_S2x4096x512) (constant S_ .f32 0x00000000#32) pads_S2x4096x512_S2x4096x768_000_000_02560 h_S_)) bitsLt_bf16_f32
/-- The sinks' gradient, as the reference leaves it. -/
def sinkVec : FVec Ideal S1x128 .f32 := shapeCast _ (pad S128 ![0] ![120] ![0] (shapeCast _ (addf (shapeCast _ (Host.reduceAdd (res_main_v144 V0) (constant S_ .f32 0x00000000#32) reducesTo_S2x32x2x4x128x1_S2x4x1_d0_1_4 h_S_) shapeCasts_S2x4x1_S1x1x2x4x1x1) (shapeCast _ (Host.reduceAdd (mulf (res_main_v152 V0) (select (cmpf .ogt (broadcastInDim S2x32x2x4x128x1 ![0, 1, 2, 3, 4, 5] bcast_S1x1x2x4x1x1_S2x32x2x4x128x1_0_1_2_3_4_5 (res_main_v79 V0)) (res_main_v86 V0)) (broadcastInDim S2x32x2x4x128x1 ![] bcast_S_S2x32x2x4x128x1 (constant S_ .f32 0x3F800000#32)) (select (cmpf .oeq (broadcastInDim S2x32x2x4x128x1 ![0, 1, 2, 3, 4, 5] bcast_S1x1x2x4x1x1_S2x32x2x4x128x1_0_1_2_3_4_5 (res_main_v79 V0)) (res_main_v86 V0)) (broadcastInDim S2x32x2x4x128x1 ![] bcast_S_S2x32x2x4x128x1 (constant S_ .f32 0x3F000000#32)) (broadcastInDim S2x32x2x4x128x1 ![] bcast_S_S2x32x2x4x128x1 (constant S_ .f32 0x00000000#32))))) (constant S_ .f32 0x00000000#32) reducesTo_S2x32x2x4x128x1_S2x4x1_d0_1_4 h_S_) shapeCasts_S2x4x1_S1x1x2x4x1x1)) shapeCasts_S1x1x2x4x1x1_S8) (sitofp .f32 (constantI S_ 32 0#32)) pads_S8_S128_01200 h_S_) shapeCasts_S128_S1x128
theorem nest2 (f g : Fin 32 → EReal) (n : Fin 32) (i : Fin 128) :
    ((if h : 1 ≤ (128 + (n.val * 128 + i.val)) / 128 ∧ (128 + (n.val * 128 + i.val)) / 128 - 1 < 32 then f ⟨(128 + (n.val * 128 + i.val)) / 128 - 1, h.2⟩ else 0)
      + if h : (128 + (n.val * 128 + i.val)) / 128 < 32 then g ⟨(128 + (n.val * 128 + i.val)) / 128, h⟩ else 0)
      = f n + if h : n.val + 1 < 32 then g ⟨n.val + 1, h⟩ else 0 := by
  have e : (128 + (n.val * 128 + i.val)) / 128 = n.val + 1 := by omega
  rw [dif_pos ⟨by omega, by omega⟩]
  refine congr (congrArg _ (congrArg f (Fin.ext (by show (128 + (n.val * 128 + i.val)) / 128 - 1 = n.val; omega)))) ?_
  refine dite_congr (by rw [e]) (fun h => ?_) (fun _ => rfl)
  exact congrArg g (Fin.ext e)

/-- The keys' gradient put back from the bands to the sequence: a row takes part in its own block's band and in the next one's. -/
theorem adj (x : FVec Ideal S2x32x256x2x64 .f32) (h) : (shapeCast S2x4224x2x64 (addf (pad S2x33x128x2x64 ![0, 1, 0, 0, 0] ![0, 0, 0, 0, 0] ![0, 0, 0, 0, 0] (extractStridedSlice S2x32x128x2x64 ![0, 0, 128, 0, 0] x slices_S2x32x256x2x64_S2x32x128x2x64_0_0_128_0_0) (constant S_ .f32 0x00000000#32) pads_S2x32x128x2x64_S2x33x128x2x64_000_100_000_000_000 h_S_) (pad S2x33x128x2x64 ![0, 0, 0, 0, 0] ![0, 1, 0, 0, 0] ![0, 0, 0, 0, 0] (extractStridedSlice S2x32x128x2x64 ![0, 0, 0, 0, 0] x slices_S2x32x256x2x64_S2x32x128x2x64_0_0_0_0_0) (constant S_ .f32 0x00000000#32) pads_S2x32x128x2x64_S2x33x128x2x64_000_010_000_000_000 h_S_)) shapeCasts_S2x33x128x2x64_S2x4224x2x64
   (ix4 b ⟨128 + (n.val * 128 + i.val), h⟩ kv d) : EReal) = x (ix5 b n ⟨128 + i.val, by omega⟩ kv d) + if h : n.val + 1 < 32 then x (ix5 b ⟨n.val + 1, h⟩ ⟨i.val, by omega⟩ kv d) else 0 := by
  pointwise []
  exact nest2 (fun n => x (ix5 b n ⟨128 + i.val, by omega⟩ kv d)) (fun n => x (ix5 b n ⟨i.val, by omega⟩ kv d)) n i
theorem out_at (K V : FVec Ideal S2x4224x2x64 .f32) (Q : FVec Ideal S2x4096x8x64 .f32) (L : Fin 768) (r : Fin 4096) :
    (truncf .bf16 (addf (addf (pad S2x4096x768 ![0, 0, 640] ![0, 0, 0] ![0, 0, 0] (shapeCast _ (extractStridedSlice S2x4096x2x64 ![0, 128, 0, 0] V slices_S2x4224x2x64_S2x4096x2x64_0_128_0_0) shapeCasts_S2x4096x2x64_S2x4096x128) (constant S_ .f32 0x00000000#32) pads_S2x4096x128_S2x4096x768_000_000_64000 h_S_) (pad S2x4096x768 ![0, 0, 512] ![0, 0, 128] ![0, 0, 0] (shapeCast _ (extractStridedSlice S2x4096x2x64 ![0, 128, 0, 0] K slices_S2x4224x2x64_S2x4096x2x64_0_128_0_0) shapeCasts_S2x4096x2x64_S2x4096x128) (constant S_ .f32 0x00000000#32) pads_S2x4096x128_S2x4096x768_000_000_5121280 h_S_)) (pad S2x4096x768 ![0, 0, 0] ![0, 0, 256] ![0, 0, 0] (shapeCast _ Q shapeCasts_S2x4096x8x64_S2x4096x512) (constant S_ .f32 0x00000000#32) pads_S2x4096x512_S2x4096x768_000_000_02560 h_S_)) bitsLt_bf16_f32 (ix3 b r L) : EReal)
    = if h : L.val < 512 then Q (ix4 b r ⟨L.val / 64, by omega⟩ ⟨L.val % 64, by omega⟩)
      else if h : L.val < 640 then K (ix4 b ⟨128 + r.val, by omega⟩ ⟨(L.val - 512) / 64, by omega⟩ ⟨(L.val - 512) % 64, by omega⟩)
      else V (ix4 b ⟨128 + r.val, by omega⟩ ⟨(L.val - 640) / 64, by omega⟩ ⟨(L.val - 640) % 64, by omega⟩) := by
  pointwise []
  by_cases h1 : L.val < 512
  · rw [dif_neg (by omega), dif_neg (by omega), dif_pos (by omega), dif_pos h1]
    exact (congrArg (· + _) (zero_add (0 : EReal))).trans (zero_add _)
  · by_cases h2 : L.val < 640
    · rw [dif_neg (by omega), dif_pos (by omega), dif_neg (by omega), dif_neg h1, dif_pos h2]
      exact (add_zero _).trans (zero_add (_ : EReal))
    · rw [dif_pos (by omega), dif_neg (by omega), dif_neg (by omega), dif_neg h1, dif_neg h2]
      exact (add_zero _).trans (add_zero (_ : EReal))
theorem dq_at (h : Fin 8) (h1 h2 h3) : (shapeCast S2x4096x8x64 (transpose S2x32x128x2x4x64 [0, 1, 3, 2, 4, 5] (Host.dotGeneral (φ₁ := .f32) (φ₂ := .f32) dot_S2x32x2x256x128x4_S2x32x256x2x64_S2x32x2x128x4x64_3_2_45_4_012_013 none (res_main_v167 V0) (res_main_v13 V0)) transposes_S2x32x2x128x4x64_S2x32x128x2x4x64_0_1_3_2_4_5) shapeCasts_S2x32x128x2x4x64_S2x4096x8x64 (ix4 b ⟨n.val * 128 + i.val, h1⟩ h d) : EReal)
    = ∑ s, rDs V0 b n ⟨h.val / 4, h2⟩ ⟨h.val % 4, h3⟩ i s * rK V0 b n ⟨h.val / 4, h2⟩ s d := by
  pointwise [rDs, rK]
theorem sink_zero (u : FVec Ideal S2x32x2x4x128x1 .f32) (h0 : ∀ b n i, rDm V0 b n kv g i = 0) :
    Ideal.hostReduceAdd reducesTo_S2x32x2x4x128x1_S2x4x1_d0_1_4 (mulf (res_main_v152 V0) u) 0 (ix3 kv g 0) = 0 := by
  rw [head_sum, zero_add]
  refine Finset.sum_eq_zero fun b _ => Finset.sum_eq_zero fun n _ => Finset.sum_eq_zero fun i _ => ?_
  show rDm V0 b n kv g i * _ = 0
  rw [h0, zero_mul]
theorem sinkVec_at (h0 : ∀ b n kv g i, rDm V0 b n kv g i = 0) (l : Fin 128) : sinkVec V0 (ix2 0 l)
    = if h : l.val < 8 then ∑ b, ∑ n, ∑ i, rDsink V0 b n ⟨l.val / 4, by omega⟩ ⟨l.val % 4, by omega⟩ i else 0 := by
  unfold sinkVec
  pointwise []
  split_ifs with h
  · refine (congrArg (_ + ·) (sink_zero V0 _ _ _ fun b n i => h0 b n _ _ i)).trans ((add_zero _).trans ?_)
    rw [head_sum, zero_add]
    rfl
  · show (((0#32 : BitVec 32).toInt : ℝ) : EReal) = 0
    simp
theorem dzVec_at (h1) (L : Fin 768) : dzVec V0 (ix3 b ⟨n.val * 128 + i.val, h1⟩ L)
    = if h : L.val < 512 then ∑ s, rDs V0 b n ⟨L.val / 64 / 4, by omega⟩ ⟨L.val / 64 % 4, by omega⟩ i s * rK V0 b n ⟨L.val / 64 / 4, by omega⟩ s ⟨L.val % 64, by omega⟩
      else if h : L.val < 640 then rDk V0 b n ⟨(L.val - 512) / 64, by omega⟩ ⟨128 + i.val, by omega⟩ ⟨(L.val - 512) % 64, by omega⟩
        + if h : n.val + 1 < 32 then rDk V0 b ⟨n.val + 1, h⟩ ⟨(L.val - 512) / 64, by omega⟩ ⟨i.val, by omega⟩ ⟨(L.val - 512) % 64, by omega⟩ else 0
      else rDv V0 b n ⟨(L.val - 640) / 64, by omega⟩ ⟨128 + i.val, by omega⟩ ⟨(L.val - 640) % 64, by omega⟩
        + if h : n.val + 1 < 32 then rDv V0 b ⟨n.val + 1, h⟩ ⟨(L.val - 640) / 64, by omega⟩ ⟨i.val, by omega⟩ ⟨(L.val - 640) % 64, by omega⟩ else 0 := by
  refine (out_at b _ _ _ L _).trans ?_
  refine dite_congr rfl (fun h => ?_) fun h => dite_congr rfl (fun h' => ?_) fun h' => ?_
  · exact dq_at V0 b n i _ _ _ _ _
  · exact adj b n _ i _ _ _
  · exact adj b n _ i _ _ _
end Cert.SwaRefIdeal.Math
end
-- ==== Proof.SwaRow.lean ====
/-
  One row of the attention over the reals: what the exponentials, their sum and the gradients through them are.
-/
module
public import proofs.«01_k».proof.Proof.SwaMat
@[expose] public section
noncomputable section
namespace Cert.SwaRefIdeal.Math
open Idealize.ShloMosaic Cert.SwaBwdIdeal.Blk

theorem div_real (a : ℝ) {b : ℝ} (h : b ≠ 0) : Ideal.div ((a : ℝ) : EReal) ((b : ℝ) : EReal) = ((a / b : ℝ) : EReal) := by
  rw [Ideal.div_coe h, ← EReal.coe_mul]
  congr 1; ring

/-- A running maximum of reals and minus infinities is below plus infinity. -/
theorem fold_lt (S : Fin 256 → EReal) (hS : ∀ s, S s = ⊥ ∨ ∃ r : ℝ, S s = r) (t : Finset (Fin 256)) : t.fold max (⊥ : EReal) S < ⊤ := by
  rw [Finset.fold_max_lt]
  refine ⟨bot_lt_top, fun s _ => ?_⟩
  rcases hS s with h | ⟨r, h⟩ <;> rw [h]
  · exact bot_lt_top
  · exact EReal.coe_lt_top r

theorem top_real (S : Fin 256 → EReal) (hS : ∀ s, S s = ⊥ ∨ ∃ r : ℝ, S s = r) (k : ℝ) : ∃ m : ℝ, max (Finset.univ.fold max (⊥ : EReal) S) (k : EReal) = m := by
  have h1 : max (Finset.univ.fold max (⊥ : EReal) S) (k : EReal) < ⊤ := max_lt (fold_lt S hS _) (EReal.coe_lt_top k)
  have h2 : ⊥ < max (Finset.univ.fold max (⊥ : EReal) S) (k : EReal) := lt_of_lt_of_le (EReal.bot_lt_coe k) (le_max_right _ _)
  exact ⟨_, (EReal.coe_toReal h1.ne h2.ne').symm⟩

/-- The softmax of a row with a sink, its gradient with respect to the scores, the sink's, and the largest entry's own share, which is zero. -/
theorem row_core (S : Fin 256 → EReal) (hS : ∀ s, S s = ⊥ ∨ ∃ r : ℝ, S s = r) (k : ℝ) (M : EReal)
    (hM : M = max (Finset.univ.fold max (⊥ : EReal) S) (k : EReal)) (E : Fin 256 → EReal) (hE : ∀ s, E s = Ideal.exp (S s - M))
    (Es : EReal) (hEs : Es = Ideal.exp (k - M)) (D : EReal) (hD : D = (∑ s, E s) + Es) (dp : Fin 256 → ℝ) (Dp : Fin 256 → EReal) (hDp : ∀ s, Dp s = dp s)
    (C : EReal) (hC : C = -∑ s, Dp s * Ideal.div 1 (D * D) * E s) (X : EReal) (hX : X = C * Es)
    (G : Fin 256 → EReal) (hG : ∀ s, G s = (Ideal.div (Dp s) D + C) * E s) (Dm : EReal) (hDm : Dm = -X + ∑ s, -G s) :
    ∃ (p : Fin 256 → ℝ) (ps : ℝ), (∀ s, Ideal.div (E s) D = p s) ∧ Ideal.div Es D = ps ∧ (∀ s, S s = ⊥ → p s = 0)
      ∧ (∀ s, G s = ((p s * (dp s - ∑ s, p s * dp s) : ℝ) : EReal)) ∧ X = ((-(ps * ∑ s, p s * dp s) : ℝ) : EReal) ∧ Dm = 0 := by
  obtain ⟨m, hm⟩ := top_real S hS k
  rw [hm] at hM
  subst hM
  have he : ∀ s, ∃ e : ℝ, E s = e ∧ 0 ≤ e ∧ (S s = ⊥ → e = 0) := fun s => by
    rw [hE]
    rcases hS s with h | ⟨r, h⟩
    · exact ⟨0, by rw [h, EReal.bot_sub]; rfl, le_rfl, fun _ => rfl⟩
    · refine ⟨Real.exp (r - m), by rw [h, ← EReal.coe_sub]; rfl, (Real.exp_pos _).le, fun hb => ?_⟩
      rw [h] at hb; exact absurd hb (EReal.coe_ne_bot r)
  choose e he0 he1 he2 using he
  have hes : Es = ((Real.exp (k - m) : ℝ) : EReal) := by rw [hEs, ← EReal.coe_sub]; rfl
  set es := Real.exp (k - m) with hes'
  have hes0 : 0 < es := Real.exp_pos _
  set d : ℝ := (∑ s, e s) + es with hd
  have hd0 : 0 < d := add_pos_of_nonneg_of_pos (Finset.sum_nonneg fun s _ => he1 s) hes0
  have hDd : D = d := by
    rw [hD, hes, Finset.sum_congr rfl fun s _ => he0 s, coe_total, ← EReal.coe_add]
  set c : ℝ := -∑ s, dp s * (1 / (d * d)) * e s with hc
  have hCc : C = c := by
    rw [hC, hDd, ← EReal.coe_mul, show (1 : EReal) = ((1 : ℝ) : EReal) from rfl, div_real 1 (mul_pos hd0 hd0).ne', hc, EReal.coe_neg, ← coe_total]
    refine congrArg _ (Finset.sum_congr rfl fun s _ => ?_)
    rw [hDp, he0, EReal.coe_mul, EReal.coe_mul]
  have hδ : ∑ s, e s / d * dp s = -(c * d) := by
    rw [hc, neg_mul, neg_neg, Finset.sum_mul]
    refine Finset.sum_congr rfl fun s _ => ?_
    field_simp
  have hGr : ∀ s, G s = ((e s / d * (dp s - ∑ s, e s / d * dp s) : ℝ) : EReal) := fun s => by
    rw [hG, hDp, hDd, hCc, he0, div_real _ hd0.ne', ← EReal.coe_add, ← EReal.coe_mul, hδ]
    congr 1; field_simp; ring
  refine ⟨fun s => e s / d, es / d, fun s => by rw [he0, hDd, div_real _ hd0.ne'], by rw [hes, hDd, div_real _ hd0.ne'], fun s hs => by show e s / d = 0; rw [he2 s hs, zero_div], hGr, ?_, ?_⟩
  · rw [hX, hCc, hes, ← EReal.coe_mul, hδ]
    congr 1; field_simp
  · rw [hDm, hX, hCc, hes, ← EReal.coe_mul]
    have h1 : ∀ s, -G s = ((-(e s / d * (dp s - ∑ s, e s / d * dp s)) : ℝ) : EReal) := fun s => by rw [hGr, EReal.coe_neg]
    rw [Finset.sum_congr rfl fun s _ => h1 s, coe_total, ← EReal.coe_neg, ← EReal.coe_add]
    have h2 : ∑ s, -(e s / d * (dp s - ∑ s, e s / d * dp s)) = (∑ s, e s / d) * (∑ s, e s / d * dp s) - ∑ s, e s / d * dp s := by
      rw [Finset.sum_mul, ← Finset.sum_sub_distrib]
      exact Finset.sum_congr rfl fun s _ => by ring
    have h3 : ∑ s, e s / d = 1 - es / d := by
      rw [← Finset.sum_div, eq_sub_iff_add_eq, ← add_div, div_self hd0.ne']
    rw [h2, h3, hδ]
    have : -(c * es) + ((1 - es / d) * -(c * d) - -(c * d)) = 0 := by field_simp; ring
    rw [this]; rfl

/-- The number of entries that are the largest one is not zero. -/
theorem ties (S : Fin 256 → EReal) (T : Fin 256 → EReal) (top : EReal) (htop : top = Finset.univ.fold max (⊥ : EReal) S)
    (hT : ∀ s, T s = FloatOps.uitofp (F := Ideal) FTy.f32 (BitVec.ofBool (decide (S s = top)))) : Ideal.div 0 (∑ s, T s) = 0 := by
  have hr : ∀ s, T s = ((if S s = top then 1 else 0 : ℝ) : EReal) := fun s => by
    rw [hT]
    by_cases h : S s = top
    · rw [if_pos h, decide_eq_true h]
      show (((BitVec.ofBool true).toNat : ℝ) : EReal) = _
      simp
    · rw [if_neg h, decide_eq_false h]
      show (((BitVec.ofBool false).toNat : ℝ) : EReal) = _
      simp
  obtain ⟨s0, -, h0⟩ := Finset.exists_max_image (Finset.univ : Finset (Fin 256)) S ⟨0, Finset.mem_univ _⟩
  have h1 : S s0 = top := by
    rw [htop]
    apply le_antisymm
    · rw [Finset.le_fold_max]
      exact Or.inr ⟨s0, Finset.mem_univ _, le_rfl⟩
    · rw [Finset.fold_max_le]
      exact ⟨bot_le, fun s hs => h0 s hs⟩
  have hpos : (∑ s, (if S s = top then 1 else 0 : ℝ)) ≠ 0 := by
    apply ne_of_gt
    refine Finset.sum_pos' (fun s _ => by split_ifs <;> norm_num) ⟨s0, Finset.mem_univ _, by rw [if_pos h1]; norm_num⟩
  rw [Finset.sum_congr rfl fun s _ => hr s, coe_total, show (0 : EReal) = ((0 : ℝ) : EReal) from rfl, div_real 0 hpos, zero_div]
end Cert.SwaRefIdeal.Math
end
-- ==== Proof.SwaSpec.lean ====
/-
  The attention reference over the reals: where the arguments are finite, its scores' gradient, its bands and its two results
  are the real formulas the kernel's blocks are read as.
-/
module
public import proofs.«01_k».proof.Proof.SwaOut
public import proofs.«01_k».proof.Proof.SwaRow
public import proofs.«01_k».proof.Proof.SwaReal
@[expose] public section
set_option maxRecDepth 16384
noncomputable section
namespace Cert.SwaRefIdeal.Math
open Cert.SwaRefIdeal Cert.SwaRefIdeal.Gen Cert.SwaRefIdeal.Value Idealize.ShloMosaic Idealize.ShloMosaic.TcCoe Idealize.SL.Sem Idealize.ShloMosaic.StableHlo
open Cert.SwaBwdIdeal.Blk (head kvh dpS deltaS dsS dqS qh dkS dvS dkB dvB cat coe_total eighth)

section Arrays
variable (z : Fin 2 → Fin 4096 → Fin 768 → ℝ) (o : Fin 2 → Fin 4096 → Fin 512 → ℝ) (b : Fin 2) (n : Fin 32)
/-- A block's queries. -/
def qB : Fin 128 → Fin 512 → ℝ := fun i l => z b ⟨n.val * 128 + i.val, by omega⟩ ⟨l.val, by omega⟩
/-- A block's cotangent. -/
def oB : Fin 128 → Fin 512 → ℝ := fun i l => o b ⟨n.val * 128 + i.val, by omega⟩ l
/-- A block's keys. -/
def kB : Fin 128 → Fin 128 → ℝ := fun i l => z b ⟨n.val * 128 + i.val, by omega⟩ ⟨512 + l.val, by omega⟩
/-- A block's values. -/
def vB : Fin 128 → Fin 128 → ℝ := fun i l => z b ⟨n.val * 128 + i.val, by omega⟩ ⟨640 + l.val, by omega⟩
/-- The band of keys a block sees: the block before it (zero before the first) and its own. -/
def kZ : Fin 256 → Fin 128 → ℝ := fun s l => if n.val = 0 ∧ s.val < 128 then 0 else z b ⟨n.val * 128 + s.val - 128, by omega⟩ ⟨512 + l.val, by omega⟩
/-- The band of values. -/
def vZ : Fin 256 → Fin 128 → ℝ := fun s l => if n.val = 0 ∧ s.val < 128 then 0 else z b ⟨n.val * 128 + s.val - 128, by omega⟩ ⟨640 + l.val, by omega⟩
end Arrays

variable (V0 : Valuation τ sig (Elt Ideal))
/-- The probabilities of a block, over the reals. -/
def pB (b : Fin 2) (n : Fin 32) : Fin 8 → Fin 128 → Fin 256 → ℝ := fun h i s => (rP V0 b n ⟨h.val / 4, by omega⟩ ⟨h.val % 4, by omega⟩ i s).toReal
/-- The sinks' probabilities of a block, over the reals. -/
def psB (b : Fin 2) (n : Fin 32) (h : Fin 8) (i : Fin 128) : ℝ :=
  (Ideal.div (rEs V0 b n ⟨h.val / 4, by omega⟩ ⟨h.val % 4, by omega⟩ i) (rDen V0 b n ⟨h.val / 4, by omega⟩ ⟨h.val % 4, by omega⟩ i)).toReal

theorem qh_div (kv : Fin 2) (g : Fin 4) (h) : (⟨(qh kv g).val / 4, h⟩ : Fin 2) = kv := Fin.ext (by show (kv.val * 4 + g.val) / 4 = kv.val; omega)
theorem qh_mod (kv : Fin 2) (g : Fin 4) (h) : (⟨(qh kv g).val % 4, h⟩ : Fin 4) = g := Fin.ext (by show (kv.val * 4 + g.val) % 4 = g.val; omega)
theorem qh_of (h : Fin 8) (h1 h2) : qh ⟨h.val / 4, h1⟩ ⟨h.val % 4, h2⟩ = h := Fin.ext (by show h.val / 4 * 4 + h.val % 4 = h.val; omega)

variable (z : Fin 2 → Fin 4096 → Fin 768 → ℝ) (k : Fin 8 → ℝ) (o : Fin 2 → Fin 4096 → Fin 512 → ℝ)
  (hz : ∀ b r l, A0 V0 b r l = z b r l) (hk : ∀ h, A1 V0 h = k h) (ho : ∀ b r l, A2 V0 b r l = o b r l)
variable (b : Fin 2) (n : Fin 32) (kv : Fin 2) (g : Fin 4) (i : Fin 128) (s : Fin 256) (d : Fin 64)
include hz in
theorem q_real : rQ V0 b n kv g i d = head (qB z b n) (qh kv g) i d := by
  rw [q_at V0 b n kv g i d (by omega) (by omega), hz]
  unfold head qB qh
  congr 2; apply Fin.ext; show kv.val * 256 + g.val * 64 + d.val = (kv.val * 4 + g.val) * 64 + d.val; omega
include ho in
theorem do_real : rDo V0 b n kv g i d = head (oB o b n) (qh kv g) i d := by
  rw [do_at V0 b n kv g i d (by omega) (by omega), ho]
  unfold head oB qh
  congr 2; apply Fin.ext; show kv.val * 256 + g.val * 64 + d.val = (kv.val * 4 + g.val) * 64 + d.val; omega
include hz in
theorem k_real : rK V0 b n kv s d = kvh (kZ z b n) (qh kv g) s d := by
  rw [k_at V0 b n kv s d (by omega) (by omega)]
  unfold kvh kZ qh
  split_ifs
  · rfl
  · rw [hz]
    congr 2; apply Fin.ext; show 512 + (kv.val * 64 + d.val) = 512 + ((kv.val * 4 + g.val) / 4 * 64 + d.val); omega
include hz in
theorem v_real : rV V0 b n kv s d = kvh (vZ z b n) (qh kv g) s d := by
  rw [v_at V0 b n kv s d (by omega) (by omega)]
  unfold kvh vZ qh
  split_ifs
  · rfl
  · rw [hz]
    congr 2; apply Fin.ext; show 640 + (kv.val * 64 + d.val) = 640 + ((kv.val * 4 + g.val) / 4 * 64 + d.val); omega
include hz ho in
theorem dp_real : rDp V0 b n kv g i s = dpS (oB o b n) (vZ z b n) (qh kv g) i s := by
  rw [dp_at]
  unfold dpS
  rw [← coe_total]
  refine Finset.sum_congr rfl fun x _ => ?_
  rw [do_real V0 o ho, v_real V0 z hz b n kv g, EReal.coe_mul]

theorem neg_eight : (Ideal.ofBits .f32 0xC1000000#32) = ((-8 : ℝ) : EReal) := by
  simp [Ideal.ofBits, Ideal.ieee]; rw [← EReal.coe_mul]; norm_num
theorem eight : (Ideal.ofBits .f32 0x41000000#32) = ((8 : ℝ) : EReal) := by
  simp [Ideal.ofBits, Ideal.ieee]; rw [← EReal.coe_mul]; norm_num
theorem ln_two : ∃ r : ℝ, (Ideal.ofBits .f32 0x3F317218#32) = (r : EReal) := by
  simp [Ideal.ofBits, Ideal.ieee]; rw [← EReal.coe_mul]; exact ⟨_, rfl⟩
theorem neg_inf : (Ideal.ofBits .f32 0xFF800000#32) = (⊥ : EReal) := by simp [Ideal.ofBits, Ideal.ieee]

include hz in
/-- A score is −∞ or a real number; outside the mask it is −∞. -/
theorem score_real : rS V0 b n kv g i s = ⊥ ∨ ∃ r : ℝ, rS V0 b n kv g i s = r := by
  rw [score_at]
  unfold Scalar.select
  split
  · right
    have h : ∀ x, rK V0 b n kv s x * rQ V0 b n kv g i x = ((kvh (kZ z b n) (qh kv g) s x * head (qB z b n) (qh kv g) i x : ℝ) : EReal) := fun x => by
      rw [q_real V0 z hz, k_real V0 z hz b n kv g, EReal.coe_mul]
    obtain ⟨r, hr⟩ := ln_two
    have e8 : Ideal.ofBits FTy.f32 1040187392#32 = ((1/8 : ℝ) : EReal) := eighth
    rw [show Ideal.ofBits FTy.f32 1060205080#32 = (r : EReal) from hr, show Ideal.ofBits FTy.f32 3238002688#32 = _ from neg_eight,
      show Ideal.ofBits FTy.f32 1090519040#32 = _ from eight, Ideal.div_coe (by norm_num), e8, Finset.sum_congr rfl fun x _ => h x, coe_total]
    generalize hu : FloatOps.sitofp (F := Ideal) FTy.f32 (BitVec.ofNat 32 (kv.val * 4 + g.val)) = u
    generalize hv : FloatOps.sitofp (F := Ideal) FTy.f32 (IntOp.addi (IntOp.subi (BitVec.ofNat 32 i.val) (BitVec.ofNat 32 s.val)) 128#32) = v
    obtain ⟨u, rfl⟩ : ∃ u' : ℝ, u = (u' : EReal) := ⟨_, hu.symm⟩
    obtain ⟨v, rfl⟩ : ∃ u' : ℝ, v = (u' : EReal) := ⟨_, hv.symm⟩
    rw [← EReal.coe_one]
    simp only [← EReal.coe_mul, ← EReal.coe_add, Ideal.exp_coe, ← EReal.coe_neg]
    exact ⟨_, rfl⟩
  · left; exact neg_inf

theorem masked (hc : ¬ res_main_v78_1 V0 (ix6 b n kv g i s) = 1#1) : rS V0 b n kv g i s = ⊥ := by
  rw [score_at]
  unfold Scalar.select
  exact (if_neg hc).trans neg_inf
theorem off_pos : ∀ x : Fin 128, IntOp.cmpi CmpIPredicate.sge (IntOp.subi (IntOp.addi (IntOp.muli (BitVec.ofNat 32 0) 128#32) (BitVec.ofNat 32 x.val)) 128#32) 0#32 = 0#1 := by decide
theorem andi_zero : ∀ x : BitVec 1, IntOp.andi x 0#1 = 0#1 := fun x => BitVec.and_zero
/-- The block of zeros before the first block is masked. -/
theorem off_band (h : n.val = 0 ∧ s.val < 128) : ¬ res_main_v78_1 V0 (ix6 b n kv g i s) = 1#1 := by
  rw [valid_at, h.1, off_pos ⟨s.val, h.2⟩, andi_zero]
  exact fun e => absurd (show (0#1 : BitVec 1) = 1#1 from e) (by decide)

include hz hk ho in
theorem row : ∃ (p : Fin 256 → ℝ) (ps : ℝ), (∀ s, rP V0 b n kv g i s = p s) ∧ Ideal.div (rEs V0 b n kv g i) (rDen V0 b n kv g i) = ps
    ∧ (∀ s, rS V0 b n kv g i s = ⊥ → p s = 0)
    ∧ (∀ s, rG V0 b n kv g i s = ((p s * (dpS (oB o b n) (vZ z b n) (qh kv g) i s - ∑ s, p s * dpS (oB o b n) (vZ z b n) (qh kv g) i s) : ℝ) : EReal))
    ∧ rDsink V0 b n kv g i = ((-(ps * ∑ s, p s * dpS (oB o b n) (vZ z b n) (qh kv g) i s) : ℝ) : EReal) ∧ rDm V0 b n kv g i = 0 := by
  obtain ⟨p, ps, h1, h2, h3, h4, h5, h6⟩ := row_core (fun s => rS V0 b n kv g i s) (fun s => score_real V0 z hz b n kv g i s) (k (qh kv g)) (rM V0 b n kv g i)
    (by rw [m_at V0 b n kv g i (by omega), top_at, show Ideal.ofBits FTy.f32 4286578688#32 = _ from neg_inf, hk]; rfl)
    (fun s => rE V0 b n kv g i s) (fun s => e_at V0 b n kv g i s) (rEs V0 b n kv g i) (by rw [es_at V0 b n kv g i (by omega), hk]; rfl)
    (rDen V0 b n kv g i) (den_at V0 b n kv g i) (dpS (oB o b n) (vZ z b n) (qh kv g) i) (fun s => rDp V0 b n kv g i s)
    (fun s => dp_real V0 z o hz ho b n kv g i s) (rC V0 b n kv g i) (c_at V0 b n kv g i) (rDsink V0 b n kv g i) (dsink_at V0 b n kv g i)
    (fun s => rG V0 b n kv g i s) (fun s => g_at V0 b n kv g i s) (rDm V0 b n kv g i) (dm_at V0 b n kv g i)
  exact ⟨p, ps, fun s => (p_at V0 b n kv g i s).trans (h1 s), h2, h3, h4, h5, h6⟩

theorem pB_qh : pB V0 b n (qh kv g) i s = (rP V0 b n kv g i s).toReal := by unfold pB; rw [qh_div, qh_mod]
theorem psB_qh : psB V0 b n (qh kv g) i = (Ideal.div (rEs V0 b n kv g i) (rDen V0 b n kv g i)).toReal := by unfold psB; rw [qh_div, qh_mod]
include hz hk ho in
theorem p_real : rP V0 b n kv g i s = pB V0 b n (qh kv g) i s := by
  obtain ⟨p, ps, h1, -⟩ := row V0 z k o hz hk ho b n kv g i
  rw [pB_qh, h1]; rfl
include hz hk ho in
theorem ps_real : Ideal.div (rEs V0 b n kv g i) (rDen V0 b n kv g i) = psB V0 b n (qh kv g) i := by
  obtain ⟨p, ps, h1, h2, -⟩ := row V0 z k o hz hk ho b n kv g i
  rw [psB_qh, h2]; rfl
include hz hk ho in
theorem p_masked (hc : ¬ res_main_v78_1 V0 (ix6 b n kv g i s) = 1#1) : pB V0 b n (qh kv g) i s = 0 := by
  obtain ⟨p, ps, h1, h2, h3, -⟩ := row V0 z k o hz hk ho b n kv g i
  rw [pB_qh, h1, h3 s (masked V0 b n kv g i s hc)]; rfl
include hz hk ho in
theorem dm_zero : rDm V0 b n kv g i = 0 := by
  obtain ⟨p, ps, h1, h2, h3, h4, h5, h6⟩ := row V0 z k o hz hk ho b n kv g i
  exact h6
include hz hk ho in
theorem g_real : rG V0 b n kv g i s = (dsS (oB o b n) (vZ z b n) (pB V0 b n) (qh kv g) i s : ℝ) := by
  obtain ⟨p, ps, h1, h2, h3, h4, -⟩ := row V0 z k o hz hk ho b n kv g i
  have e : ∀ s, pB V0 b n (qh kv g) i s = p s := fun s => by rw [pB_qh, h1]; rfl
  rw [h4]; unfold dsS deltaS
  simp only [e]
include hz hk ho in
theorem dsink_real : rDsink V0 b n kv g i = ((-(psB V0 b n (qh kv g) i * deltaS (oB o b n) (vZ z b n) (pB V0 b n) (qh kv g) i) : ℝ) : EReal) := by
  obtain ⟨p, ps, h1, h2, h3, h4, h5, -⟩ := row V0 z k o hz hk ho b n kv g i
  have e : ∀ s, pB V0 b n (qh kv g) i s = p s := fun s => by rw [pB_qh, h1]; rfl
  rw [h5, psB_qh, h2]; unfold deltaS
  simp only [e]; rfl
include hz hk ho in
theorem ds_real : rDs V0 b n kv g i s = ((dsS (oB o b n) (vZ z b n) (pB V0 b n) (qh kv g) i s * (1/8) : ℝ) : EReal) := by
  rw [ds_at V0 b n kv g i s (dm_zero V0 z k o hz hk ho b n kv g i),
    ties (fun s => rS V0 b n kv g i s) (fun s => rTie V0 b n kv g i s) (rTop V0 b n kv g i)
      (by rw [top_at, show Ideal.ofBits FTy.f32 4286578688#32 = _ from neg_inf]) (fun s => tie_at V0 b n kv g i s),
    zero_mul, add_zero, show Ideal.ofBits FTy.f32 1040187392#32 = _ from eighth, g_real V0 z k o hz hk ho, ← EReal.coe_mul]
  unfold Scalar.select
  split
  · rfl
  · rename_i hc
    unfold dsS
    rw [p_masked V0 z k o hz hk ho b n kv g i s hc, zero_mul, zero_mul, EReal.coe_zero]

/-- The gradient of the band's keys and of its values, over the reals. -/
def dkR (b : Fin 2) (n : Fin 32) : Fin 256 → Fin 128 → ℝ := dkB (qB z b n) (oB o b n) (vZ z b n) (pB V0 b n)
def dvR (b : Fin 2) (n : Fin 32) : Fin 256 → Fin 128 → ℝ := dvB (oB o b n) (pB V0 b n)
include hz hk ho in
theorem dk_real (l : Fin 128) (h1 h2) : rDk V0 b n ⟨l.val / 64, h1⟩ s ⟨l.val % 64, h2⟩ = dkR V0 z o b n s l := by
  rw [dk_at, Finset.sum_comm]
  unfold dkR dkB dkS
  rw [← coe_total]
  refine Finset.sum_congr rfl fun g _ => ?_
  rw [Finset.sum_mul, ← coe_total]
  refine Finset.sum_congr rfl fun i _ => ?_
  rw [ds_real V0 z k o hz hk ho, q_real V0 z hz, ← EReal.coe_mul]
  congr 1; ring
include hz hk ho in
theorem dv_real (l : Fin 128) (h1 h2) : rDv V0 b n ⟨l.val / 64, h1⟩ s ⟨l.val % 64, h2⟩ = dvR V0 o b n s l := by
  rw [dv_at]
  unfold dvR dvB dvS
  rw [← coe_total]
  refine Finset.sum_congr rfl fun g _ => ?_
  rw [← coe_total]
  refine Finset.sum_congr rfl fun i _ => ?_
  rw [do_real V0 o ho, p_real V0 z k o hz hk ho, ← EReal.coe_mul]
  congr 1; ring
include hz hk ho in
theorem dq_real (h : Fin 8) (h1 h2) : ∑ s, rDs V0 b n ⟨h.val / 4, h1⟩ ⟨h.val % 4, h2⟩ i s * rK V0 b n ⟨h.val / 4, h1⟩ s d
    = (dqS (oB o b n) (kZ z b n) (vZ z b n) (pB V0 b n) i h d : ℝ) := by
  unfold dqS
  rw [Finset.sum_mul, ← coe_total]
  refine Finset.sum_congr rfl fun s _ => ?_
  rw [ds_real V0 z k o hz hk ho, k_real V0 z hz b n ⟨h.val / 4, h1⟩ ⟨h.val % 4, h2⟩, qh_of, ← EReal.coe_mul]
  congr 1; ring

/-- One row of the first result over the reals. -/
def dzR (b : Fin 2) (n : Fin 32) (i : Fin 128) (L : Fin 768) : ℝ :=
  if h : L.val < 512 then dqS (oB o b n) (kZ z b n) (vZ z b n) (pB V0 b n) i ⟨L.val / 64, by omega⟩ ⟨L.val % 64, by omega⟩
  else if h' : L.val < 640 then dkR V0 z o b n ⟨128 + i.val, by omega⟩ ⟨L.val - 512, by omega⟩ + (if h : n.val + 1 < 32 then dkR V0 z o b ⟨n.val + 1, h⟩ ⟨i.val, by omega⟩ ⟨L.val - 512, by omega⟩ else 0)
  else dvR V0 o b n ⟨128 + i.val, by omega⟩ ⟨L.val - 640, by omega⟩ + (if h : n.val + 1 < 32 then dvR V0 o b ⟨n.val + 1, h⟩ ⟨i.val, by omega⟩ ⟨L.val - 640, by omega⟩ else 0)
include hz hk ho in
theorem dz_real (h1) (L : Fin 768) : dzVec V0 (ix3 b ⟨n.val * 128 + i.val, h1⟩ L) = (dzR V0 z o b n i L : ℝ) := by
  rw [dzVec_at]
  unfold dzR
  split_ifs with a1 a2 a3
  · exact dq_real V0 z k o hz hk ho b n i ⟨L.val % 64, by omega⟩ ⟨L.val / 64, by omega⟩ _ _
  · rw [dk_real V0 z k o hz hk ho b n ⟨128 + i.val, by omega⟩ ⟨L.val - 512, by omega⟩, dk_real V0 z k o hz hk ho b ⟨n.val + 1, a3⟩ ⟨i.val, by omega⟩ ⟨L.val - 512, by omega⟩, ← EReal.coe_add]
  · rw [dk_real V0 z k o hz hk ho b n ⟨128 + i.val, by omega⟩ ⟨L.val - 512, by omega⟩]
    simp
  · rename_i a4
    rw [dv_real V0 z k o hz hk ho b n ⟨128 + i.val, by omega⟩ ⟨L.val - 640, by omega⟩, dv_real V0 z k o hz hk ho b ⟨n.val + 1, a4⟩ ⟨i.val, by omega⟩ ⟨L.val - 640, by omega⟩, ← EReal.coe_add]
  · rw [dv_real V0 z k o hz hk ho b n ⟨128 + i.val, by omega⟩ ⟨L.val - 640, by omega⟩]
    simp
/-- The second result over the reals. -/
def sinkR (l : Fin 128) : ℝ := if h : l.val < 8 then ∑ b, ∑ n, ∑ i, -(psB V0 b n ⟨l.val, h⟩ i * deltaS (oB o b n) (vZ z b n) (pB V0 b n) ⟨l.val, h⟩ i) else 0
include hz hk ho in
theorem sink_real (l : Fin 128) : sinkVec V0 (ix2 0 l) = (sinkR V0 z o l : ℝ) := by
  rw [sinkVec_at V0 (fun b n kv g i => dm_zero V0 z k o hz hk ho b n kv g i)]
  unfold sinkR
  split_ifs with h
  · rw [← coe_total]; refine Finset.sum_congr rfl fun b _ => ?_
    rw [← coe_total]; refine Finset.sum_congr rfl fun n _ => ?_
    rw [← coe_total]; refine Finset.sum_congr rfl fun i _ => ?_
    rw [dsink_real V0 z k o hz hk ho, show qh ⟨l.val / 4, by omega⟩ ⟨l.val % 4, by omega⟩ = (⟨l.val, h⟩ : Fin 8) from qh_of ⟨l.val, h⟩ _ _]
  · rfl
end Cert.SwaRefIdeal.Math
end
-- ==== Proof.SwaRun.lean ====
/-
  What the attention kernel's points leave, one after another, when the arguments are finite: its rows of the gradient,
  the sinks' running sum, and what is carried to the block before.
-/
module
public import proofs.«01_k».proof.Proof.SwaBlk
public import proofs.«01_k».proof.Proof.SwaHost
public import proofs.«01_k».proof.Proof.SwaSpec
@[expose] public section
set_option maxRecDepth 16384
noncomputable section
namespace Cert.SwaBwdIdeal.Blk
open Cert.SwaBwdIdeal Cert.SwaBwdIdeal.Gen Idealize.ShloMosaic Idealize.ShloMosaic.TcCoe Idealize.SL.Sem Idealize.ShloMosaic.StableHlo
open Cert.SwaRefIdeal.Math (qB oB kB vB kZ vZ pB psB dkR dvR dzR sinkR A0 A1 A2 dzVec sinkVec)
open Cert.SwaBwdIdeal.Math (sinkRows sinkRows_at V97 V97_at V96 V101)

/-- Two bands that agree wherever a probability is not zero give the same gradients. -/
theorem swap_band (q d : Fin 128 → Fin 512 → ℝ) (K K' V V' : Fin 256 → Fin 128 → ℝ) (p : Fin 8 → Fin 128 → Fin 256 → ℝ)
    (hV : ∀ h i s, p h i s = 0 ∨ (∀ l, V s l = V' s l) ∧ ∀ l, K s l = K' s l) :
    deltaS d V p = deltaS d V' p ∧ dsS d V p = dsS d V' p ∧ dqS d K V p = dqS d K' V' p ∧ dkB q d V p = dkB q d V' p := by
  have hd : ∀ h i s, p h i s * dpS d V h i s = p h i s * dpS d V' h i s := fun h i s => by
    rcases hV h i s with e | ⟨e, -⟩
    · rw [e, zero_mul, zero_mul]
    · unfold dpS kvh; simp only [e]
  have h1 : deltaS d V p = deltaS d V' p := by
    funext h i; unfold deltaS; exact Finset.sum_congr rfl fun s _ => hd h i s
  have h2 : dsS d V p = dsS d V' p := by
    funext h i s; unfold dsS; rw [mul_sub, mul_sub, hd, h1]
  refine ⟨h1, h2, ?_, ?_⟩
  · funext i h x
    unfold dqS
    rw [h2]
    refine congrArg (· * (1/8)) (Finset.sum_congr rfl fun s _ => ?_)
    rcases hV h i s with e | ⟨-, e⟩
    · unfold dsS; rw [e, zero_mul, zero_mul, zero_mul]
    · unfold kvh; rw [e]
  · unfold dkB dkS; rw [h2]

variable (W : Valuation Cert.SwaRefIdeal.τ Cert.SwaRefIdeal.sig (Elt Ideal))
variable (z : Fin 2 → Fin 4096 → Fin 768 → ℝ) (k : Fin 8 → ℝ) (o : Fin 2 → Fin 4096 → Fin 512 → ℝ)
  (hz : ∀ b r l, A0 W b r l = z b r l) (hk : ∀ h, A1 W h = k h) (ho : ∀ b r l, A2 W b r l = o b r l)
variable (b : Fin 2) (n : Fin 32)

/-- The keys (and the values) of the block before; the first block's are its own, which the mask leaves out. -/
def kP : Fin 128 → Fin 128 → ℝ := kB z b ⟨n.val - 1, by omega⟩
def vP : Fin 128 → Fin 128 → ℝ := vB z b ⟨n.val - 1, by omega⟩
/-- What a block carries on, and what it is given. -/
def outC (h : Fin 2) (s l : Fin 128) : ℝ := if h = 0 then dkR W z o b n ⟨s.val, by omega⟩ l else dvR W o b n ⟨s.val, by omega⟩ l
def inC (h : Fin 2) (s l : Fin 128) : ℝ := if e : n.val + 1 < 32 then outC W z o b ⟨n.val + 1, e⟩ h s l else 0
/-- A block's part of the sinks' gradient. -/
def skB (l : Fin 128) : ℝ := if h : l.val < 8 then ∑ i, psB W b n ⟨l.val, h⟩ i * deltaS (oB o b n) (vZ z b n) (pB W b n) ⟨l.val, h⟩ i else 0
def psL (i l : Fin 128) : ℝ := if h : l.val < 8 then psB W b n ⟨l.val, h⟩ i else 0

include hz hk ho in
theorem band_eq : ∀ h i s, pB W b n h i s = 0 ∨ (∀ l, (cat (vP z b n) (vB z b n) : Fin 256 → Fin 128 → ℝ) s l = vZ z b n s l) ∧ ∀ l, (cat (kP z b n) (kB z b n) : Fin 256 → Fin 128 → ℝ) s l = kZ z b n s l := fun h i s => by
  by_cases e : n.val = 0 ∧ s.val < 128
  · left
    have := Cert.SwaRefIdeal.Math.p_masked W z k o hz hk ho b n ⟨h.val / 4, by omega⟩ ⟨h.val % 4, by omega⟩ i s
      (Cert.SwaRefIdeal.Math.off_band W b n _ _ i s e)
    rwa [Cert.SwaRefIdeal.Math.qh_of] at this
  · right
    unfold cat vZ kZ kP vP vB kB
    constructor <;> intro l <;> rw [if_neg e] <;> split_ifs with h1 h2
    · congr 1; ext; show (n.val - 1) * 128 + s.val = n.val * 128 + s.val - 128; omega
    · congr 1; ext; show n.val * 128 + (s.val - 128) = n.val * 128 + s.val - 128; omega
    · omega
    · congr 1; ext; show (n.val - 1) * 128 + s.val = n.val * 128 + s.val - 128; omega
    · congr 1; ext; show n.val * 128 + (s.val - 128) = n.val * 128 + s.val - 128; omega
    · omega
include hz hk ho in
theorem out_eq : out8 (qB z b n) (oB o b n) (kP z b n) (kB z b n) (vP z b n) (vB z b n) (pB W b n) (inC W z o b n) = dzR W z o b n := by
  obtain ⟨-, -, h3, h4⟩ := swap_band (qB z b n) (oB o b n) _ _ _ _ _ (band_eq W z k o hz hk ho b n)
  funext i L
  unfold out8 dzR
  rw [h3, h4]
  rfl
include hz hk ho in
theorem carry_eq : carryS (qB z b n) (oB o b n) (vP z b n) (vB z b n) (pB W b n) = outC W z o b n := by
  obtain ⟨-, -, h3, h4⟩ := swap_band (qB z b n) (oB o b n) _ _ _ _ _ (band_eq W z k o hz hk ho b n)
  funext h s l
  unfold carryS outC
  rw [h4]
  rfl
include hz hk ho in
theorem sink_eq (l : Fin 128) : ∑ i, psL W b n i l * sinkW (oB o b n) (vP z b n) (vB z b n) (pB W b n) l i = skB W z o b n l := by
  obtain ⟨h1, -, h3, h4⟩ := swap_band (qB z b n) (oB o b n) _ _ _ _ _ (band_eq W z k o hz hk ho b n)
  unfold psL sinkW skB
  rw [h1]
  split_ifs
  · rfl
  · simp

variable (m : (ℓ : Loc nD τ sig) → Buf (Elt Ideal) ℓ) (c : Dev nD)
  (h0 : W (Proc.devRef .tc Cert.SwaRefIdeal.main_arg0) = m ((c.tc : Thread nD τ).loc main_arg0))
  (h1 : W (Proc.devRef .tc Cert.SwaRefIdeal.main_arg1) = m ((c.tc : Thread nD τ).loc main_arg1))
  (h2 : W (Proc.devRef .tc Cert.SwaRefIdeal.main_arg2) = m ((c.tc : Thread nD τ).loc main_arg2))

/-- The batch row and the block of a point. -/
def trow (t : ℕ) (h : t < 64) : Fin 2 := ⟨t / 32, by omega⟩
def tblk (t : ℕ) : Fin 32 := ⟨31 - t % 32, by omega⟩
/-- The sinks' running sum before a point. -/
def acR (t : ℕ) (l : Fin 128) : ℝ := -∑ u ∈ Finset.range t, if h : u < 64 then skB W z o (trow u h) (tblk u) l else 0

include hz h0 in
theorem arg0_real (b : Fin 2) (r : Fin 4096) (l : Fin 768) : (m ((c : Thread nD τ).loc main_arg0) : Vec Ideal S2x4096x768 .f32) (ix3 b r l) = (z b r l : EReal) := by
  rw [← hz, ← h0]; rfl
include ho h2 in
theorem arg2_real (b : Fin 2) (r : Fin 4096) (l : Fin 512) : (m ((c : Thread nD τ).loc main_arg2) : Vec Ideal S2x4096x512 .f32) (ix3 b r l) = (o b r l : EReal) := by
  rw [← ho, ← h2]; rfl

include hz hk ho h0 h1 h2
theorem at_point (t : Fin cfg0.N) (ht : t.val < 64)
    (hp : ¬t.val % 32 = 0 → (outsAt0 m c (t.val - 1) (Nat.lt_of_le_of_lt (Nat.sub_le _ _) t.isLt)).2.2 = mat3 (φ := .f32) (outC W z o (trow (t.val - 1) (by omega)) (tblk (t.val - 1))))
    (ha : ¬t.val % 64 = 0 → (outsAt0 m c (t.val - 1) (Nat.lt_of_le_of_lt (Nat.sub_le _ _) t.isLt)).2.1 = mat (φ := .f32) (fun _ => acR W z o t.val)) :
    (outsAt0 m c t.val t.isLt).1 = mat1 (φ := .bf16) (dzR W z o (trow t.val ht) (tblk t.val))
      ∧ (outsAt0 m c t.val t.isLt).2.1 = mat (φ := .f32) (fun _ => acR W z o (t.val + 1))
      ∧ (outsAt0 m c t.val t.isLt).2.2 = mat3 (φ := .f32) (outC W z o (trow t.val ht) (tblk t.val)) := by
  obtain ⟨e1, e2, e3⟩ := step m c t (qB z (trow t.val ht) (tblk t.val)) (oB o (trow t.val ht) (tblk t.val)) (kP z (trow t.val ht) (tblk t.val)) (kB z (trow t.val ht) (tblk t.val))
    (vP z (trow t.val ht) (tblk t.val)) (vB z (trow t.val ht) (tblk t.val)) (psL W (trow t.val ht) (tblk t.val)) (pB W (trow t.val ht) (tblk t.val)) (inC W z o (trow t.val ht) (tblk t.val)) (acR W z o t.val)
    (fun i l => (x0 m c t i l (by omega) (by omega) (by omega)).trans (arg0_real W z hz m c h0 _ _ _))
    (fun i l => (x5 m c t i l (by omega) (by omega)).trans (arg2_real W o ho m c h2 _ _ _))
    (fun i l => (x1 m c t i l (by omega) (by omega) (by omega)).trans (arg0_real W z hz m c h0 _ _ _))
    (fun i l => (x2 m c t i l (by omega) (by omega) (by omega)).trans (arg0_real W z hz m c h0 _ _ _))
    (fun i l => (x3 m c t i l (by omega) (by omega) (by omega)).trans (arg0_real W z hz m c h0 _ _ _))
    (fun i l => (x4 m c t i l (by omega) (by omega) (by omega)).trans (arg0_real W z hz m c h0 _ _ _))
    (fun h i s => by
      rw [x6 m c t h i s (by omega) (by omega), V97 m c W h0 h1]
      refine (V97_at _ _ _ h i s).trans ?_
      refine (Cert.SwaRefIdeal.Math.p_real W z k o hz hk ho (trow t.val ht) (tblk t.val) ⟨h.val / 4, by omega⟩ ⟨h.val % 4, by omega⟩ i s).trans ?_
      rw [Cert.SwaRefIdeal.Math.qh_of])
    (fun i l => by
      rw [x7 m c t i l (by omega) (by omega), V101 m c, V96 m c W h0 h1]
      refine (sinkRows_at _ (trow t.val ht) (tblk t.val) i l (by show (31 - t.val % 32) * 128 + i.val < 4096; omega)).trans ?_
      unfold psL
      split_ifs with h
      · refine (Cert.SwaRefIdeal.Math.ps_real W z k o hz hk ho (trow t.val ht) (tblk t.val) ⟨l.val / 4, by omega⟩ ⟨l.val % 4, by omega⟩ i).trans ?_
        rw [show qh ⟨l.val / 4, by omega⟩ ⟨l.val % 4, by omega⟩ = (⟨l.val, h⟩ : Fin 8) from Cert.SwaRefIdeal.Math.qh_of ⟨l.val, h⟩ _ _]
      · rfl)
    (fun hn h i l => by
      rw [hp hn]
      unfold inC
      have e : (tblk t.val).val + 1 < 32 := by show 31 - t.val % 32 + 1 < 32; omega
      rw [dif_pos e]
      have eb : trow (t.val - 1) (by omega) = trow t.val ht := Fin.ext (by show (t.val - 1) / 32 = t.val / 32; omega)
      have en : tblk (t.val - 1) = ⟨(tblk t.val).val + 1, e⟩ := Fin.ext (by show 31 - (t.val - 1) % 32 = 31 - t.val % 32 + 1; omega)
      rw [eb, en]; rfl)
    (fun hn => by
      funext h i l
      unfold inC
      rw [dif_neg (by show ¬ 31 - t.val % 32 + 1 < 32; omega)])
    ha
    (fun hn => by
      have : t.val = 0 := by omega
      funext l; unfold acR; rw [this]; simp)
  refine ⟨?_, ?_, ?_⟩
  · rw [e1, out_eq W z k o hz hk ho]
  · rw [e2]
    refine congrArg (mat (φ := .f32)) ?_
    funext _ l
    rw [sink_eq W z k o hz hk ho]
    unfold acR
    rw [Finset.sum_range_succ, dif_pos ht]
    ring
  · rw [e3, carry_eq W z k o hz hk ho]

theorem points : ∀ (t : ℕ) (hN : t < cfg0.N) (ht : t < 64),
    (outsAt0 m c t hN).1 = mat1 (φ := .bf16) (dzR W z o (trow t ht) (tblk t))
      ∧ (outsAt0 m c t hN).2.1 = mat (φ := .f32) (fun _ => acR W z o (t + 1))
      ∧ (outsAt0 m c t hN).2.2 = mat3 (φ := .f32) (outC W z o (trow t ht) (tblk t)) := by
  intro t
  induction t with
  | zero => exact fun hN ht => at_point W z k o hz hk ho m c h0 h1 h2 ⟨0, hN⟩ ht (fun h => absurd rfl h) (fun h => absurd rfl h)
  | succ t ih =>
    intro hN ht
    obtain ⟨-, a, b⟩ := ih (by omega) (by omega)
    exact at_point W z k o hz hk ho m c h0 h1 h2 ⟨t + 1, hN⟩ ht (fun _ => b) (fun _ => a)

omit hz hk ho h0 h1 h2 in
theorem acR_end (l : Fin 128) : acR W z o 64 l = sinkR W z o l := by
  unfold acR sinkR
  rw [Finset.sum_range]
  have e : ∀ u : Fin 64, (if h : u.val < 64 then skB W z o (trow u.val h) (tblk u.val) l else 0) = (fun (b : Fin 2) (s : Fin 32) => skB W z o b (Fin.rev s) l) ⟨u.val / 32, by omega⟩ ⟨u.val % 32, by omega⟩ := fun u => by
    rw [dif_pos u.isLt]
    exact congrArg (fun n => skB W z o (trow u.val u.isLt) n l) (Fin.ext (by simp [tblk, Fin.rev]))
  rw [Finset.sum_congr rfl fun u _ => e u, Fin.sum_divmod_fin 32 (fun (b : Fin 2) (s : Fin 32) => skB W z o b (Fin.rev s) l)]
  have e2 : ∀ b : Fin 2, ∑ s : Fin 32, skB W z o b (Fin.rev s) l = ∑ n, skB W z o b n l := fun b => Equiv.sum_comp Fin.revPerm fun n => skB W z o b n l
  simp only [e2]
  unfold skB
  split_ifs
  · simp only [Finset.sum_neg_distrib]
  · simp

omit hz hk ho h0 h1 h2 in
theorem emb8 (t : Fin cfg0.N) (y : S1x128x768.Idx) : ((cfg0.win 8).blk t).view.emb (y : ((cfg0.win 8).xblock (cfg0.grid.coords t)).Idx)
    = ix3 (trow t.val (t_lt t)) ⟨(tblk t.val).val * 128 + (y 1).val, by have := (y 1).isLt; have e : S1x128x768.size 1 = 128 := rfl; have := (tblk t.val).isLt; omega⟩ (y 2) := by
  have h := idx t
  have e1 : ∀ h, (trow t.val h).val = t.val / 32 := fun _ => rfl
  have e2 : (tblk t.val).val = 31 - t.val % 32 := rfl
  blk_ext [idx t, e1, e2]
/-- The first result after the run is the reference's. -/
theorem final8 : (dats m 0 c).arrAt 8 (cfgs 0).N = dzVec W := by
  refine (dats m 0 c).arrAt_eq_of_covers 8 _ (by decide +kernel) fun t _ y => ?_
  blk_simp
  rw [after0_8, (points W z k o hz hk ho m c h0 h1 h2 t.val t.isLt (t_lt t)).1]
  refine Eq.trans ?_ (congrArg (dzVec W) (emb8 t y)).symm
  refine Eq.trans ?_ (Cert.SwaRefIdeal.Math.dz_real W z k o hz hk ho (trow t.val (t_lt t)) (tblk t.val) (y 1) _ (y 2)).symm
  rfl
/-- The second result after the run is the reference's. -/
theorem final9 : (dats m 0 c).arrAt 9 (cfgs 0).N = sinkVec W := by
  refine (dats m 0 c).arrAt_eq_of_after_last 9 ⟨63, by decide⟩ (by decide +kernel) _ fun j => ?_
  rw [after0_9, (points W z k o hz hk ho m c h0 h1 h2 63 (by decide) (by decide)).2.1]
  have e : (cfg0.win 9).arr.view.emb j = ix2 0 (j 1) := by blk_ext []
  refine Eq.trans ?_ (congrArg (sinkVec W) e).symm
  refine Eq.trans ?_ (Cert.SwaRefIdeal.Math.sink_real W z k o hz hk ho (j 1)).symm
  exact congrArg (fun r : ℝ => (r : EReal)) (acR_end W z o (j 1))
end Cert.SwaBwdIdeal.Blk
end
-- ==== Proof.Swa.lean ====
/-
  The sliding-window attention's gradient: for finite arguments the kernel's two results are the reference's.
-/
module
public import proofs.«01_k».proof.Proof.Arr
public import proofs.«01_k».proof.Defs
public import proofs.«01_k».proof.Proof.SwaRun
public import proofs.«01_k».proof.Proof.Gen.Pre_swa_finite
public import Idealize.ShloMosaic.Lib.Claim
@[expose] public section
set_option maxRecDepth 16384
noncomputable section
open Idealize.ShloMosaic Idealize.ShloMosaic.TcCoe Idealize.SL.Sem Idealize.ShloMosaic.StableHlo

namespace Cert.Proof
open Cert.Arr
open Cert.SwaBwdIdeal Cert.SwaRefIdeal.Math in
theorem swa_reals (m : (ℓ : Loc Cert.SwaBwdIdeal.nD Cert.SwaBwdIdeal.τ Cert.SwaBwdIdeal.sig) → Buf (Elt Ideal) ℓ) (hpre : Pre_SwaBwdIdeal_swa_finite m) (c : Dev Cert.SwaBwdIdeal.nD)
    (W : Valuation Cert.SwaRefIdeal.τ Cert.SwaRefIdeal.sig (Elt Ideal))
    (h0 : W (Proc.devRef .tc Cert.SwaRefIdeal.main_arg0) = m ((c.tc : Thread Cert.SwaBwdIdeal.nD Cert.SwaBwdIdeal.τ).loc Cert.SwaBwdIdeal.main_arg0))
    (h1 : W (Proc.devRef .tc Cert.SwaRefIdeal.main_arg1) = m ((c.tc : Thread Cert.SwaBwdIdeal.nD Cert.SwaBwdIdeal.τ).loc Cert.SwaBwdIdeal.main_arg1))
    (h2 : W (Proc.devRef .tc Cert.SwaRefIdeal.main_arg2) = m ((c.tc : Thread Cert.SwaBwdIdeal.nD Cert.SwaBwdIdeal.τ).loc Cert.SwaBwdIdeal.main_arg2)) :
    (∀ b r l, A0 W b r l = ((A0 W b r l).toReal : EReal)) ∧ (∀ h, A1 W h = ((A1 W h).toReal : EReal)) ∧ ∀ b r l, A2 W b r l = ((A2 W b r l).toReal : EReal) := by
  obtain ⟨p0, p1, p2⟩ := hpre c
  refine ⟨fun b r l => real_of_finite _ ?_, fun h => real_of_finite _ ?_, fun b r l => real_of_finite _ ?_⟩
  · have := congrFun p0 (ix3 b r l); unfold A0; rw [h0]; exact this
  · have := congrFun p1 (ix1 h); unfold A1; rw [h1]; exact this
  · have := congrFun p2 (ix3 b r l); unfold A2; rw [h2]; exact this

/-- The reference's run, its results by name. -/
theorem _root_.Cert.SwaRefIdeal.Math.run_all (m : (ℓ : Loc Cert.SwaRefIdeal.nD Cert.SwaRefIdeal.τ Cert.SwaRefIdeal.sig) → Buf (Elt Ideal) ℓ) (ρ : Dev Cert.SwaRefIdeal.nD → PrngReg) :
    θ_run Cert.SwaRefIdeal.defs (onTc (τ := Cert.SwaRefIdeal.τ) (Cert.SwaRefIdeal.main (F := Ideal))) ⟨m, fun _ => 0, ρ⟩ fun r => ∀ c : Dev Cert.SwaRefIdeal.nD,
      r.2.mem ((c.tc : Thread Cert.SwaRefIdeal.nD Cert.SwaRefIdeal.τ).loc Cert.SwaRefIdeal.main_v197) = Cert.SwaRefIdeal.Math.dzVec (launchContents m c)
      ∧ r.2.mem ((c.tc : Thread Cert.SwaRefIdeal.nD Cert.SwaRefIdeal.τ).loc Cert.SwaRefIdeal.main_v199) = Cert.SwaRefIdeal.Math.sinkVec (launchContents m c)
      ∧ r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2) :=
  Cert.SwaRefIdeal.Value.run m ρ

/-- `swa_bwd` computes the attention's gradients that the reference computes, for finite arguments. -/
theorem swa_value : Cert.algebraic_SwaBwdIdeal_SwaRefIdeal_pre_swa_finite := by
  intro m g m' g' hpre hagree
  refine ⟨fun c => Cert.SwaRefIdeal.Math.dzVec (launchContents m' c), fun c => Cert.SwaRefIdeal.Math.sinkVec (launchContents m' c), ?_, ?_⟩
  · refine (θ_run _ _ _).mono (fun r h c => ?_) (Cert.SwaBwdIdeal.Value.run_blocks m g)
    obtain ⟨h0, h1, h2⟩ := hagree c
    obtain ⟨hz, hk, ho⟩ := swa_reals m hpre c (launchContents m' c) h0 h1 h2
    obtain ⟨r1, r2, r3⟩ := h c
    exact ⟨r1.trans (Cert.SwaBwdIdeal.Blk.final8 _ _ _ _ hz hk ho m c h0 h1 h2), r2.trans (Cert.SwaBwdIdeal.Blk.final9 _ _ _ _ hz hk ho m c h0 h1 h2), r3⟩
  · refine (θ_run _ _ _).mono (fun r h c => ?_) (Cert.SwaRefIdeal.Math.run_all m' g')
    exact h c

/-- The reference leaves its arguments and the counters as they were. -/
theorem swa_ref_frame : Cert.quiescent_SwaRefIdeal := fun m g _ =>
  (θ_run Cert.SwaRefIdeal.defs _ _).mono (fun r h => ⟨fun c => (h c).2.2, sem_eq_zero_of_no_sems (by decide) r.2⟩)
    (Cert.SwaRefIdeal.Value.run m g)
end Cert.Proof
end
-- ==== Proof.Norm.lean ====
/- The RMS norm's gradient, entry by entry: the shape in which three of the calls fuse it with their products. -/
module

public import proofs.«01_k».proof.Defs
public import Idealize.ShloMosaic.Lib.Pipeline.ValueKit
public import Idealize.ShloMosaic.Lib.Pointwise

@[expose] public section

noncomputable section

open Idealize.ShloMosaic

namespace Cert.Norm

/-- The mean square of a row, with the norm's small constant. -/
def ms (x : Fin 1024 → EReal) : EReal :=
  Ideal.div (∑ l, x l * x l) (Ideal.ofBits .f32 1149239296#32) + Ideal.ofBits .f32 897988541#32

/-- Half of what a row's gradient takes back along the row itself. -/
def corr (x u : Fin 1024 → EReal) : EReal :=
  Ideal.div ((∑ l, x l * u l) * (Ideal.ofBits .f32 3204448256#32 * Ideal.div (Ideal.rsqrt (ms x)) (ms x)))
    (Ideal.ofBits .f32 1149239296#32)

/-- The gradient of the norm's input at one entry: `u` is the gradient of the normed row times the gain. -/
def dx (x u : Fin 1024 → EReal) (j : Fin 1024) : EReal :=
  u j * Ideal.rsqrt (ms x) + x j * corr x u + corr x u * x j

/-- One row's part of the gain's gradient at one entry. -/
def dg (x : Fin 1024 → EReal) (d : EReal) (j : Fin 1024) : EReal := x j * Ideal.rsqrt (ms x) * d

/-- Rows that agree have the same gradient. -/
theorem dx_congr {x x' u u' : Fin 1024 → EReal} {j j' : Fin 1024} (hx : ∀ l, x l = x' l) (hu : ∀ l, u l = u' l) (hj : j = j') :
    dx x u j = dx x' u' j' := by
  rw [funext hx, funext hu, hj]

/-- Rows that agree have the same part in the gain's gradient. -/
theorem dg_congr {x x' : Fin 1024 → EReal} {d d' : EReal} {j j' : Fin 1024} (hx : ∀ l, x l = x' l) (hd : d = d') (hj : j = j') :
    dg x d j = dg x' d' j' := by
  rw [funext hx, hd, hj]

/-- A residual added first or last. -/
theorem add_comm4 (r a b c : EReal) : r + a + b + c = a + b + c + r := by
  rw [add_assoc r, add_assoc r, add_comm]

/-- A sum over 512 rows as the sums over its two halves. -/
theorem sum_halves (f : Fin 512 → EReal) :
    (∑ l : Fin 256, f ⟨l, by omega⟩) + ∑ l : Fin 256, f ⟨256 + l, by omega⟩ = ∑ l : Fin 512, f l :=
  (Fin.sum_univ_add (a := 256) (b := 256) f).symm

end Cert.Norm

end
-- ==== Proof.Up.lean ====
/- The value of `mlp_up_bwd_norm_bwd`: the product with the up projection, the RMS norm's gradient and the residual's
   gradient are the reference's; the gain's gradient is summed over the grid. -/
module

public import proofs.«01_k».proof.Proof.Norm
public import proofs.«01_k».proof.Proof.Gen.UpBwdIdeal.Value
public import proofs.«01_k».proof.Proof.Gen.UpRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.UpBwdIdeal.Up

open Cert.UpBwdIdeal Cert.UpBwdIdeal.Gen Cert.Norm

variable (m : (ℓ : Loc nD τ sig) → Buf (Elt Ideal) ℓ)

/-- The gradient of the normed row times the gain. -/
def up (D : FVec Ideal S8192x4096 .f32) (W : FVec Ideal S1024x4096 .f32) (i : Fin 8192) (l : Fin 1024) : EReal :=
  ∑ k, D (ix2 i k) * W (ix2 l k)

/-- The gradient of the norm's input, the residual's gradient added. -/
def REF0 (D : FVec Ideal S8192x4096 .f32) (R : FVec Ideal S8192x1024 .f32) (W : FVec Ideal S1024x4096 .f32) (X : FVec Ideal S8192x1024 .f32) (g : FVec Ideal S1x1024 .f32) : FVec Ideal S8192x1024 .f32 :=
  fun i => dx (fun l => X (ix2 (i 0) l)) (fun l => up D W (i 0) l * g (ix2 0 l)) (i 1) + R i

/-- The gradient of the gain. -/
def REF1 (D : FVec Ideal S8192x4096 .f32) (W : FVec Ideal S1024x4096 .f32) (X : FVec Ideal S8192x1024 .f32) : FVec Ideal S1x1024 .f32 :=
  fun j => ∑ i : Fin 8192, dg (fun l => X (ix2 i l)) (up D W i (j 1)) (j 1)

/-- Every window's block index at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] :=
  (by decide +kernel : ∀ t : Fin grid0.N, _)

/-- What is stored at an entry of the block's first half. -/
theorem pay_first (W : Vec Ideal S1024x4096 .bf16) (g : Vec Ideal S1x1024 .f32) (D : Vec Ideal S256x4096 .bf16) (X R : Vec Ideal S256x1024 .f32)
    (x : S256x1024.Idx) : k0_pay12 (F := Ideal) R (k0_pay10 W g D X) (k0_pay11 W g D X) x
      = dx (fun l => X (ix2 (x 0) l)) (fun l => (∑ k, D (ix2 (x 0) k) * W (ix2 l k)) * g (ix2 0 l)) (x 1) + R x := by
  idx_vars x
  pointwise [k0_pay12, k0_pay10, k0_pay11, k0_pay9, k0_pay8, k0_pay6, k0_pay5, k0_pay4, k0_pay3]
  simp only [Finset.univ_unique, Finset.sum_singleton]
  rfl

/-- What is stored at an entry of the block's second half. -/
theorem pay_second (W : Vec Ideal S1024x4096 .bf16) (g : Vec Ideal S1x1024 .f32) (D : Vec Ideal S256x4096 .bf16) (X R : Vec Ideal S256x1024 .f32)
    (x : S256x1024.Idx) : k0_pay17 (F := Ideal) (k0_pay3 W) g D X R x
      = dx (fun l => X (ix2 (x 0) l)) (fun l => (∑ k, D (ix2 (x 0) k) * W (ix2 l k)) * g (ix2 0 l)) (x 1) + R x := by
  idx_vars x
  pointwise [k0_pay17, k0_pay13, k0_pay14, k0_pay15, k0_pay3]
  simp only [Finset.univ_unique, Finset.sum_singleton]
  rfl

/-- What a grid point adds to the gain's gradient: the sum over the block's 512 rows. -/
def part (W : Vec Ideal S1024x4096 .bf16) (D : Vec Ideal S512x4096 .bf16) (X : Vec Ideal S512x1024 .f32) (j : Fin 1024) : EReal :=
  ∑ i : Fin 512, dg (fun l => X (ix2 i l)) (∑ k, D (ix2 i k) * W (ix2 j k)) j

/-- The gain's part that a grid point computes from its two halves. -/
theorem pay_gain (W : Vec Ideal S1024x4096 .bf16) (D : Vec Ideal S512x4096 .bf16) (X : Vec Ideal S512x1024 .f32) (j : S1x1024.Idx) :
    k0_pay1 (F := Ideal)
      (k0_pay7 W (View.ld D (Rect.unit ![0, 0] ![256, 4096] inb_S512x4096_S256x4096_0_0)) (View.ld X (Rect.unit ![0, 0] ![256, 1024] inb_S512x1024_S256x1024_0_0)))
      (k0_pay16 (k0_pay3 W) (View.ld D (Rect.unit ![256, 0] ![256, 4096] inb_S512x4096_S256x4096_256_0)) (View.ld X (Rect.unit ![256, 0] ![256, 1024] inb_S512x1024_S256x1024_256_0)))
      j = part W D X (j 1) := by
  idx_vars j
  refine Eq.trans ?_ (sum_halves _)
  pointwise [k0_pay1, k0_pay7, k0_pay16, k0_pay13, k0_pay14, k0_pay15, k0_pay6, k0_pay5, k0_pay4, k0_pay3]
  rfl

/-- What a grid point stores at an entry of its block, over the blocks it reads. -/
def entry (W : Vec Ideal S1024x4096 .bf16) (g : Vec Ideal S1x1024 .f32) (D : Vec Ideal S512x4096 .bf16) (X R : Vec Ideal S512x1024 .f32)
    (y : S512x1024.Idx) : EReal :=
  dx (fun l => X (ix2 (y 0) l)) (fun l => (∑ k, D (ix2 (y 0) k) * W (ix2 l k)) * g (ix2 0 l)) (y 1) + R y

/-- A half block's entry is the block's. -/
theorem entry_congr {W : Vec Ideal S1024x4096 .bf16} {g : Vec Ideal S1x1024 .f32} {D : Vec Ideal S512x4096 .bf16} {X R : Vec Ideal S512x1024 .f32}
    {D' : Vec Ideal S256x4096 .bf16} {X' R' : Vec Ideal S256x1024 .f32} {x : S256x1024.Idx} {y : S512x1024.Idx}
    (hD : ∀ k, D' (ix2 (x 0) k) = D (ix2 (y 0) k)) (hX : ∀ k, X' (ix2 (x 0) k) = X (ix2 (y 0) k)) (hR : R' x = R y) (h1 : x 1 = y 1) :
    dx (fun l => X' (ix2 (x 0) l)) (fun l => (∑ k, D' (ix2 (x 0) k) * W (ix2 l k)) * g (ix2 0 l)) (x 1) + R' x = entry W g D X R y := by
  simp only [entry, hD, hX, hR, h1]

/-- What the first output's block holds after a grid point. -/
theorem outs5 (c : Dev nD) (t : Fin cfg0.N) (y) :
    (outsAt0 m c t.val t.isLt).1 y = entry (iblk m c 3 t) (iblk m c 4 t) (iblk m c 0 t) (iblk m c 1 t) (iblk m c 2 t) y := by
  have ht : t.val < 16 := lt_of_lt_of_eq t.isLt N_0
  by_cases h1 : 1 ≤ t.val
  · rw [outsAt0_B m c t (by omega) h1]; frame_out
    canon_tiles x h
    · refine (pay_second _ _ _ _ _ _).trans (entry_congr (fun k => ?_) (fun k => ?_) ?_ (Fin.ext h1.symm))
      all_goals (pointwise; blk_ext)
    · refine (pay_first _ _ _ _ _ _).trans (entry_congr (fun k => ?_) (fun k => ?_) ?_ (Fin.ext h1.symm))
      all_goals (pointwise; blk_ext)
  · rw [outsAt0_A m c t (by omega) h1]; frame_out
    canon_tiles x h
    · refine (pay_second _ _ _ _ _ _).trans (entry_congr (fun k => ?_) (fun k => ?_) ?_ (Fin.ext h1.symm))
      all_goals (pointwise; blk_ext)
    · refine (pay_first _ _ _ _ _ _).trans (entry_congr (fun k => ?_) (fun k => ?_) ?_ (Fin.ext h1.symm))
      all_goals (pointwise; blk_ext)

/-- What a grid point leaves at a block index is the reference at the array index it stands at. -/
theorem point5 (c : Dev nD) (t : Fin cfg0.N) (y) : (outsAt0 m c t.val t.isLt).1 y
    = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [outs5]
  refine congrArg₂ (· + ·) (dx_congr (fun l => ?_) (fun l => congrArg₂ (· * ·) (Finset.sum_congr rfl fun k _ => congrArg₂ (· * ·) ?_ ?_) ?_) (Fin.ext ?_)) ?_
  all_goals first | (blk_ext [iblk, V, idx t]; done) | (blk_simp [idx t]; omega) | (blk_simp [idx t])

/-- A grid point's part as the sum over the array's rows that the point holds. -/
theorem part_eq (c : Dev nD) (t : Fin cfg0.N) (j : Fin 1024) : part (iblk m c 3 t) (iblk m c 0 t) (iblk m c 1 t) j
    = ∑ i : Fin 512, dg (fun l => m ((c : Thread nD τ).loc main_arg3) (ix2 (n0 := 8192) ⟨t.val * 512 + i.val, have := lt_of_lt_of_eq t.isLt N_0; by omega⟩ l))
        (up (m ((c : Thread nD τ).loc main_arg0)) (m ((c : Thread nD τ).loc main_arg2)) ⟨t.val * 512 + i.val, have := lt_of_lt_of_eq t.isLt N_0; by omega⟩ j) j := by
  refine Finset.sum_congr rfl fun i _ => dg_congr (fun l => ?_) (Finset.sum_congr rfl fun k _ => congrArg₂ (· * ·) ?_ ?_) rfl
  all_goals blk_ext [iblk, V, idx t]

/-- The first point stores its part of the gain's gradient. -/
theorem gain_first (c : Dev nD) (t : Fin cfg0.N) (h : t.val % 16 = 0) (h1 : ¬1 ≤ t.val) (j : S1x1024.Idx) :
    (outsAt0 m c t.val t.isLt).2 j = part (iblk m c 3 t) (iblk m c 0 t) (iblk m c 1 t) (j 1) := by
  rw [outsAt0_A m c t h h1]; frame_out
  exact pay_gain _ _ _ _

/-- Every later point adds its part. -/
theorem gain_next (c : Dev nD) (t : Fin cfg0.N) (h : ¬t.val % 16 = 0) (h1 : 1 ≤ t.val) (j : S1x1024.Idx) :
    (outsAt0 m c t.val t.isLt).2 j = (outsAt0 m c (t.val - 1) (Nat.lt_of_le_of_lt (Nat.sub_le _ _) t.isLt)).2 j
      + part (iblk m c 3 t) (iblk m c 0 t) (iblk m c 1 t) (j 1) := by
  rw [outsAt0_B m c t h h1]; frame_out
  refine Eq.trans ?_ (congrArg (_ + ·) (pay_gain _ _ _ j))
  idx_vars j
  pointwise [k0_pay2]

/-- After the last point the gain's gradient is the sum of all parts. -/
theorem acc6 (c : Dev nD) (j : S1x1024.Idx) : (outsAt0 m c t0_15.val t0_15.isLt).2 j
    = ∑ p : Fin cfg0.N, part (iblk m c 3 p) (iblk m c 0 p) (iblk m c 1 p) (j 1) := by
  rw [Pipeline.eq_sum_fin_of_reset_step_apply_last (fun n h => (outsAt0 m c n h).2) 16 (fun _ => 0) (fun p j => part (iblk m c 3 p) (iblk m c 0 p) (iblk m c 1 p) (j 1))
    (fun t h j => by
      have ht : t.val < 16 := lt_of_lt_of_eq t.isLt N_0
      rw [gain_first m c t h (by omega), zero_add])
    (fun t h j => by
      have ht : t.val < 16 := lt_of_lt_of_eq t.isLt N_0
      rw [gain_next m c t h (by omega)])
    (le_of_eq N_0) t0_15 rfl, zero_add]

/-- The second result after the run. -/
theorem final6 (c : Dev nD) : (dats m 0 c).arrAt 6 (cfgs 0).N = REF1 (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6, acc6]
  refine (Finset.sum_congr rfl fun p _ => part_eq m c p (j 1)).trans ?_
  exact Fin.sum_mul_add_fin cfg0.N 512 (fun i => dg (fun l => m ((c : Thread nD τ).loc main_arg3) (ix2 i l)) (up (m ((c : Thread nD τ).loc main_arg0)) (m ((c : Thread nD τ).loc main_arg2)) i (j 1)) (j 1)) (by rw [show cfg0.N = 16 from N_0])

/-- The first result after the run. -/
theorem final5 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point5 m c t y

/-- The reference's first result, entry by entry. -/
theorem ref0 (m : (ℓ : Loc Cert.UpRefIdeal.nD Cert.UpRefIdeal.τ Cert.UpRefIdeal.sig) → Buf (Elt Ideal) ℓ) (c) : Cert.UpRefIdeal.Value.res_main_v39 m c =
   REF0 (m (Dev.tc c |>.loc Cert.UpRefIdeal.main_arg0)) (m (Dev.tc c |>.loc Cert.UpRefIdeal.main_arg1)) (m (Dev.tc c |>.loc Cert.UpRefIdeal.main_arg2)) (m (Dev.tc c |>.loc Cert.UpRefIdeal.main_arg3)) (m (Dev.tc c |>.loc Cert.UpRefIdeal.main_arg4)) := by
  funext j
  idx_vars j
  pointwise [Cert.UpRefIdeal.Value.res_main_v39]
  simp only [Finset.univ_unique, Finset.sum_singleton]
  exact add_comm4 _ _ _ _
end Cert.UpBwdIdeal.Up

namespace Cert.Proof
open Cert.UpBwdIdeal.Up

/-- `mlp_up_bwd_norm_bwd` computes the gradients that the reference computes. -/
theorem up_value : Cert.algebraic_UpBwdIdeal_UpRefIdeal := by
  intro m g m' g' hpre hagree
  refine ⟨fun c => REF0 (m ((c : Thread Cert.UpBwdIdeal.nD Cert.UpBwdIdeal.τ).loc Cert.UpBwdIdeal.main_arg0)) (m ((c : Thread Cert.UpBwdIdeal.nD Cert.UpBwdIdeal.τ).loc Cert.UpBwdIdeal.main_arg1)) (m ((c : Thread Cert.UpBwdIdeal.nD Cert.UpBwdIdeal.τ).loc Cert.UpBwdIdeal.main_arg2)) (m ((c : Thread Cert.UpBwdIdeal.nD Cert.UpBwdIdeal.τ).loc Cert.UpBwdIdeal.main_arg3)) (m ((c : Thread Cert.UpBwdIdeal.nD Cert.UpBwdIdeal.τ).loc Cert.UpBwdIdeal.main_arg4)),
    fun c => REF1 (m ((c : Thread Cert.UpBwdIdeal.nD Cert.UpBwdIdeal.τ).loc Cert.UpBwdIdeal.main_arg0)) (m ((c : Thread Cert.UpBwdIdeal.nD Cert.UpBwdIdeal.τ).loc Cert.UpBwdIdeal.main_arg2)) (m ((c : Thread Cert.UpBwdIdeal.nD Cert.UpBwdIdeal.τ).loc Cert.UpBwdIdeal.main_arg3)), ?_, ?_⟩
  · refine (θ_run _ _ _).mono (fun r h c => ?_) (Cert.UpBwdIdeal.Value.run_blocks m g)
    obtain ⟨r1, r2, r3⟩ := h c
    exact ⟨r1.trans (final5 m c), r2.trans (final6 m c), r3⟩
  · refine (θ_run _ _ _).mono (fun r h c => ?_) (Cert.UpRefIdeal.Value.run m' g')
    obtain ⟨h0, h1, h2, h3, h4⟩ := hagree c
    obtain ⟨r1, r2, r3⟩ := h c
    refine ⟨r1.trans ((ref0 m' c).trans ?_), r2.trans ?_, r3⟩
    · rw [h0, h1, h2, h3, h4]
    · funext j
      rw [h0, h2, h3]
      idx_vars j
      pointwise
      exact Fin.sum_univ_one _

/-- The reference leaves its arguments and the counters as they were. -/
theorem up_ref_frame : Cert.quiescent_UpRefIdeal := fun m g _ =>
  (θ_run Cert.UpRefIdeal.defs _ _).mono (fun r h => ⟨fun c => (h c).2.2, sem_eq_zero_of_no_sems (by decide) r.2⟩)
    (Cert.UpRefIdeal.Value.run m g)

end Cert.Proof
end
-- ==== Proof.In.lean ====
/- The value of `in_proj_bwd_norm_bwd`: the products with the input projection's two column ranges, the RMS norm's gradient
   and the residual's gradient are the reference's, which multiplies by the whole projection once. -/
module

public import proofs.«01_k».proof.Proof.Norm
public import proofs.«01_k».proof.Proof.Gen.InBwdIdeal.Value
public import proofs.«01_k».proof.Proof.Gen.InRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InBwdIdeal.In

open Cert.InBwdIdeal Cert.InBwdIdeal.Gen Cert.Norm

variable (m : (ℓ : Loc nD τ sig) → Buf (Elt Ideal) ℓ)

/-- The gradient of the normed row: the product over the projection's two column ranges. -/
def up (A : FVec Ideal S8192x768 .f32) (B : FVec Ideal S8192x1792 .f32) (W : FVec Ideal S1024x2560 .f32) (i : Fin 8192) (l : Fin 1024) : EReal :=
  (∑ k : Fin 768, A (ix2 i k) * W (ix2 l ⟨k, by omega⟩)) + ∑ k : Fin 1792, B (ix2 i k) * W (ix2 l ⟨768 + k, by omega⟩)

/-- The gradient of the norm's input, the residual's gradient added. -/
def REF0 (A : FVec Ideal S8192x768 .f32) (B : FVec Ideal S8192x1792 .f32) (R : FVec Ideal S8192x1024 .f32) (W : FVec Ideal S1024x2560 .f32)
    (X : FVec Ideal S8192x1024 .f32) (g : FVec Ideal S1x1024 .f32) : FVec Ideal S8192x1024 .f32 :=
  fun i => dx (fun l => X (ix2 (i 0) l)) (fun l => up A B W (i 0) l * g (ix2 0 l)) (i 1) + R i

/-- The gradient of the gain. -/
def REF1 (A : FVec Ideal S8192x768 .f32) (B : FVec Ideal S8192x1792 .f32) (W : FVec Ideal S1024x2560 .f32) (X : FVec Ideal S8192x1024 .f32) : FVec Ideal S1x1024 .f32 :=
  fun j => ∑ i : Fin 8192, dg (fun l => X (ix2 i l)) (up A B W i (j 1)) (j 1)

/-- Every window's block index at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![0, 0] :=
  (by decide +kernel : ∀ t : Fin grid0.N, _)

/-- A row's product with the projection's two blocks. -/
def prod {n : ℕ} (P : Vec Ideal S1024x768 .bf16) (Q : Vec Ideal S1024x1792 .bf16) (A : Fin n → Fin 768 → EReal) (B : Fin n → Fin 1792 → EReal)
    (i : Fin n) (l : Fin 1024) : EReal :=
  (∑ k : Fin 768, A i k * P (ix2 l k)) + ∑ k : Fin 1792, B i k * Q (ix2 l k)

/-- What is stored at an entry of the block's first half. -/
theorem pay_first (P : Vec Ideal S1024x768 .bf16) (Q : Vec Ideal S1024x1792 .bf16) (g : Vec Ideal S1x1024 .f32) (A : Vec Ideal S256x768 .bf16) (B : Vec Ideal S256x1792 .bf16)
    (X R : Vec Ideal S256x1024 .f32) (x : S256x1024.Idx) :
    k0_pay14 (F := Ideal) X R (k0_pay9 X) (k0_pay12 P Q g A B X) (k0_pay13 P Q g A B X) x
      = dx (fun l => X (ix2 (x 0) l)) (fun l => prod P Q (fun i k => A (ix2 i k)) (fun i k => B (ix2 i k)) (x 0) l * g (ix2 0 l)) (x 1) + R x := by
  idx_vars x
  pointwise [k0_pay14, k0_pay13, k0_pay12, k0_pay11, k0_pay9, k0_pay8, k0_pay7, k0_pay6, k0_pay5, k0_pay4]
  simp only [Finset.univ_unique, Finset.sum_singleton]
  rfl

/-- What is stored at an entry of the block's second half. -/
theorem pay_second (P : Vec Ideal S1024x768 .bf16) (Q : Vec Ideal S1024x1792 .bf16) (g : Vec Ideal S1x1024 .f32) (A : Vec Ideal S256x768 .bf16) (B : Vec Ideal S256x1792 .bf16)
    (X R : Vec Ideal S256x1024 .f32) (x : S256x1024.Idx) :
    k0_pay1 (F := Ideal) X R (k0_pay17 X) (k0_pay18 X) (k0_pay20 (k0_pay4 P) (k0_pay5 Q) g A B) (k0_pay21 (k0_pay4 P) (k0_pay5 Q) g A B X) x
      = dx (fun l => X (ix2 (x 0) l)) (fun l => prod P Q (fun i k => A (ix2 i k)) (fun i k => B (ix2 i k)) (x 0) l * g (ix2 0 l)) (x 1) + R x := by
  idx_vars x
  pointwise [k0_pay1, k0_pay15, k0_pay16, k0_pay17, k0_pay18, k0_pay20, k0_pay21, k0_pay5, k0_pay4]
  simp only [Finset.univ_unique, Finset.sum_singleton]
  rfl

/-- What a grid point adds to the gain's gradient: the sum over the block's 512 rows. -/
def part (P : Vec Ideal S1024x768 .bf16) (Q : Vec Ideal S1024x1792 .bf16) (A : Vec Ideal S512x768 .bf16) (B : Vec Ideal S512x1792 .bf16) (X : Vec Ideal S512x1024 .f32) (j : Fin 1024) : EReal :=
  ∑ i : Fin 512, dg (fun l => X (ix2 i l)) (prod P Q (fun i k => A (ix2 i k)) (fun i k => B (ix2 i k)) i j) j

/-- The gain's part that a grid point computes from its two halves. -/
theorem pay_gain (P : Vec Ideal S1024x768 .bf16) (Q : Vec Ideal S1024x1792 .bf16) (A : Vec Ideal S512x768 .bf16) (B : Vec Ideal S512x1792 .bf16) (X : Vec Ideal S512x1024 .f32) (j : S1x1024.Idx) :
    k0_pay2 (F := Ideal)
      (k0_pay10 P Q (View.ld A (Rect.unit ![0, 0] ![256, 768] inb_S512x768_S256x768_0_0))
        (View.ld B (Rect.unit ![0, 0] ![256, 1792] inb_S512x1792_S256x1792_0_0)) (View.ld X (Rect.unit ![0, 0] ![256, 1024] inb_S512x1024_S256x1024_0_0)))
      (k0_pay19 (k0_pay4 P) (k0_pay5 Q) (View.ld A (Rect.unit ![256, 0] ![256, 768] inb_S512x768_S256x768_256_0))
        (View.ld B (Rect.unit ![256, 0] ![256, 1792] inb_S512x1792_S256x1792_256_0)) (View.ld X (Rect.unit ![256, 0] ![256, 1024] inb_S512x1024_S256x1024_256_0)))
      j = part P Q A B X (j 1) := by
  idx_vars j
  refine Eq.trans ?_ (sum_halves _)
  pointwise [k0_pay2, k0_pay10, k0_pay19, k0_pay15, k0_pay16, k0_pay17, k0_pay8, k0_pay7, k0_pay6, k0_pay5, k0_pay4]
  rfl

/-- What a grid point stores at an entry of its block, over the blocks it reads. -/
def entry (P : Vec Ideal S1024x768 .bf16) (Q : Vec Ideal S1024x1792 .bf16) (g : Vec Ideal S1x1024 .f32) (A : Vec Ideal S512x768 .bf16) (B : Vec Ideal S512x1792 .bf16)
    (X R : Vec Ideal S512x1024 .f32) (y : S512x1024.Idx) : EReal :=
  dx (fun l => X (ix2 (y 0) l)) (fun l => prod P Q (fun i k => A (ix2 i k)) (fun i k => B (ix2 i k)) (y 0) l * g (ix2 0 l)) (y 1) + R y

/-- A half block's entry is the block's. -/
theorem entry_congr {P : Vec Ideal S1024x768 .bf16} {Q : Vec Ideal S1024x1792 .bf16} {g : Vec Ideal S1x1024 .f32} {A : Vec Ideal S512x768 .bf16} {B : Vec Ideal S512x1792 .bf16}
    {X R : Vec Ideal S512x1024 .f32} {A' : Vec Ideal S256x768 .bf16} {B' : Vec Ideal S256x1792 .bf16} {X' R' : Vec Ideal S256x1024 .f32} {x : S256x1024.Idx} {y : S512x1024.Idx}
    (hA : ∀ k, A' (ix2 (x 0) k) = A (ix2 (y 0) k)) (hB : ∀ k, B' (ix2 (x 0) k) = B (ix2 (y 0) k)) (hX : ∀ k, X' (ix2 (x 0) k) = X (ix2 (y 0) k)) (hR : R' x = R y) (h1 : x 1 = y 1) :
    dx (fun l => X' (ix2 (x 0) l)) (fun l => prod P Q (fun i k => A' (ix2 i k)) (fun i k => B' (ix2 i k)) (x 0) l * g (ix2 0 l)) (x 1) + R' x = entry P Q g A B X R y := by
  simp only [entry, prod, hA, hB, hX, hR, h1]

/-- What the first output's block holds after a grid point. -/
theorem outs7 (c : Dev nD) (t : Fin cfg0.N) (y) : (outsAt0 m c t.val t.isLt).1 y
    = entry (iblk m c 4 t) (iblk m c 5 t) (iblk m c 6 t) (iblk m c 0 t) (iblk m c 1 t) (iblk m c 2 t) (iblk m c 3 t) y := by
  have ht : t.val < 16 := lt_of_lt_of_eq t.isLt N_0
  by_cases h1 : 1 ≤ t.val
  · rw [outsAt0_B m c t (by omega) h1]; frame_out
    canon_tiles x h
    · refine (pay_second _ _ _ _ _ _ _ _).trans (entry_congr (fun k => ?_) (fun k => ?_) (fun k => ?_) ?_ (Fin.ext h1.symm))
      all_goals (pointwise; blk_ext)
    · refine (pay_first _ _ _ _ _ _ _ _).trans (entry_congr (fun k => ?_) (fun k => ?_) (fun k => ?_) ?_ (Fin.ext h1.symm))
      all_goals (pointwise; blk_ext)
  · rw [outsAt0_A m c t (by omega) h1]; frame_out
    canon_tiles x h
    · refine (pay_second _ _ _ _ _ _ _ _).trans (entry_congr (fun k => ?_) (fun k => ?_) (fun k => ?_) ?_ (Fin.ext h1.symm))
      all_goals (pointwise; blk_ext)
    · refine (pay_first _ _ _ _ _ _ _ _).trans (entry_congr (fun k => ?_) (fun k => ?_) (fun k => ?_) ?_ (Fin.ext h1.symm))
      all_goals (pointwise; blk_ext)

/-- The projection's first columns as the grid reads them. -/
theorem blk4 (c : Dev nD) (t : Fin cfg0.N) (a : Fin 1024) (b : Fin 768) : (show Vec Ideal S1024x768 .bf16 from iblk m c 4 t) (ix2 a b) = (m ((c : Thread nD τ).loc main_arg3)) (ix2 a (n1 := 2560) ⟨b, by omega⟩) := by
  blk_simp [iblk, V, idx t]
  entry_read
  pointwise
  blk_ext [idx t]

/-- The projection's last columns as the grid reads them. -/
theorem blk5 (c : Dev nD) (t : Fin cfg0.N) (a : Fin 1024) (b : Fin 1792) : (show Vec Ideal S1024x1792 .bf16 from iblk m c 5 t) (ix2 a b) = (m ((c : Thread nD τ).loc main_arg3)) (ix2 a (n1 := 2560) ⟨768 + b, by omega⟩) := by
  blk_simp [iblk, V, idx t]
  entry_read
  pointwise
  blk_ext [idx t]

/-- A row's product over the blocks is the row's product over the arrays. -/
theorem prod_eq (c : Dev nD) (t : Fin cfg0.N) (i : Fin 512) (l : Fin 1024) (r : Fin 8192) (hr : r.val = t.val * 512 + i.val) :
    prod (iblk m c 4 t) (iblk m c 5 t) (fun i k => (show Vec Ideal S512x768 .bf16 from iblk m c 0 t) (ix2 i k)) (fun i k => (show Vec Ideal S512x1792 .bf16 from iblk m c 1 t) (ix2 i k)) i l
      = up (m ((c : Thread nD τ).loc main_arg0)) (m ((c : Thread nD τ).loc main_arg1)) (m ((c : Thread nD τ).loc main_arg3)) r l := by
  refine congrArg₂ (· + ·) (Finset.sum_congr rfl fun k _ => congrArg₂ (· * ·) ?_ (blk4 m c t l k)) (Finset.sum_congr rfl fun k _ => congrArg₂ (· * ·) ?_ (blk5 m c t l k))
  all_goals blk_ext [iblk, V, idx t]

/-- What a grid point leaves at a block index is the reference at the array index it stands at. -/
theorem point7 (c : Dev nD) (t : Fin cfg0.N) (y) : (outsAt0 m c t.val t.isLt).1 y
    = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  rw [outs7]
  refine congrArg₂ (· + ·) (dx_congr (fun l => ?_) (fun l => congrArg₂ (· * ·) (prod_eq m c t _ _ _ ?_) ?_) (Fin.ext ?_)) ?_
  all_goals first | (blk_ext [iblk, V, idx t]; done) | (blk_simp [idx t]; done) | (blk_simp [idx t]; omega)

/-- The first result after the run. -/
theorem final7 (c : Dev nD) : (dats m 0 c).arrAt 7 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  exact point7 m c t y

/-- A grid point's part as the sum over the array's rows that the point holds. -/
theorem part_eq (c : Dev nD) (t : Fin cfg0.N) (j : Fin 1024) : part (iblk m c 4 t) (iblk m c 5 t) (iblk m c 0 t) (iblk m c 1 t) (iblk m c 2 t) j
    = ∑ i : Fin 512, dg (fun l => (m ((c : Thread nD τ).loc main_arg4)) (ix2 (n0 := 8192) ⟨t.val * 512 + i.val, have := lt_of_lt_of_eq t.isLt N_0; by omega⟩ l))
        (up (m ((c : Thread nD τ).loc main_arg0)) (m ((c : Thread nD τ).loc main_arg1)) (m ((c : Thread nD τ).loc main_arg3)) ⟨t.val * 512 + i.val, have := lt_of_lt_of_eq t.isLt N_0; by omega⟩ j) j := by
  refine Finset.sum_congr rfl fun i _ => dg_congr (fun l => ?_) (prod_eq m c t i j _ rfl) rfl
  blk_ext [iblk, V, idx t]

/-- The first point stores its part of the gain's gradient. -/
theorem gain_first (c : Dev nD) (t : Fin cfg0.N) (h : t.val % 16 = 0) (h1 : ¬1 ≤ t.val) (j : S1x1024.Idx) :
    (outsAt0 m c t.val t.isLt).2 j = part (iblk m c 4 t) (iblk m c 5 t) (iblk m c 0 t) (iblk m c 1 t) (iblk m c 2 t) (j 1) := by
  rw [outsAt0_A m c t h h1]; frame_out
  exact pay_gain _ _ _ _ _ _

/-- Every later point adds its part. -/
theorem gain_next (c : Dev nD) (t : Fin cfg0.N) (h : ¬t.val % 16 = 0) (h1 : 1 ≤ t.val) (j : S1x1024.Idx) :
    (outsAt0 m c t.val t.isLt).2 j = (outsAt0 m c (t.val - 1) (Nat.lt_of_le_of_lt (Nat.sub_le _ _) t.isLt)).2 j
      + part (iblk m c 4 t) (iblk m c 5 t) (iblk m c 0 t) (iblk m c 1 t) (iblk m c 2 t) (j 1) := by
  rw [outsAt0_B m c t h h1]; frame_out
  refine Eq.trans ?_ (congrArg (_ + ·) (pay_gain _ _ _ _ _ j))
  idx_vars j
  pointwise [k0_pay3]

/-- After the last point the gain's gradient is the sum of all parts. -/
theorem acc8 (c : Dev nD) (j : S1x1024.Idx) : (outsAt0 m c t0_15.val t0_15.isLt).2 j
    = ∑ p : Fin cfg0.N, part (iblk m c 4 p) (iblk m c 5 p) (iblk m c 0 p) (iblk m c 1 p) (iblk m c 2 p) (j 1) := by
  rw [Pipeline.eq_sum_fin_of_reset_step_apply_last (fun n h => (outsAt0 m c n h).2) 16 (fun _ => 0)
    (fun p j => part (iblk m c 4 p) (iblk m c 5 p) (iblk m c 0 p) (iblk m c 1 p) (iblk m c 2 p) (j 1))
    (fun t h j => by
      have ht : t.val < 16 := lt_of_lt_of_eq t.isLt N_0
      rw [gain_first m c t h (by omega), zero_add])
    (fun t h j => by
      have ht : t.val < 16 := lt_of_lt_of_eq t.isLt N_0
      rw [gain_next m c t h (by omega)])
    (le_of_eq N_0) t0_15 rfl, zero_add]

/-- The second result after the run. -/
theorem final8 (c : Dev nD) : (dats m 0 c).arrAt 8 (cfgs 0).N = REF1 (m ((c : Thread nD τ).loc main_arg0)) (m ((c : Thread nD τ).loc main_arg1)) (m ((c : Thread nD τ).loc main_arg3)) (m ((c : Thread nD τ).loc main_arg4)) := by
  refine (dats m 0 c).arrAt_eq_of_after_last 8 t0_15 (by decide +kernel) _ fun j => ?_
  blk_simp
  rw [after0_8, acc8]
  refine (Finset.sum_congr rfl fun p _ => part_eq m c p (j 1)).trans ?_
  exact Fin.sum_mul_add_fin cfg0.N 512 (fun i => dg (fun l => (m ((c : Thread nD τ).loc main_arg4)) (ix2 i l)) (up (m ((c : Thread nD τ).loc main_arg0)) (m ((c : Thread nD τ).loc main_arg1)) (m ((c : Thread nD τ).loc main_arg3)) i (j 1)) (j 1)) (by rw [show cfg0.N = 16 from N_0])

/-- The reference's first result, entry by entry. -/
theorem ref0 (m : (ℓ : Loc Cert.InRefIdeal.nD Cert.InRefIdeal.τ Cert.InRefIdeal.sig) → Buf (Elt Ideal) ℓ) (c) : Cert.InRefIdeal.Value.res_main_v40 m c
    = REF0 (m (c.tc.loc Cert.InRefIdeal.main_arg0)) (m (c.tc.loc Cert.InRefIdeal.main_arg1)) (m (c.tc.loc Cert.InRefIdeal.main_arg2)) (m (c.tc.loc Cert.InRefIdeal.main_arg3)) (m (c.tc.loc Cert.InRefIdeal.main_arg4)) (m (c.tc.loc Cert.InRefIdeal.main_arg5)) := by
  funext j
  idx_vars j
  pointwise [Cert.InRefIdeal.Value.res_main_v40]
  simp only [Finset.univ_unique, Finset.sum_singleton]
  exact add_comm4 _ _ _ _

end Cert.InBwdIdeal.In

namespace Cert.Proof

open Cert.InBwdIdeal.In

/-- `in_proj_bwd_norm_bwd` computes the gradients that the reference computes. -/
theorem in_value : Cert.algebraic_InBwdIdeal_InRefIdeal := by
  intro m g m' g' hpre hagree
  refine ⟨fun c => REF0 (m (c.tc.loc Cert.InBwdIdeal.main_arg0)) (m (c.tc.loc Cert.InBwdIdeal.main_arg1)) (m (c.tc.loc Cert.InBwdIdeal.main_arg2)) (m (c.tc.loc Cert.InBwdIdeal.main_arg3)) (m (c.tc.loc Cert.InBwdIdeal.main_arg4)) (m (c.tc.loc Cert.InBwdIdeal.main_arg5)), fun c => REF1 (m (c.tc.loc Cert.InBwdIdeal.main_arg0)) (m (c.tc.loc Cert.InBwdIdeal.main_arg1)) (m (c.tc.loc Cert.InBwdIdeal.main_arg3)) (m (c.tc.loc Cert.InBwdIdeal.main_arg4)), ?_, ?_⟩
  · refine (θ_run _ _ _).mono (fun r h c => ?_) (Cert.InBwdIdeal.Value.run_blocks m g)
    obtain ⟨r1, r2, r3⟩ := h c
    exact ⟨r1.trans (final7 m c), r2.trans (final8 m c), r3⟩
  · refine (θ_run _ _ _).mono (fun r h c => ?_) (Cert.InRefIdeal.Value.run m' g')
    obtain ⟨h0, h1, h2, h3, h4, h5⟩ := hagree c
    obtain ⟨r1, r2, r3⟩ := h c
    refine ⟨r1.trans ((ref0 m' c).trans ?_), r2.trans ?_, r3⟩
    · rw [h0, h1, h2, h3, h4, h5]
    · funext j
      rw [h0, h1, h3, h4]
      idx_vars j
      pointwise
      exact Fin.sum_univ_one _

/-- The reference leaves its arguments and the counters as they were. -/
theorem in_ref_frame : Cert.quiescent_InRefIdeal := fun m g _ =>
  (θ_run Cert.InRefIdeal.defs _ _).mono (fun r h => ⟨fun c => (h c).2.2, sem_eq_zero_of_no_sems (by decide) r.2⟩)
    (Cert.InRefIdeal.Value.run m g)

end Cert.Proof

end
-- ==== Proof.Loss.lean ====
/- The value of `mlp_down_final_norm_loss`: the residual stream after the MLP, the loss of its RMS norm against the target,
   and the gradients of the stream and of the gain are the reference's; loss and gain's gradient are summed over the grid. -/
module

public import proofs.«01_k».proof.Proof.Norm
public import proofs.«01_k».proof.Proof.Gen.LossBwdIdeal.Value
public import proofs.«01_k».proof.Proof.Gen.LossRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LossBwdIdeal.Loss
open Cert.LossBwdIdeal Cert.LossBwdIdeal.Gen Cert.Norm
variable (m : (ℓ : Loc nD τ sig) → Buf (Elt Ideal) ℓ)

/-- The residual stream after the MLP. -/
def strm {n : ℕ} (A : Fin n → Fin 4096 → EReal) (W : Fin 4096 → Fin 1024 → EReal) (X : Fin n → Fin 1024 → EReal) (i : Fin n) (l : Fin 1024) : EReal :=
  X i l + ∑ k : Fin 4096, A i k * W k l

/-- A row's difference from its target after the norm. -/
def err (x g t : Fin 1024 → EReal) (l : Fin 1024) : EReal := x l * Ideal.rsqrt (ms x) * g l - t l

/-- The gradient of a row's normed entry. -/
def derr (x g t : Fin 1024 → EReal) (l : Fin 1024) : EReal := Ideal.div (err x g t l) (Ideal.ofBits .f32 1149239296#32)

/-- A row's gradient. -/
def row (x g t : Fin 1024 → EReal) (j : Fin 1024) : EReal := dx x (fun l => derr x g t l * g l) j

/-- A row's squared difference. -/
def sqErr (x g t : Fin 1024 → EReal) : EReal := ∑ l, err x g t l * err x g t l

/-- The number of columns the mean divides by. -/
theorem width : Ideal.ofBits .f32 1149239296#32 = ((1024 : ℝ) : EReal) := by
  simp [Ideal.ofBits, Ideal.ieee]; rw [← EReal.coe_mul]; norm_num

theorem half : Ideal.ofBits .f32 1056964608#32 = ((1 / 2 : ℝ) : EReal) := by
  simp [Ideal.ofBits, Ideal.ieee]; rw [← EReal.coe_mul]; norm_num

theorem two : Ideal.ofBits .f32 1073741824#32 = ((2 : ℝ) : EReal) := by
  simp [Ideal.ofBits, Ideal.ieee]; try (rw [← EReal.coe_mul]; norm_num)

/-- The half of the loss, the mean's divisor and the square's two together divide by the width. -/
theorem fact (e : EReal) : Ideal.div (Ideal.ofBits .f32 1056964608#32) (Ideal.ofBits .f32 1149239296#32)
    * (Ideal.ofBits .f32 1073741824#32 * e) = Ideal.div e (Ideal.ofBits .f32 1149239296#32) := by
  rw [width, half, two, Ideal.div_coe (by norm_num), Ideal.div_coe (by norm_num), ← mul_assoc, mul_comm e, ← EReal.coe_mul, ← EReal.coe_mul]
  congr 2
  norm_num

/-- A number that is not negative distributes over a sum. -/
theorem const_sum {n : ℕ} (r : ℝ) (hr : 0 ≤ r) (f : Fin n → EReal) : ∑ i, (r : EReal) * f i = r * ∑ i, f i := by
  have h : ∀ s : Finset (Fin n), ∑ i ∈ s, (r : EReal) * f i = r * ∑ i ∈ s, f i := by
    intro s
    induction s using Finset.induction_on with
    | empty => simp
    | insert a s ha ih => rw [Finset.sum_insert ha, Finset.sum_insert ha, ih, EReal.left_distrib_of_nonneg_of_ne_top (EReal.coe_nonneg.mpr hr) (EReal.coe_ne_top _)]
  exact h _

/-- A half distributes over a sum. -/
theorem half_sum {n : ℕ} (f : Fin n → EReal) : ∑ i, Ideal.ofBits .f32 1056964608#32 * f i = Ideal.ofBits .f32 1056964608#32 * ∑ i, f i := by
  rw [half]; exact const_sum _ (by norm_num) f

/-- The half of a sum's mean as the sum of the halved means. -/
theorem mean_sum {n : ℕ} (f : Fin n → EReal) : Ideal.div (Ideal.ofBits .f32 1056964608#32 * ∑ i, f i) (Ideal.ofBits .f32 1149239296#32)
    = ∑ i, Ideal.ofBits .f32 1056964608#32 * Ideal.div (f i) (Ideal.ofBits .f32 1149239296#32) := by
  rw [half_sum, width, Ideal.div_coe (by norm_num), mul_assoc]
  simp only [Ideal.div_coe (show (1024 : ℝ) ≠ 0 by norm_num)]
  rw [mul_comm (∑ i, f i), ← const_sum _ (by norm_num)]
  simp only [mul_comm]

/-- The residual stream's gradient. -/
def REF0 (A : FVec Ideal S8192x4096 .f32) (W : FVec Ideal S4096x1024 .f32) (X T : FVec Ideal S8192x1024 .f32) (g : FVec Ideal S1x1024 .f32) : FVec Ideal S8192x1024 .f32 :=
  fun i => row (strm (fun i k => A (ix2 i k)) (fun k l => W (ix2 k l)) (fun i l => X (ix2 i l)) (i 0)) (fun l => g (ix2 0 l)) (fun l => T (ix2 (i 0) l)) (i 1)

/-- A row's mean squared difference. -/
def lossR (A : FVec Ideal S8192x4096 .f32) (W : FVec Ideal S4096x1024 .f32) (X T : FVec Ideal S8192x1024 .f32) (g : FVec Ideal S1x1024 .f32) (i : Fin 8192) : EReal :=
  Ideal.div (sqErr (strm (fun i k => A (ix2 i k)) (fun k l => W (ix2 k l)) (fun i l => X (ix2 i l)) i) (fun l => g (ix2 0 l)) (fun l => T (ix2 i l))) (Ideal.ofBits .f32 1149239296#32)

/-- The loss, in every lane. -/
def REF1 (A : FVec Ideal S8192x4096 .f32) (W : FVec Ideal S4096x1024 .f32) (X T : FVec Ideal S8192x1024 .f32) (g : FVec Ideal S1x1024 .f32) : FVec Ideal S1x128 .f32 :=
  fun _ => Ideal.ofBits .f32 1056964608#32 * ∑ i : Fin 8192, lossR A W X T g i

/-- A row's part of the gain's gradient. -/
def dgR (A : FVec Ideal S8192x4096 .f32) (W : FVec Ideal S4096x1024 .f32) (X T : FVec Ideal S8192x1024 .f32) (g : FVec Ideal S1x1024 .f32) (j : Fin 1024) (i : Fin 8192) : EReal :=
  dg (strm (fun i k => A (ix2 i k)) (fun k l => W (ix2 k l)) (fun i l => X (ix2 i l)) i) (derr (strm (fun i k => A (ix2 i k)) (fun k l => W (ix2 k l)) (fun i l => X (ix2 i l)) i) (fun l => g (ix2 0 l)) (fun l => T (ix2 i l)) j) j

/-- The gain's gradient. -/
def REF2 (A : FVec Ideal S8192x4096 .f32) (W : FVec Ideal S4096x1024 .f32) (X T : FVec Ideal S8192x1024 .f32) (g : FVec Ideal S1x1024 .f32) : FVec Ideal S1x1024 .f32 :=
  fun j => ∑ i : Fin 8192, dgR A W X T g (j 1) i

/-- Every window's block index at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![0, 0] ∧ win0_7.index t = ![0, 0]  :=
  (by decide +kernel : ∀ t : Fin grid0.N, _)

/-- A block's row of the residual stream. -/
abbrev bs {n : ℕ} (W : Vec Ideal S4096x1024 .bf16) (A : Fin n → Fin 4096 → EReal) (X : Fin n → Fin 1024 → EReal) (i : Fin n) : Fin 1024 → EReal :=
  strm A (fun k l => W (ix2 k l)) X i

/-- What is stored at an entry of the block's first half. -/
theorem pay_first (W : Vec Ideal S4096x1024 .bf16) (g : Vec Ideal S1x1024 .f32) (A : Vec Ideal S256x4096 .bf16) (X T : Vec Ideal S256x1024 .f32) (x : S256x1024.Idx) :
    k0_pay13 (F := Ideal) g (k0_pay3 W A X) (k0_pay5 W A X) (k0_pay6 W A X) (k0_pay10 W g A X T) x
      = row (bs W (fun i k => A (ix2 i k)) (fun i l => X (ix2 i l)) (x 0)) (fun l => g (ix2 0 l)) (fun l => T (ix2 (x 0) l)) (x 1) := by
  idx_vars x
  pointwise [k0_pay13, k0_pay12, k0_pay11, k0_pay10, k0_pay9, k0_pay8, k0_pay7, k0_pay6, k0_pay5, k0_pay4, k0_pay3, k0_pay2]
  simp only [Finset.univ_unique, Finset.sum_singleton]
  rfl

/-- What is stored at an entry of the block's second half. -/
theorem pay_second (W : Vec Ideal S4096x1024 .bf16) (g : Vec Ideal S1x1024 .f32) (A : Vec Ideal S256x4096 .bf16) (X T : Vec Ideal S256x1024 .f32) (x : S256x1024.Idx) :
    k0_pay22 (F := Ideal) g (k0_pay15 (k0_pay2 W) A X) (k0_pay17 (k0_pay2 W) A X) (k0_pay18 (k0_pay2 W) A X) (k0_pay20 (k0_pay2 W) g A X T) x
      = row (bs W (fun i k => A (ix2 i k)) (fun i l => X (ix2 i l)) (x 0)) (fun l => g (ix2 0 l)) (fun l => T (ix2 (x 0) l)) (x 1) := by
  idx_vars x
  pointwise [k0_pay22, k0_pay21, k0_pay20, k0_pay19, k0_pay18, k0_pay17, k0_pay16, k0_pay15, k0_pay2]
  simp only [Finset.univ_unique, Finset.sum_singleton]
  rfl

/-- What a grid point adds to the loss. -/
def lpart (W : Vec Ideal S4096x1024 .bf16) (g : Vec Ideal S1x1024 .f32) (A : Vec Ideal S512x4096 .bf16) (X T : Vec Ideal S512x1024 .f32) : EReal :=
  ∑ i : Fin 512, Ideal.ofBits .f32 1056964608#32 * Ideal.div (sqErr (bs W (fun i k => A (ix2 i k)) (fun i l => X (ix2 i l)) i) (fun l => g (ix2 0 l)) (fun l => T (ix2 i l))) (Ideal.ofBits .f32 1149239296#32)

/-- What a grid point adds to the gain's gradient: the sum over the block's 512 rows. -/
def part (W : Vec Ideal S4096x1024 .bf16) (g : Vec Ideal S1x1024 .f32) (A : Vec Ideal S512x4096 .bf16) (X T : Vec Ideal S512x1024 .f32) (j : Fin 1024) : EReal :=
  ∑ i : Fin 512, dg (bs W (fun i k => A (ix2 i k)) (fun i l => X (ix2 i l)) i) (derr (bs W (fun i k => A (ix2 i k)) (fun i l => X (ix2 i l)) i) (fun l => g (ix2 0 l)) (fun l => T (ix2 i l)) j) j

/-- The loss's part that a grid point computes from its two halves. -/
theorem pay_loss (W : Vec Ideal S4096x1024 .bf16) (g : Vec Ideal S1x1024 .f32) (A : Vec Ideal S512x4096 .bf16) (X T : Vec Ideal S512x1024 .f32) (j : S1x128.Idx) :
    k0_pay23 (F := Ideal) (k0_pay14 (k0_pay9 W g (View.ld A (Rect.unit ![0, 0] ![256, 4096] inb_S512x4096_S256x4096_0_0))
          (View.ld X (Rect.unit ![0, 0] ![256, 1024] inb_S512x1024_S256x1024_0_0))
          (View.ld T (Rect.unit ![0, 0] ![256, 1024] inb_S512x1024_S256x1024_0_0))))
      (k0_pay20 (k0_pay2 W) g (View.ld A (Rect.unit ![256, 0] ![256, 4096] inb_S512x4096_S256x4096_256_0))
          (View.ld X (Rect.unit ![256, 0] ![256, 1024] inb_S512x1024_S256x1024_256_0))
          (View.ld T (Rect.unit ![256, 0] ![256, 1024] inb_S512x1024_S256x1024_256_0))) j
      = lpart W g A X T := by
  idx_vars j
  refine Eq.trans ?_ (sum_halves _)
  refine Eq.trans ?_ (congrArg₂ (· + ·) (mean_sum _) (mean_sum _))
  pointwise [k0_pay23, k0_pay14, k0_pay20, k0_pay19, k0_pay18, k0_pay17, k0_pay16, k0_pay15, k0_pay9, k0_pay8, k0_pay7, k0_pay6, k0_pay5, k0_pay4, k0_pay3, k0_pay2]
  rfl

/-- The gain's part that a grid point computes from its two halves. -/
theorem pay_gain (W : Vec Ideal S4096x1024 .bf16) (g : Vec Ideal S1x1024 .f32) (A : Vec Ideal S512x4096 .bf16) (X T : Vec Ideal S512x1024 .f32) (j : S1x1024.Idx) :
    k0_pay24 (F := Ideal) (k0_pay12 (k0_pay11 W g (View.ld A (Rect.unit ![0, 0] ![256, 4096] inb_S512x4096_S256x4096_0_0))
          (View.ld X (Rect.unit ![0, 0] ![256, 1024] inb_S512x1024_S256x1024_0_0))
          (View.ld T (Rect.unit ![0, 0] ![256, 1024] inb_S512x1024_S256x1024_0_0))))
      (k0_pay19 (k0_pay2 W) (View.ld A (Rect.unit ![256, 0] ![256, 4096] inb_S512x4096_S256x4096_256_0))
          (View.ld X (Rect.unit ![256, 0] ![256, 1024] inb_S512x1024_S256x1024_256_0)))
      (k0_pay20 (k0_pay2 W) g (View.ld A (Rect.unit ![256, 0] ![256, 4096] inb_S512x4096_S256x4096_256_0))
          (View.ld X (Rect.unit ![256, 0] ![256, 1024] inb_S512x1024_S256x1024_256_0))
          (View.ld T (Rect.unit ![256, 0] ![256, 1024] inb_S512x1024_S256x1024_256_0))) j
      = part W g A X T (j 1) := by
  idx_vars j
  refine Eq.trans ?_ (sum_halves _)
  pointwise [k0_pay24, k0_pay12,k0_pay11,k0_pay21, k0_pay20, k0_pay19, k0_pay18, k0_pay17, k0_pay16, k0_pay15, k0_pay10, k0_pay9, k0_pay8, k0_pay7, k0_pay6, k0_pay5, k0_pay4, k0_pay3, k0_pay2]
  rfl

/-- What a grid point stores at an entry of its block, over the blocks it reads. -/
def entry (W : Vec Ideal S4096x1024 .bf16) (g : Vec Ideal S1x1024 .f32) (A : Vec Ideal S512x4096 .bf16) (X T : Vec Ideal S512x1024 .f32) (y : S512x1024.Idx) : EReal :=
  row (bs W (fun i k => A (ix2 i k)) (fun i l => X (ix2 i l)) (y 0)) (fun l => g (ix2 0 l)) (fun l => T (ix2 (y 0) l)) (y 1)

/-- A half block's entry is the block's. -/
theorem entry_congr {W : Vec Ideal S4096x1024 .bf16} {g : Vec Ideal S1x1024 .f32} {A : Vec Ideal S512x4096 .bf16}
    {X T : Vec Ideal S512x1024 .f32} {A' : Vec Ideal S256x4096 .bf16} {X' T' : Vec Ideal S256x1024 .f32} {x : S256x1024.Idx} {y : S512x1024.Idx}
    (hA : ∀ k, A' (ix2 (x 0) k) = A (ix2 (y 0) k)) (hX : ∀ k, X' (ix2 (x 0) k) = X (ix2 (y 0) k)) (hT : ∀ k, T' (ix2 (x 0) k) = T (ix2 (y 0) k)) (h1 : x 1 = y 1) :
    row (bs W (fun i k => A' (ix2 i k)) (fun i l => X' (ix2 i l)) (x 0)) (fun l => g (ix2 0 l)) (fun l => T' (ix2 (x 0) l)) (x 1) = entry W g A X T y := by
  unfold entry bs
  rw [h1, show strm (fun i k => A' (ix2 i k)) (fun k l => W (ix2 k l)) (fun i l => X' (ix2 i l)) (x 0) = strm (fun i k => A (ix2 i k)) (fun k l => W (ix2 k l)) (fun i l => X (ix2 i l)) (y 0) from
    funext fun l => by simp only [strm, hA, hX], funext hT]

/-- What the first output's block holds after a grid point. -/
theorem outs5 (c : Dev nD) (t : Fin cfg0.N) (y) : (outsAt0 m c t.val t.isLt).1 y
    = entry (iblk m c 3 t) (iblk m c 4 t) (iblk m c 0 t) (iblk m c 1 t) (iblk m c 2 t) y := by
  have ht : t.val < 16 := lt_of_lt_of_eq t.isLt N_0
  by_cases h1 : 1 ≤ t.val
  · rw [outsAt0_B m c t (by omega) h1 (by omega) h1]; frame_out
    canon_tiles x h
    · refine (pay_second _ _ _ _ _ _).trans (entry_congr (fun k => ?_) (fun k => ?_) (fun k => ?_) (Fin.ext h1.symm))
      all_goals (pointwise; blk_ext)
    · refine (pay_first _ _ _ _ _ _).trans (entry_congr (fun k => ?_) (fun k => ?_) (fun k => ?_) (Fin.ext h1.symm))
      all_goals (pointwise; blk_ext)
  · rw [outsAt0_A m c t (by omega) h1 (by omega) h1]; frame_out
    canon_tiles x h
    · refine (pay_second _ _ _ _ _ _).trans (entry_congr (fun k => ?_) (fun k => ?_) (fun k => ?_) (Fin.ext h1.symm))
      all_goals (pointwise; blk_ext)
    · refine (pay_first _ _ _ _ _ _).trans (entry_congr (fun k => ?_) (fun k => ?_) (fun k => ?_) (Fin.ext h1.symm))
      all_goals (pointwise; blk_ext)

/-- A row of the residual stream over the blocks is the row over the arrays. -/
theorem strm_eq (c : Dev nD) (t : Fin cfg0.N) (i : Fin 512) (r : Fin 8192) (hr : r.val = t.val * 512 + i.val) :
    bs (iblk m c 3 t) (fun i k => (show Vec Ideal S512x4096 .bf16 from iblk m c 0 t) (ix2 i k)) (fun i k => (show Vec Ideal S512x1024 .f32 from iblk m c 1 t) (ix2 i k)) i
      = strm (fun i k => (m ((c : Thread nD τ).loc main_arg0)) (ix2 i k)) (fun k l => (m ((c : Thread nD τ).loc main_arg1)) (ix2 k l)) (fun i l => (m ((c : Thread nD τ).loc main_arg2)) (ix2 i l)) r := by
  funext l
  refine congrArg₂ (· + ·) ?_ (Finset.sum_congr rfl fun k _ => congrArg₂ (· * ·) ?_ ?_)
  all_goals blk_ext [iblk, V, idx t]

/-- A row of the target over the blocks is the row over the array. -/
theorem tgt_eq (c : Dev nD) (t : Fin cfg0.N) (i : Fin 512) (r : Fin 8192) (hr : r.val = t.val * 512 + i.val) :
    (fun l => (show Vec Ideal S512x1024 .f32 from iblk m c 2 t) (ix2 i l)) = fun l => (m ((c : Thread nD τ).loc main_arg3)) (ix2 r l) := by
  funext l
  blk_ext [iblk, V, idx t]

/-- The gain as the grid reads it. -/
theorem gain_eq (c : Dev nD) (t : Fin cfg0.N) :
    (fun l => (show Vec Ideal S1x1024 .f32 from iblk m c 4 t) (ix2 0 l)) = fun l => (m ((c : Thread nD τ).loc main_arg4)) (ix2 0 l) := by
  funext l
  blk_ext [iblk, V, idx t]

/-- What a grid point leaves at a block index is the reference at the array index it stands at. -/
theorem point5 (c : Dev nD) (t : Fin cfg0.N) (y) : (outsAt0 m c t.val t.isLt).1 y
    = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  rw [outs5]
  unfold entry REF0
  have h0 : ((((cfg0.win 5).blk t).view.emb y) 0).val = t.val * 512 + (y 0).val := by blk_simp [idx t]
  have h1 : y 1 = (((cfg0.win 5).blk t).view.emb y) 1 := Fin.ext (by blk_simp [idx t])
  rw [strm_eq m c t _ _ h0, tgt_eq m c t _ _ h0, gain_eq, h1]

/-- The first result after the run. -/
theorem final5 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point5 m c t y

/-- A grid point's part of the gain's gradient as the sum over the array's rows that the point holds. -/
theorem part_eq (c : Dev nD) (t : Fin cfg0.N) (j : Fin 1024) : part (iblk m c 3 t) (iblk m c 4 t) (iblk m c 0 t) (iblk m c 1 t) (iblk m c 2 t) j
    = ∑ i : Fin 512, dgR (m ((c : Thread nD τ).loc main_arg0)) (m ((c : Thread nD τ).loc main_arg1)) (m ((c : Thread nD τ).loc main_arg2)) (m ((c : Thread nD τ).loc main_arg3)) (m ((c : Thread nD τ).loc main_arg4)) j ⟨t.val * 512 + i.val, have := lt_of_lt_of_eq t.isLt N_0; by omega⟩ := by
  refine Finset.sum_congr rfl fun i _ => ?_
  rw [strm_eq m c t i ⟨t.val * 512 + i.val, have := lt_of_lt_of_eq t.isLt N_0; by omega⟩ rfl, tgt_eq m c t i ⟨t.val * 512 + i.val, have := lt_of_lt_of_eq t.isLt N_0; by omega⟩ rfl, gain_eq]
  rfl

/-- A grid point's part of the loss as the sum over the array's rows that the point holds. -/
theorem lpart_eq (c : Dev nD) (t : Fin cfg0.N) : lpart (iblk m c 3 t) (iblk m c 4 t) (iblk m c 0 t) (iblk m c 1 t) (iblk m c 2 t)
    = ∑ i : Fin 512, Ideal.ofBits .f32 1056964608#32 * lossR (m ((c : Thread nD τ).loc main_arg0)) (m ((c : Thread nD τ).loc main_arg1)) (m ((c : Thread nD τ).loc main_arg2)) (m ((c : Thread nD τ).loc main_arg3)) (m ((c : Thread nD τ).loc main_arg4)) ⟨t.val * 512 + i.val, have := lt_of_lt_of_eq t.isLt N_0; by omega⟩ := by
  refine Finset.sum_congr rfl fun i _ => ?_
  rw [strm_eq m c t i ⟨t.val * 512 + i.val, have := lt_of_lt_of_eq t.isLt N_0; by omega⟩ rfl, tgt_eq m c t i ⟨t.val * 512 + i.val, have := lt_of_lt_of_eq t.isLt N_0; by omega⟩ rfl, gain_eq]
  rfl

/-- The first point stores its parts of the loss and of the gain's gradient. -/
theorem loss_first (c : Dev nD) (t : Fin cfg0.N) (h : t.val % 16 = 0) (h1 : ¬1 ≤ t.val) (j : S1x128.Idx) :
    (outsAt0 m c t.val t.isLt).2.1 j = lpart (iblk m c 3 t) (iblk m c 4 t) (iblk m c 0 t) (iblk m c 1 t) (iblk m c 2 t) := by
  rw [outsAt0_A m c t h h1 h h1]; frame_out
  exact pay_loss _ _ _ _ _ _

theorem gain_first (c : Dev nD) (t : Fin cfg0.N) (h : t.val % 16 = 0) (h1 : ¬1 ≤ t.val) (j : S1x1024.Idx) :
    (outsAt0 m c t.val t.isLt).2.2 j = part (iblk m c 3 t) (iblk m c 4 t) (iblk m c 0 t) (iblk m c 1 t) (iblk m c 2 t) (j 1) := by
  rw [outsAt0_A m c t h h1 h h1]; frame_out
  exact pay_gain _ _ _ _ _ _

/-- Every later point adds its parts. -/
theorem loss_next (c : Dev nD) (t : Fin cfg0.N) (h : ¬t.val % 16 = 0) (h1 : 1 ≤ t.val) (j : S1x128.Idx) :
    (outsAt0 m c t.val t.isLt).2.1 j = (outsAt0 m c (t.val - 1) (Nat.lt_of_le_of_lt (Nat.sub_le _ _) t.isLt)).2.1 j
      + lpart (iblk m c 3 t) (iblk m c 4 t) (iblk m c 0 t) (iblk m c 1 t) (iblk m c 2 t) := by
  rw [outsAt0_B m c t h h1 h h1]; frame_out
  refine Eq.trans ?_ (congrArg (_ + ·) (pay_loss _ _ _ _ _ j))
  idx_vars j
  pointwise [k0_pay25]

theorem gain_next (c : Dev nD) (t : Fin cfg0.N) (h : ¬t.val % 16 = 0) (h1 : 1 ≤ t.val) (j : S1x1024.Idx) :
    (outsAt0 m c t.val t.isLt).2.2 j = (outsAt0 m c (t.val - 1) (Nat.lt_of_le_of_lt (Nat.sub_le _ _) t.isLt)).2.2 j
      + part (iblk m c 3 t) (iblk m c 4 t) (iblk m c 0 t) (iblk m c 1 t) (iblk m c 2 t) (j 1) := by
  rw [outsAt0_B m c t h h1 h h1]; frame_out
  refine Eq.trans ?_ (congrArg (_ + ·) (pay_gain _ _ _ _ _ j))
  idx_vars j
  pointwise [k0_pay1]

/-- After the last point the gain's gradient is the sum of all parts. -/
theorem acc7 (c : Dev nD) (j : S1x1024.Idx) : (outsAt0 m c t0_15.val t0_15.isLt).2.2 j
    = ∑ p : Fin cfg0.N, part (iblk m c 3 p) (iblk m c 4 p) (iblk m c 0 p) (iblk m c 1 p) (iblk m c 2 p) (j 1) := by
  rw [Pipeline.eq_sum_fin_of_reset_step_apply_last (fun n h => (outsAt0 m c n h).2.2) 16 (fun _ => 0)
    (fun p j => part (iblk m c 3 p) (iblk m c 4 p) (iblk m c 0 p) (iblk m c 1 p) (iblk m c 2 p) (j 1))
    (fun t h j => by
      have ht : t.val < 16 := lt_of_lt_of_eq t.isLt N_0
      rw [gain_first m c t h (by omega), zero_add])
    (fun t h j => by
      have ht : t.val < 16 := lt_of_lt_of_eq t.isLt N_0
      rw [gain_next m c t h (by omega)])
    (le_of_eq N_0) t0_15 rfl, zero_add]

/-- After the last point the loss is the sum of all parts. -/
theorem acc6 (c : Dev nD) (j : S1x128.Idx) : (outsAt0 m c t0_15.val t0_15.isLt).2.1 j
    = ∑ p : Fin cfg0.N, lpart (iblk m c 3 p) (iblk m c 4 p) (iblk m c 0 p) (iblk m c 1 p) (iblk m c 2 p) := by
  rw [Pipeline.eq_sum_fin_of_reset_step_apply_last (fun n h => (outsAt0 m c n h).2.1) 16 (fun _ => 0)
    (fun p _ => lpart (iblk m c 3 p) (iblk m c 4 p) (iblk m c 0 p) (iblk m c 1 p) (iblk m c 2 p))
    (fun t h j => by
      have ht : t.val < 16 := lt_of_lt_of_eq t.isLt N_0
      rw [loss_first m c t h (by omega), zero_add])
    (fun t h j => by
      have ht : t.val < 16 := lt_of_lt_of_eq t.isLt N_0
      rw [loss_next m c t h (by omega)])
    (le_of_eq N_0) t0_15 rfl, zero_add]

/-- The gain's gradient after the run. -/
theorem final7 (c : Dev nD) : (dats m 0 c).arrAt 7 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  rw [after0_7, acc7]
  refine (Finset.sum_congr rfl fun p _ => part_eq m c p (j 1)).trans ?_
  exact Fin.sum_mul_add_fin cfg0.N 512 (dgR (m ((c : Thread nD τ).loc main_arg0)) (m ((c : Thread nD τ).loc main_arg1)) (m ((c : Thread nD τ).loc main_arg2)) (m ((c : Thread nD τ).loc main_arg3)) (m ((c : Thread nD τ).loc main_arg4)) (j 1)) (by rw [show cfg0.N = 16 from N_0])

/-- The loss after the run. -/
theorem final6 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_15 (by decide +kernel) _ fun j => ?_
  blk_simp
  rw [after0_6, acc6]
  refine (Finset.sum_congr rfl fun p _ => lpart_eq m c p).trans ?_
  refine Eq.trans ?_ (half_sum _)
  exact Fin.sum_mul_add_fin cfg0.N 512 (fun i => Ideal.ofBits .f32 1056964608#32 * lossR (m ((c : Thread nD τ).loc main_arg0)) (m ((c : Thread nD τ).loc main_arg1)) (m ((c : Thread nD τ).loc main_arg2)) (m ((c : Thread nD τ).loc main_arg3)) (m ((c : Thread nD τ).loc main_arg4)) i) (by rw [show cfg0.N = 16 from N_0])

end Cert.LossBwdIdeal.Loss

namespace Cert.Proof

open Cert.LossBwdIdeal.Loss Cert.Norm

set_option maxHeartbeats 2000000 in
/-- `mlp_down_final_norm_loss` computes the loss and the gradients that the reference computes. -/
theorem loss_value : Cert.algebraic_LossBwdIdeal_LossRefIdeal := by
  intro m g m' g' hpre hagree
  refine ⟨fun c => REF0 (m (c.tc.loc Cert.LossBwdIdeal.main_arg0)) (m (c.tc.loc Cert.LossBwdIdeal.main_arg1)) (m (c.tc.loc Cert.LossBwdIdeal.main_arg2)) (m (c.tc.loc Cert.LossBwdIdeal.main_arg3)) (m (c.tc.loc Cert.LossBwdIdeal.main_arg4)),
    fun c => REF1 (m (c.tc.loc Cert.LossBwdIdeal.main_arg0)) (m (c.tc.loc Cert.LossBwdIdeal.main_arg1)) (m (c.tc.loc Cert.LossBwdIdeal.main_arg2)) (m (c.tc.loc Cert.LossBwdIdeal.main_arg3)) (m (c.tc.loc Cert.LossBwdIdeal.main_arg4)),
    fun c => REF2 (m (c.tc.loc Cert.LossBwdIdeal.main_arg0)) (m (c.tc.loc Cert.LossBwdIdeal.main_arg1)) (m (c.tc.loc Cert.LossBwdIdeal.main_arg2)) (m (c.tc.loc Cert.LossBwdIdeal.main_arg3)) (m (c.tc.loc Cert.LossBwdIdeal.main_arg4)), ?_, ?_⟩
  · refine (θ_run _ _ _).mono (fun r h c => ?_) (Cert.LossBwdIdeal.Value.run_blocks m g)
    obtain ⟨r1, r2, r4, r3⟩ := h c
    exact ⟨r1.trans (final5 m c), r2.trans (final6 m c), r4.trans (final7 m c), r3⟩
  · refine (θ_run _ _ _).mono (fun r h c => ?_) (Cert.LossRefIdeal.Value.run m' g')
    obtain ⟨h0, h1, h2, h3, h4⟩ := hagree c
    obtain ⟨r1, r2, r4, r3⟩ := h c
    clear hpre hagree h
    unfold Cert.LossRefIdeal.Value.res_main_v53 at r1
    generalize hY : addf (m' (c.tc.loc Cert.LossRefIdeal.main_arg2) : FVec Ideal Cert.LossRefIdeal.S8192x1024 .f32) (Host.dotGeneral (F := Ideal) (φ₁ := .f32) (φ₂ := .f32) Cert.LossRefIdeal.dot_S8192x4096_S4096x1024_S8192x1024_1_0_0_1_n_n none (m' (c.tc.loc Cert.LossRefIdeal.main_arg0)) (m' (c.tc.loc Cert.LossRefIdeal.main_arg1))) = Y at r1 r2 r4
    generalize hE : subf (F := Ideal) (_ : FVec Ideal Cert.LossRefIdeal.S8192x1024 .f32) _ = E at r1 r2 r4
    generalize hD : mulf (F := Ideal) (broadcastInDim Cert.LossRefIdeal.S8192x1024 _ _ (Host.divf _ _)) _ = D at r1 r4
    have hY' : ∀ i : Fin 8192, (fun l => Y (ix2 i l)) = strm (fun i k => (m' (c.tc.loc Cert.LossRefIdeal.main_arg0)) (ix2 i k)) (fun k l => (m' (c.tc.loc Cert.LossRefIdeal.main_arg1)) (ix2 k l)) (fun i l => (m' (c.tc.loc Cert.LossRefIdeal.main_arg2)) (ix2 i l)) i := by
      intro i; funext l
      rw [← hY]
      pointwise
      rfl
    have hE' : ∀ (i : Fin 8192) (l : Fin 1024), E (ix2 i l) = err (fun l => Y (ix2 i l)) (fun l => (m' (c.tc.loc Cert.LossRefIdeal.main_arg4)) (ix2 0 l)) (fun l => (m' (c.tc.loc Cert.LossRefIdeal.main_arg3)) (ix2 i l)) l := by
      intro i l
      rw [← hE]
      pointwise
      rfl
    have hD' : ∀ (i : Fin 8192) (l : Fin 1024), D (ix2 i l) = derr (fun l => Y (ix2 i l)) (fun l => (m' (c.tc.loc Cert.LossRefIdeal.main_arg4)) (ix2 0 l)) (fun l => (m' (c.tc.loc Cert.LossRefIdeal.main_arg3)) (ix2 i l)) l := by
      intro i l
      unfold derr
      rw [← hD, ← hE']
      pointwise
      exact fact _
    clear hE hY hD
    refine ⟨r1.trans ?_, r2.trans ?_, r4.trans ?_, r3⟩
    all_goals clear r1 r2 r3 r4
    all_goals beta_reduce
    all_goals rw [← h0, ← h1, ← h2, ← h3, ← h4]
    all_goals clear h0 h1 h2 h3 h4
    all_goals funext j
    all_goals idx_vars j
    · pointwise
      simp only [Finset.univ_unique, Finset.sum_singleton]
      unfold REF0 row
      pointwise
      rw [← hY', ← funext (hD' _)]
      rfl
    · pointwise
      unfold REF1 lossR sqErr
      simp only [← hY', ← hE']
    · pointwise
      refine (Fin.sum_univ_one _).trans ?_
      unfold REF2 dgR
      refine Finset.sum_congr rfl fun i _ => ?_
      rw [← hY']
      exact congrArg _ (hD' i j1)

/-- The reference leaves its arguments and the counters as they were. -/
theorem loss_ref_frame : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run m g)

end Cert.Proof

end
-- ==== Proof.PostRef.lean ====
/- The reference of the output projection's call fused with the group norm's gradient, over real arguments. -/
module

public import proofs.«01_k».proof.Proof.Arr
public import proofs.«01_k».proof.Proof.Gen.PostRefIdeal.Run
public import Idealize.ShloMosaic.Lib.Claim

@[expose] public section

set_option maxRecDepth 16384

noncomputable section

open Idealize.ShloMosaic Idealize.ShloMosaic.TcCoe Idealize.SL.Sem

namespace Cert.PostRefIdeal.Real
open Cert.PostRefIdeal Cert.PostRefIdeal.Gen Cert.PostRefIdeal.Value Cert.Arr

/-- The column of a head's lane. -/
def col (h : Fin 8) (d : Fin 64) : Fin 512 := ⟨h.val * 64 + d.val, by omega⟩
/-- The head of a column, and its lane there. -/
def hd (j : Fin 512) : Fin 8 := ⟨j.val / 64, by omega⟩
def ln (j : Fin 512) : Fin 64 := ⟨j.val % 64, by omega⟩
/-- A row less its head's mean. -/
def yc (y : Fin 512 → ℝ) (h : Fin 8) (d : Fin 64) : ℝ := y (col h d) - (∑ d, y (col h d)) / 64
/-- A head's variance with the small constant. -/
def va (y : Fin 512 → ℝ) (h : Fin 8) : ℝ := (∑ d, yc y h d * yc y h d) / 64 + eps
/-- The variance's inverse square root. -/
def rs (y : Fin 512 → ℝ) (h : Fin 8) : ℝ := (Real.sqrt (va y h))⁻¹
/-- What the variance's gradient gives an entry: `e` is the gradient of the normed row. -/
def dv (y e : Fin 512 → ℝ) (h : Fin 8) (d : Fin 64) : ℝ :=
  (∑ d, yc y h d * e (col h d)) * (-(1/2) * (rs y h / va y h)) / 64 * (2 * yc y h d)
/-- The gradient of the norm's input. -/
def dy (y e : Fin 512 → ℝ) (h : Fin 8) (d : Fin 64) : ℝ :=
  e (col h d) * rs y h + dv y e h d + ((∑ d, -(e (col h d) * rs y h)) + ∑ d, -dv y e h d) / 64

theorem va_pos (y : Fin 512 → ℝ) (h : Fin 8) : 0 < va y h := by
  have h1 : 0 ≤ ∑ d, yc y h d * yc y h d := Finset.sum_nonneg fun d _ => mul_self_nonneg _
  have := eps_pos
  unfold va; positivity

/-- A row of a matrix. -/
def row {n k : ℕ} (A : (⟨2, ![n, k]⟩ : Shape).Idx → ℝ) (i : Fin n) : Fin k → ℝ := fun l => A (ix2 i l)
/-- The gradient of the gated row. -/
def dz (d : Fin 1024 → ℝ) (W : S1024x1024.Idx → ℝ) (j : Fin 512) : ℝ := ∑ k : Fin 1024, d k * W (ix2 ⟨512 + j.val, by omega⟩ k)

def ycT (Y : S8192x512.Idx → ℝ) : S8192x8x64.Idx → ℝ := fun i => yc (row Y (i 0)) (i 1) (i 2)
def vaT (Y : S8192x512.Idx → ℝ) : S8192x8x1.Idx → ℝ := fun i => va (row Y (i 0)) (i 1)
def rsT (Y : S8192x512.Idx → ℝ) : S8192x8x1.Idx → ℝ := fun i => rs (row Y (i 0)) (i 1)
/-- The gradient through the gate, over all rows. -/
def ddT (D : S8192x1024.Idx → ℝ) (G : S8192x512.Idx → ℝ) (W : S1024x1024.Idx → ℝ) : S8192x512.Idx → ℝ := fun i => dz (row D (i 0)) W (i 1) * G i

theorem fold_yc (Y : S8192x512.Idx → ℝ) (h1 h2 h3) : (arr (φ := .f32) (fun i => shapeCast S8192x8x64 Y h1 i - broadcastInDim S8192x8x64 ![0, 1, 2] h2 (fun i => broadcastInDim S8192x8x1 ![0, 1] h3
    (fun j : S8192x8.Idx => ∑ d : Fin 64, shapeCast S8192x8x64 Y h1 (ix3 (j 0) (j 1) d)) i / 64) i) : FVec Ideal S8192x8x64 .f32) = arr (ycT Y) := by
  refine congrArg arr ?_
  funext x; idx_vars x
  pointwise [ycT, yc, row, col]
theorem fold_va (Y : S8192x512.Idx → ℝ) (h1) : (arr (φ := .f32) (fun i => broadcastInDim S8192x8x1 ![0, 1] h1 (fun j : S8192x8.Idx => ∑ d : Fin 64, ycT Y (ix3 (j 0) (j 1) d) * ycT Y (ix3 (j 0) (j 1) d)) i / 64 + eps) : FVec Ideal S8192x8x1 .f32)
    = arr (vaT Y) := by
  refine congrArg arr ?_
  funext x; idx_vars x
  pointwise [vaT, va, ycT]
theorem fold_rs (Y : S8192x512.Idx → ℝ) : Host.rsqrt (arr (φ := .f32) (vaT Y)) = arr (rsT Y) := arr_hrsqrt _ fun i => va_pos _ _
theorem fold_rv (Y : S8192x512.Idx → ℝ) : Host.divf (arr (φ := .f32) (rsT Y)) (arr (vaT Y)) = arr (fun i => rsT Y i / vaT Y i) := arr_hdiv _ _ fun i => va_pos _ _
theorem fold_dd (D : S8192x1024.Idx → ℝ) (G : S8192x512.Idx → ℝ) (W : S1024x1024.Idx → ℝ) (h1) :
    (arr (φ := .f32) (fun i => extractStridedSlice S8192x512 ![0, 512] (fun j : S8192x1024.Idx => ∑ k : Fin 1024, D (ix2 (j 0) k) * W (ix2 (j 1) k)) h1 i * G i) : FVec Ideal S8192x512 .f32) = arr (ddT D G W) := by
  refine congrArg arr ?_
  funext x; idx_vars x
  pointwise [ddT, dz, row]

theorem sum_8192x8x64 (A : S8192x8x64.Idx → ℝ) (h h') : Host.reduceAdd (arr (φ := .f32) A : FVec Ideal S8192x8x64 .f32) (arr (fun _ => 0) : FVec Ideal S_ .f32) (h : S8192x8x64.ReducesTo [2] S8192x8) h'
    = arr (fun j => ∑ d : Fin 64, A (ix3 (j 0) (j 1) d)) := by
  funext j; idx_vars j
  pointwise [arr]
  simp [total]
theorem sum_8192x8x1 (A : S8192x8x1.Idx → ℝ) (h h') : Host.reduceAdd (arr (φ := .f32) A : FVec Ideal S8192x8x1 .f32) (arr (fun _ => 0) : FVec Ideal S_ .f32) (h : S8192x8x1.ReducesTo [2] S8192x8) h'
    = arr (fun j => A (ix3 (j 0) (j 1) 0)) := by
  funext j; idx_vars j
  pointwise [arr]
  simp [total]
theorem sum_rows3 (A : S8192x8x64.Idx → ℝ) (h h') : Host.reduceAdd (arr (φ := .f32) A : FVec Ideal S8192x8x64 .f32) (arr (fun _ => 0) : FVec Ideal S_ .f32) (h : S8192x8x64.ReducesTo [0] S8x64) h'
    = arr (fun j => ∑ i : Fin 8192, A (ix3 i (j 0) (j 1))) := by
  funext j; idx_vars j
  pointwise [arr]
  simp [total]
theorem sum_one3 (A : S1x8x64.Idx → ℝ) (h h') : Host.reduceAdd (arr (φ := .f32) A : FVec Ideal S1x8x64 .f32) (arr (fun _ => 0) : FVec Ideal S_ .f32) (h : S1x8x64.ReducesTo [0] S8x64) h'
    = arr (fun j => A (ix3 0 (j 0) (j 1))) := by
  funext j; idx_vars j
  pointwise [arr]
  simp [total]
theorem sum_rows (A : S8192x512.Idx → ℝ) (h h') : Host.reduceAdd (arr (φ := .f32) A : FVec Ideal S8192x512 .f32) (arr (fun _ => 0) : FVec Ideal S_ .f32) (h : S8192x512.ReducesTo [0] S512) h'
    = arr (fun j => ∑ i : Fin 8192, A (ix2 i (j 0))) := by
  funext j; idx_vars j
  pointwise [arr]
  simp [total]
theorem sum_one (A : S1x512.Idx → ℝ) (h h') : Host.reduceAdd (arr (φ := .f32) A : FVec Ideal S1x512 .f32) (arr (fun _ => 0) : FVec Ideal S_ .f32) (h : S1x512.ReducesTo [0] S512) h'
    = arr (fun j => A (ix2 0 (j 0))) := by
  funext j; idx_vars j
  pointwise [arr]
  simp [total]
theorem prod (A : S8192x1024.Idx → ℝ) (B : S1024x1024.Idx → ℝ) :
    Host.dotGeneral (F := Ideal) dot_S8192x1024_S1024x1024_S8192x1024_1_1_0_0_n_n none (arr A : FVec Ideal S8192x1024 .f32) (arr B : FVec Ideal S1024x1024 .f32)
    = (arr (fun j => ∑ k : Fin 1024, A (ix2 (j 0) k) * B (ix2 (j 1) k)) : FVec Ideal S8192x1024 .f32) := by
  funext j; idx_vars j
  pointwise [arr]
  simp only [← EReal.coe_mul, total]

/-- Splitting a row's columns into heads. -/
theorem split_row (A : S8192x512.Idx → ℝ) : shapeCast S8192x8x64 A shapeCasts_S8192x512_S8192x8x64 = fun i => A (ix2 (i 0) (col (i 1) (i 2))) := by
  funext x; idx_vars x
  pointwise [col]
/-- Joining the heads again. -/
theorem join_row (A : S8192x8x64.Idx → ℝ) : shapeCast S8192x512 A shapeCasts_S8192x8x64_S8192x512 = fun x => A (ix3 (x 0) (hd (x 1)) (ln (x 1))) := by
  funext x; idx_vars x
  pointwise [hd, ln]
/-- A head's number spread over its columns. -/
theorem spread_head (A : S8192x8.Idx → ℝ) : broadcastInDim S8192x8x64 ![0, 1, 2] bcast_S8192x8x1_S8192x8x64_0_1_2 (broadcastInDim S8192x8x1 ![0, 1] bcast_S8192x8_S8192x8x1_0_1 A) = fun i => A (ix2 (i 0) (i 1)) := by
  funext x; idx_vars x
  pointwise
theorem spread_one (A : S8192x8x1.Idx → ℝ) : broadcastInDim S8192x8x64 ![0, 1, 2] bcast_S8192x8x1_S8192x8x64_0_1_2 A = fun i => A (ix3 (i 0) (i 1) 0) := by
  funext x; idx_vars x
  pointwise
/-- A head's sum spread over its columns, by the other route. -/
theorem spread_sum (A : S8192x8.Idx → ℝ) : broadcastInDim S8192x8x64 ![0, 1] bcast_S8192x8_S8192x8x64_0_1 A = fun i => A (ix2 (i 0) (i 1)) := by
  funext x; idx_vars x
  pointwise
theorem pad_sum (A : S8192x8.Idx → ℝ) : shapeCast S8192x8x1 A shapeCasts_S8192x8_S8192x8x1 = fun i => A (ix2 (i 0) (i 1)) := by
  funext x; idx_vars x
  pointwise
/-- The bonus' weights spread over the rows. -/
theorem spread_weight (q : S1x512.Idx → ℝ) : broadcastInDim S8192x8x64 ![0, 1, 2] bcast_S1x8x64_S8192x8x64_0_1_2 (broadcastInDim S1x8x64 ![1, 2] bcast_S8x64_S1x8x64_1_2 (shapeCast S8x64 (shapeCast S512 q shapeCasts_S1x512_S512) shapeCasts_S512_S8x64))
    = fun i => q (ix2 0 (col (i 1) (i 2))) := by
  funext x; idx_vars x
  pointwise [col]

variable (m : (ℓ : Loc nD τ sig) → Buf (Elt Ideal) ℓ) (c : Dev nD)
  (D : S8192x1024.Idx → ℝ) (Y R K V G : S8192x512.Idx → ℝ) (w b q : S1x512.Idx → ℝ) (W : S1024x1024.Idx → ℝ)
  (h0 : m ((c.tc : Thread nD τ).loc main_arg0) = (arr D : FVec Ideal S8192x1024 .f32))
  (h1 : m ((c.tc : Thread nD τ).loc main_arg1) = (arr Y : FVec Ideal S8192x512 .f32))
  (h2 : m ((c.tc : Thread nD τ).loc main_arg2) = (arr R : FVec Ideal S8192x512 .f32))
  (h3 : m ((c.tc : Thread nD τ).loc main_arg3) = (arr K : FVec Ideal S8192x512 .f32))
  (h4 : m ((c.tc : Thread nD τ).loc main_arg4) = (arr V : FVec Ideal S8192x512 .f32))
  (h5 : m ((c.tc : Thread nD τ).loc main_arg5) = (arr G : FVec Ideal S8192x512 .f32))
  (h6 : m ((c.tc : Thread nD τ).loc main_arg6) = (arr w : FVec Ideal S1x512 .f32))
  (h7 : m ((c.tc : Thread nD τ).loc main_arg7) = (arr b : FVec Ideal S1x512 .f32))
  (h8 : m ((c.tc : Thread nD τ).loc main_arg8) = (arr q : FVec Ideal S1x512 .f32))
  (h9 : m ((c.tc : Thread nD τ).loc main_arg9) = (arr W : FVec Ideal S1024x1024 .f32))

/-- The gradient of the bonus' coefficient. -/
def du (dd v : Fin 512 → ℝ) (h : Fin 8) : ℝ := ∑ d, dd (col h d) * v (col h d)
/-- The bonus' coefficient. -/
def bo (r k q : Fin 512 → ℝ) (h : Fin 8) : ℝ := ∑ d, r (col h d) * k (col h d) * q (col h d)

include h0 h1 h2 h3 h4 h5 h6 h7 h8 h9 in
set_option maxHeartbeats 2000000 in
/-- What the reference leaves, where its arguments are real. -/
theorem ref_run (g : Dev nD → PrngReg) : θ_run defs (onTc (τ := τ) (main (F := Ideal))) ⟨m, fun _ => 0, g⟩ fun r =>
      r.2.mem ((c.tc : Thread nD τ).loc main_v53) = (arr (fun x => ∑ k : Fin 1024, D (ix2 (x 0) k) * W (ix2 ⟨(x 1).val, Nat.lt_of_lt_of_le (x 1).isLt (by decide)⟩ k)) : FVec Ideal S8192x512 .f32)
      ∧ r.2.mem ((c.tc : Thread nD τ).loc main_v111) = (arr (fun x => dy (row Y (x 0)) (fun l => ddT D G W (ix2 (x 0) l) * w (ix2 0 l)) (hd (x 1)) (ln (x 1))) : FVec Ideal S8192x512 .f32)
      ∧ r.2.mem ((c.tc : Thread nD τ).loc main_v110) = (arr (fun x => du (row (ddT D G W) (x 0)) (row V (x 0)) (hd (x 1)) * q (ix2 0 (col (hd (x 1)) (ln (x 1)))) * K (ix2 (x 0) (col (hd (x 1)) (ln (x 1))))) : FVec Ideal S8192x512 .f32)
      ∧ r.2.mem ((c.tc : Thread nD τ).loc main_v109) = (arr (fun x => R (ix2 (x 0) (col (hd (x 1)) (ln (x 1)))) * (du (row (ddT D G W) (x 0)) (row V (x 0)) (hd (x 1)) * q (ix2 0 (col (hd (x 1)) (ln (x 1)))))) : FVec Ideal S8192x512 .f32)
      ∧ r.2.mem ((c.tc : Thread nD τ).loc main_v108) = (arr (fun x => bo (row R (x 0)) (row K (x 0)) (row q 0) (hd (x 1)) * ddT D G W (ix2 (x 0) (col (hd (x 1)) (ln (x 1))))) : FVec Ideal S8192x512 .f32)
      ∧ r.2.mem ((c.tc : Thread nD τ).loc main_v55) = (arr (fun x => (yc (row Y (x 0)) (hd (x 1)) (ln (x 1)) * rs (row Y (x 0)) (hd (x 1)) * w (ix2 0 (x 1)) + b (ix2 0 (x 1)) + bo (row R (x 0)) (row K (x 0)) (row q 0) (hd (x 1)) * V (ix2 (x 0) (col (hd (x 1)) (ln (x 1))))) * dz (row D (x 0)) W (x 1)) : FVec Ideal S8192x512 .f32)
      ∧ r.2.mem ((c.tc : Thread nD τ).loc main_v112) = (arr (fun x => ∑ i : Fin 8192, yc (row Y i) (hd (x 1)) (ln (x 1)) * rs (row Y i) (hd (x 1)) * ddT D G W (ix2 i (x 1))) : FVec Ideal S1x512 .f32)
      ∧ r.2.mem ((c.tc : Thread nD τ).loc main_v113) = (arr (fun x => ∑ i : Fin 8192, ddT D G W (ix2 i (x 1))) : FVec Ideal S1x512 .f32)
      ∧ r.2.mem ((c.tc : Thread nD τ).loc main_v114) = (arr (fun x => ∑ i : Fin 8192, R (ix2 i (col (hd (x 1)) (ln (x 1)))) * K (ix2 i (col (hd (x 1)) (ln (x 1)))) * du (row (ddT D G W) i) (row V i) (hd (x 1))) : FVec Ideal S1x512 .f32) := by
  refine (θ_run defs _ _).mono (fun r h => ?_) (Cert.PostRefIdeal.Value.run (F := Ideal) m g)
  obtain ⟨r0, r1, r2, r3, r4, r5, r6, r7, r8, -⟩ := h c
  rw [r0, r1, r2, r3, r4, r5, r6, r7, r8]
  clear r0 r1 r2 r3 r4 r5 r6 r7 r8 h
  unfold res_main_v111
  simp only [h0, h1, h2, h3, h4, h5, h6, h7, h8, h9]
  simp only [const_0, const_64, const_half, const_2, const_eps, arr_cast, arr_inDim, inDim_const, hdiv_64, arr_slice, arr_mul, arr_add, arr_sub, arr_neg, sum_8192x8x64, sum_8192x8x1, sum_rows3, sum_one3, sum_rows, sum_one, prod,
    fold_yc, fold_va, fold_rs, fold_rv, fold_dd]
  refine ⟨?_, ?_, ?_, ?_, ?_, ?_, ?_, ?_, ?_⟩
  case refine_2 =>
    refine (arr_cast (t := S8192x512) (φ := .f32) _ _).trans (congrArg arr ?_)
    funext x; idx_vars x
    pointwise [ycT, rsT, vaT, row, dy, dv, col, hd, ln]
  case refine_3 | refine_4 | refine_5 =>
    refine congrArg arr ?_
    simp only [split_row, join_row, spread_head, spread_one, spread_sum, pad_sum]
    rw [spread_weight]
    rfl
  case refine_6 =>
    refine congrArg arr ?_
    simp only [split_row, join_row, spread_head, spread_one, spread_sum, pad_sum]
    rw [spread_weight]
    funext x; idx_vars x
    pointwise [ycT, rsT, vaT, row, dz, bo]
  all_goals refine congrArg arr ?_
  all_goals funext x
  all_goals idx_vars x
  all_goals pointwise [ycT, rsT, vaT, row, dz, bo, du, col, hd, ln]

end Cert.PostRefIdeal.Real

end
-- ==== Proof.PostPay.lean ====
/- What a grid point of `out_proj_bwd_rwkv_post_bwd` computes from a half block of real numbers: row by row the group norm's, the
   bonus' and the gate's gradients, with each head's sum taken by a product with the matrix of the heads. -/
module

public import proofs.«01_k».proof.Proof.PostRef
public import proofs.«01_k».proof.Proof.Gen.PostBwdIdeal.Skeleton

@[expose] public section

set_option maxRecDepth 16384

noncomputable section

open Idealize.ShloMosaic Idealize.ShloMosaic.TcCoe Idealize.SL.Sem

namespace Cert.PostBwdIdeal.Pay
open Cert.PostBwdIdeal Cert.PostBwdIdeal.Gen Cert.Arr
open Cert.PostRefIdeal.Real (col hd ln yc va rs dv dy va_pos row du bo)

/-- Which columns share a head. -/
def heads : S512x512.Idx → ℝ := fun i => if (i 0).val / 64 = (i 1).val / 64 then 1 else 0

theorem col_hd_ln (j : Fin 512) : col (hd j) (ln j) = j := Fin.ext (by simp only [col, hd, ln]; omega)
theorem hd_col (h : Fin 8) (d : Fin 64) : hd (col h d) = h := Fin.ext (by simp only [col, hd]; omega)
theorem ln_col (h : Fin 8) (d : Fin 64) : ln (col h d) = d := Fin.ext (by simp only [col, ln]; omega)

/-- A row's sum against the matrix of the heads is the head's sum. -/
theorem head_sum (f : Fin 512 → ℝ) (j : Fin 512) : ∑ k : Fin 512, f k * heads (ix2 k j) = ∑ d : Fin 64, f (col (hd j) d) := by
  rw [← Fin.sum_mul_add_fin 8 64 (fun k : Fin 512 => f k * heads (ix2 k j)) rfl]
  rw [Finset.sum_eq_single (hd j)]
  · refine Finset.sum_congr rfl fun d _ => ?_
    have h1 : heads (ix2 (⟨(hd j).val * 64 + d.val, by have := (hd j).isLt; omega⟩ : Fin 512) j) = 1 := if_pos (by simp only [ix2_0, ix2_1, hd]; omega)
    exact (congrArg (f _ * ·) h1).trans (mul_one _)
  · intro s _ hs
    refine Finset.sum_eq_zero fun d _ => ?_
    have h1 : heads (ix2 (⟨s.val * 64 + d.val, by have := s.isLt; omega⟩ : Fin 512) j) = 0 := if_neg (fun e => hs (Fin.ext (by simp only [ix2_0, ix2_1, hd] at e ⊢; omega)))
    exact (congrArg (f _ * ·) h1).trans (mul_zero _)
  · exact fun h => absurd (Finset.mem_univ _) h

/-- The product with the matrix of the heads. -/
def hs (A : S256x512.Idx → ℝ) : S256x512.Idx → ℝ := fun x => ∑ d : Fin 64, A (ix2 (x 0) (col (hd (x 1)) d))

theorem prod_heads (A : S256x512.Idx → ℝ) : matmul (F := Ideal) dot_S256x512_S512x512_S256x512_1_0_0_1_n_n none (arr (φ := .bf16) A) (arr (φ := .bf16) heads) (arr (φ := .f32) (fun _ => 0))
    = (arr (hs A) : FVec Ideal S256x512 .f32) := by
  funext j; idx_vars j
  pointwise [arr]
  simp only [← EReal.coe_mul, total, head_sum, hs, EReal.coe_zero, zero_add]
  try rfl

theorem prod_w (A : S256x1024.Idx → ℝ) (B : S512x1024.Idx → ℝ) : matmul (F := Ideal) dot_S256x1024_S512x1024_S256x512_1_1_0_0_n_n none (arr (φ := .bf16) A) (arr (φ := .bf16) B) (arr (φ := .f32) (fun _ => 0))
    = (arr (fun x => ∑ k : Fin 1024, A (ix2 (x 0) k) * B (ix2 (x 1) k)) : FVec Ideal S256x512 .f32) := by
  funext j; idx_vars j
  pointwise [arr]
  simp only [← EReal.coe_mul, total, EReal.coe_zero, zero_add]
  try rfl

theorem sum_col (A : S256x512.Idx → ℝ) (h h') : multiReduction (F := Ideal) .add [0] S512 (arr (φ := .f32) A : FVec Ideal S256x512 .f32) 0x00000000#32 reduces_S256x512_S512 h h'
    = (arr (fun j => ∑ i : Fin 256, A (ix2 i (j 0))) : FVec Ideal S512 .f32) := by
  funext j; idx_vars j
  pointwise [arr]
  simp only [total]
  try rfl

theorem to_row (A : S512.Idx → ℝ) : shapeCast S1x512 A shapeCasts_S512_S1x512 = fun x => A (ix1 (x 1)) := by
  funext x; idx_vars x
  pointwise
theorem reduce_col (A : S256x512.Idx → ℝ) : shapeCast S1x512 (multiReduction (F := Ideal) .add [0] S512 (arr (φ := .f32) A : FVec Ideal S256x512 .f32) 0x00000000#32 reduces_S256x512_S512 (.inl rfl) rfl) shapeCasts_S512_S1x512
    = (arr (fun j => ∑ i : Fin 256, A (ix2 i (j 1))) : FVec Ideal S1x512 .f32) := by
  exact (congrArg (fun a => shapeCast S1x512 a shapeCasts_S512_S1x512) (sum_col A (.inl rfl) rfl)).trans ((arr_cast _ _).trans (congrArg arr (to_row _)))
theorem spread (A : S1x512.Idx → ℝ) : broadcastTo S256x512 A broadcasts_S1x512_S256x512 = fun x => A (ix2 0 (x 1)) := by
  funext x; idx_vars x
  pointwise

theorem hs_zero : hs (fun _ => 0) = fun _ => 0 := by funext x; simp [hs]

variable (Y R K V G Z : S256x512.Idx → ℝ) (D : S256x1024.Idx → ℝ) (w b q : S1x512.Idx → ℝ) (W : S512x1024.Idx → ℝ)

/-- A half block less its heads' means, the variance and the variance's inverse square root. -/
def ycB : S256x512.Idx → ℝ := fun x => yc (row Y (x 0)) (hd (x 1)) (ln (x 1))
def vaB : S256x512.Idx → ℝ := fun x => va (row Y (x 0)) (hd (x 1))
def rsB : S256x512.Idx → ℝ := fun x => rs (row Y (x 0)) (hd (x 1))

theorem hs_at (A : S256x512.Idx → ℝ) (x : S256x512.Idx) : hs A x = ∑ d : Fin 64, A (ix2 (x 0) (col (hd (x 1)) d)) := rfl

/-- The block's entry by its head and lane. -/
theorem at_col (A : S256x512.Idx → ℝ) (x : S256x512.Idx) : A (ix2 (x 0) (col (hd (x 1)) (ln (x 1)))) = A x := by
  idx_vars x
  exact congrArg (fun l => A (ix2 x0 l)) (col_hd_ln x1)

theorem p7 : k0_pay7 (F := Ideal) (arr (φ := .bf16) W) (arr (φ := .f32) D) = arr (fun x => ∑ k : Fin 1024, D (ix2 (x 0) k) * W (ix2 (x 1) k)) := by
  unfold k0_pay7 k0_pay5
  simp only [arr_trunc, const_0, arr_cast, shapeCast_self, prod_w]
theorem p8 : k0_pay8 (F := Ideal) (arr (φ := .bf16) W) (arr (φ := .f32) D) = arr (fun x => ∑ k : Fin 1024, D (ix2 (x 0) k) * W (ix2 (x 1) k)) := by
  unfold k0_pay8 k0_pay6
  simp only [arr_trunc, const_0, arr_cast, shapeCast_self, prod_w]
theorem p4 : k0_pay4 (F := Ideal) (arr (φ := .bf16) heads) = arr heads := by
  unfold k0_pay4
  simp only [arr_cast, shapeCast_self]
theorem p9 : k0_pay9 (F := Ideal) (arr (φ := .bf16) heads) (arr (φ := .f32) Y) = arr (ycB Y) := by
  unfold k0_pay9
  simp only [p4, arr_trunc, arr_ext, arr_sub, sub_self, const_0, prod_heads, hs_zero, arr_add, add_zero, splat_64th, arr_mul]
  refine congrArg arr (funext fun x => ?_)
  idx_vars x
  simp only [ycB, yc, row, ix2_0, ix2_1, col_hd_ln, hs_at, mul_one_div]
theorem p10 : k0_pay10 (F := Ideal) (arr (φ := .bf16) heads) (arr (φ := .f32) Y) = arr (fun x => ycB Y x * ycB Y x) := by
  unfold k0_pay10
  rw [p9, arr_mul]
theorem p11 : k0_pay11 (F := Ideal) (arr (φ := .bf16) heads) (arr (φ := .f32) (fun x => ycB Y x * ycB Y x)) = arr (vaB Y) := by
  unfold k0_pay11
  simp only [arr_trunc, arr_ext, arr_sub, sub_self, const_0, prod_heads, hs_zero, arr_add, add_zero, splat_64th, splat_eps, arr_mul]
  refine congrArg arr (funext fun x => ?_)
  rw [vaB, va, hs_at, mul_one_div]
  simp only [ycB]
  idx_vars x
  simp only [ix2_0, ix2_1, hd_col, ln_col]
theorem p12 : k0_pay12 (F := Ideal) (arr (φ := .bf16) heads) (arr (φ := .f32) (fun x => ycB Y x * ycB Y x)) = arr (rsB Y) := by
  unfold k0_pay12
  rw [p11]
  exact arr_rsqrt _ fun x => va_pos _ _
theorem p13 : k0_pay13 (F := Ideal) (arr (φ := .bf16) heads) (arr (φ := .f32) (fun x => ycB Y x * ycB Y x)) = arr (fun x => -(1 / 2) * (rsB Y x / vaB Y x)) := by
  unfold k0_pay13
  rw [p12, p11, show divf (arr (φ := .f32) (rsB Y)) (arr (vaB Y)) = arr (fun x => rsB Y x / vaB Y x) from arr_div _ _ fun x => va_pos _ _]
  simp only [splat_half, arr_mul]
theorem p14 : k0_pay14 (F := Ideal) (arr (φ := .bf16) heads) (arr (φ := .f32) (ycB Y)) (arr (φ := .f32) (fun x => ycB Y x * ycB Y x)) = arr (fun x => ycB Y x * rsB Y x) := by
  unfold k0_pay14
  rw [p12, arr_mul]
/-- The bonus' coefficient. -/
theorem p16 : k0_pay16 (F := Ideal) (arr (φ := .f32) q) (arr (φ := .bf16) heads) (arr (φ := .f32) R) (arr (φ := .f32) K)
    = arr (fun x => bo (row R (x 0)) (row K (x 0)) (row q 0) (hd (x 1))) := by
  unfold k0_pay16 k0_pay15
  simp only [arr_to, spread, arr_trunc, arr_ext, arr_sub, sub_self, const_0, prod_heads, hs_zero, arr_add, add_zero, arr_mul]
  rfl
/-- The gate's gradient. -/
theorem p17 : k0_pay17 (F := Ideal) (arr (φ := .f32) w) (arr (φ := .f32) b) (arr (φ := .f32) q) (arr (φ := .bf16) heads) (arr (φ := .f32) R) (arr (φ := .f32) K) (arr (φ := .f32) V) (arr (φ := .f32) Z) (arr (φ := .f32) (ycB Y)) (arr (φ := .f32) (fun x => ycB Y x * ycB Y x))
    = arr (fun x => (ycB Y x * rsB Y x * w (ix2 0 (x 1)) + b (ix2 0 (x 1)) + bo (row R (x 0)) (row K (x 0)) (row q 0) (hd (x 1)) * V x) * Z x) := by
  unfold k0_pay17
  rw [p14, p16]
  simp only [arr_to, spread, arr_mul, arr_add]
theorem p18 : k0_pay18 (F := Ideal) (arr (φ := .f32) G) (arr (φ := .f32) Z) = arr (fun x => Z x * G x) := by
  unfold k0_pay18; rw [arr_mul]
/-- The values' gradient. -/
theorem p19 : k0_pay19 (F := Ideal) (arr (φ := .f32) q) (arr (φ := .bf16) heads) (arr (φ := .f32) R) (arr (φ := .f32) K) (arr (φ := .f32) G) (arr (φ := .f32) Z)
    = arr (fun x => bo (row R (x 0)) (row K (x 0)) (row q 0) (hd (x 1)) * (Z x * G x)) := by
  unfold k0_pay19
  rw [p16, p18, arr_mul]
/-- The bonus coefficient's gradient. -/
theorem p20 : k0_pay20 (F := Ideal) (arr (φ := .bf16) heads) (arr (φ := .f32) V) (arr (φ := .f32) G) (arr (φ := .f32) Z)
    = arr (fun x => du (row (fun x => Z x * G x) (x 0)) (row V (x 0)) (hd (x 1))) := by
  unfold k0_pay20
  rw [p18]
  simp only [arr_trunc, arr_ext, arr_sub, sub_self, const_0, prod_heads, hs_zero, arr_add, add_zero, arr_mul]
  rfl
/-- The half block's part of the bonus' weights' gradient. -/
theorem p21 : k0_pay21 (F := Ideal) (arr (φ := .bf16) heads) (arr (φ := .f32) R) (arr (φ := .f32) K) (arr (φ := .f32) V) (arr (φ := .f32) G) (arr (φ := .f32) Z)
    = arr (fun x => ∑ i : Fin 256, R (ix2 i (x 1)) * K (ix2 i (x 1)) * du (row (fun x => Z x * G x) i) (row V i) (hd (x 1))) := by
  unfold k0_pay21 k0_pay15
  rw [p20]
  simp only [arr_mul]
  exact reduce_col (fun i => R i * K i * du (row (fun x => Z x * G x) (i 0)) (row V (i 0)) (hd (i 1)))
theorem p22 : k0_pay22 (F := Ideal) (arr (φ := .f32) q) (arr (φ := .bf16) heads) (arr (φ := .f32) V) (arr (φ := .f32) G) (arr (φ := .f32) Z)
    = arr (fun x => du (row (fun x => Z x * G x) (x 0)) (row V (x 0)) (hd (x 1)) * q (ix2 0 (x 1))) := by
  unfold k0_pay22
  rw [p20]
  simp only [arr_to, spread, arr_mul]
/-- The keys' and the receptances' gradients. -/
theorem p23 : k0_pay23 (F := Ideal) (arr (φ := .f32) q) (arr (φ := .bf16) heads) (arr (φ := .f32) R) (arr (φ := .f32) V) (arr (φ := .f32) G) (arr (φ := .f32) Z)
    = arr (fun x => R x * (du (row (fun x => Z x * G x) (x 0)) (row V (x 0)) (hd (x 1)) * q (ix2 0 (x 1)))) := by
  unfold k0_pay23
  rw [p22, arr_mul]
theorem p24 : k0_pay24 (F := Ideal) (arr (φ := .f32) q) (arr (φ := .bf16) heads) (arr (φ := .f32) K) (arr (φ := .f32) V) (arr (φ := .f32) G) (arr (φ := .f32) Z)
    = arr (fun x => du (row (fun x => Z x * G x) (x 0)) (row V (x 0)) (hd (x 1)) * q (ix2 0 (x 1)) * K x) := by
  unfold k0_pay24
  rw [p22, arr_mul]
/-- The half block's parts of the norm's gain's and shift's gradients. -/
theorem p25 : k0_pay25 (F := Ideal) (arr (φ := .f32) Z) = arr (fun x => ∑ i : Fin 256, Z (ix2 i (x 1))) := by
  unfold k0_pay25
  exact reduce_col _
theorem p26 : k0_pay26 (F := Ideal) (arr (φ := .f32) Y) (arr (φ := .f32) Z) = arr (fun x => ∑ i : Fin 256, Y (ix2 i (x 1)) * Z (ix2 i (x 1))) := by
  unfold k0_pay26
  rw [arr_mul]
  exact reduce_col _

/-- The kernel's order of the norm's gradient is the reference's. -/
theorem dy_eq (y e : Fin 512 → ℝ) (h : Fin 8) (d : Fin 64) (c : Fin 8 → ℝ) (hc : ∀ h, c h = ∑ d, yc y h d * e (col h d) * (-(1/2) * (rs y h / va y h)) * (1 / 64)) :
    e (col h d) * rs y h + yc y h d * c h + c h * yc y h d + ∑ d, (0 - (e (col h d) * rs y h + yc y h d * c h + c h * yc y h d)) * (1 / 64)
      = dy y e h d := by
  have hd : ∀ d, dv y e h d = yc y h d * c h + c h * yc y h d := fun d => by
    rw [dv, hc, ← Finset.sum_mul, ← Finset.sum_mul]; ring
  rw [dy]
  simp only [hd]
  rw [← Finset.sum_add_distrib, ← Finset.sum_mul, mul_one_div]
  congr 1
  · ring
  · congr 1
    exact Finset.sum_congr rfl fun d _ => by ring

/-- The gradient of the norm's input. -/
theorem p27 : k0_pay27 (F := Ideal) (arr (φ := .f32) w) (arr (φ := .bf16) heads) (arr (φ := .f32) (ycB Y)) (arr (φ := .f32) (rsB Y)) (arr (φ := .f32) (fun x => -(1 / 2) * (rsB Y x / vaB Y x))) (arr (φ := .f32) Z)
    = arr (fun x => dy (row Y (x 0)) (fun l => Z (ix2 (x 0) l) * w (ix2 0 l)) (hd (x 1)) (ln (x 1))) := by
  unfold k0_pay27
  simp only [arr_to, spread, arr_trunc, arr_ext, arr_sub, sub_self, const_0, prod_heads, hs_zero, arr_add, add_zero, splat_64th, splat_0, arr_mul]
  refine congrArg arr (funext fun x => ?_)
  refine Eq.trans ?_ (dy_eq (row Y (x 0)) (fun l => Z (ix2 (x 0) l) * w (ix2 0 l)) (hd (x 1)) (ln (x 1)) _ fun h => rfl)
  idx_vars x
  simp only [hs, ycB, rsB, vaB, ix2_0, ix2_1, hd_col, ln_col, col_hd_ln]

end Cert.PostBwdIdeal.Pay

end
-- ==== Proof.Post.lean ====
/- The value of `out_proj_bwd_rwkv_post_bwd`: over real arguments every result is the reference's, the three gradients of the
   parameters summed over the grid. -/
module

public import proofs.«01_k».proof.Proof.PostPay
public import proofs.«01_k».proof.Proof.Gen.PostBwdIdeal.Value
public import proofs.«01_k».proof.Proof.Gen.Pre_post_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostBwdIdeal.Post
open Cert.PostBwdIdeal Cert.PostBwdIdeal.Gen Cert.Arr Cert.PostBwdIdeal.Pay
open Cert.PostRefIdeal.Real (col hd ln yc va rs dv dy va_pos row du bo dz ddT)

/-- Rows picked from an array. -/
def pick {n k l : ℕ} (A : (⟨2, ![n, k]⟩ : Shape).Idx → ℝ) (r : Fin l → Fin n) : (⟨2, ![l, k]⟩ : Shape).Idx → ℝ := fun x => A (ix2 (r (x 0)) (x 1))
/-- A half block's row in the block. -/
def lo (i : Fin 256) : Fin 512 := ⟨i.val, by omega⟩
def up (i : Fin 256) : Fin 512 := ⟨256 + i.val, by omega⟩
/-- A block's row in the array. -/
def rr (t : Fin cfg0.N) (i : Fin 512) : Fin 8192 := ⟨t.val * 512 + i.val, have := lt_of_lt_of_eq t.isLt N_0; by omega⟩

theorem sum_halves (f : Fin 512 → ℝ) : ∑ i, f (lo i) + ∑ i, f (up i) = ∑ i, f i := (Fin.sum_univ_add (a := 256) (b := 256) (show Fin (256 + 256) → ℝ from f)).symm

section Half
variable (Y R K V G : S8192x512.Idx → ℝ) (D : S8192x1024.Idx → ℝ) (w b q : S1x512.Idx → ℝ) (W : S1024x1024.Idx → ℝ)

/-- The projection's rows for the attention's output, and for the gated row. -/
def wa : S512x1024.Idx → ℝ := fun x => W (ix2 ⟨(x 0).val, Nat.lt_of_lt_of_le (x 0).isLt (by decide)⟩ (x 1))
def wr : S512x1024.Idx → ℝ := fun x => W (ix2 ⟨512 + (x 0).val, Nat.add_lt_add_left (x 0).isLt 512⟩ (x 1))

/-- The results by row and column. -/
def f12 (i : Fin 8192) (j : Fin 512) : ℝ := ∑ k : Fin 1024, D (ix2 i k) * W (ix2 ⟨j.val, by omega⟩ k)
def f13 (i : Fin 8192) (j : Fin 512) : ℝ := dy (row Y i) (fun l => ddT D G W (ix2 i l) * w (ix2 0 l)) (hd j) (ln j)
def f14 (i : Fin 8192) (j : Fin 512) : ℝ := du (row (ddT D G W) i) (row V i) (hd j) * q (ix2 0 j) * K (ix2 i j)
def f15 (i : Fin 8192) (j : Fin 512) : ℝ := R (ix2 i j) * (du (row (ddT D G W) i) (row V i) (hd j) * q (ix2 0 j))
def f16 (i : Fin 8192) (j : Fin 512) : ℝ := bo (row R i) (row K i) (row q 0) (hd j) * ddT D G W (ix2 i j)
def f17 (i : Fin 8192) (j : Fin 512) : ℝ := (yc (row Y i) (hd j) (ln j) * rs (row Y i) (hd j) * w (ix2 0 j) + b (ix2 0 j) + bo (row R i) (row K i) (row q 0) (hd j) * V (ix2 i j)) * dz (row D i) W j
def f18 (i : Fin 8192) (j : Fin 512) : ℝ := yc (row Y i) (hd j) (ln j) * rs (row Y i) (hd j) * ddT D G W (ix2 i j)
def f19 (i : Fin 8192) (j : Fin 512) : ℝ := ddT D G W (ix2 i j)
def f20 (i : Fin 8192) (j : Fin 512) : ℝ := R (ix2 i j) * K (ix2 i j) * du (row (ddT D G W) i) (row V i) (hd j)

variable (r : Fin 256 → Fin 8192)

/-- A half block's rows as the kernel holds them. -/
abbrev at5 (A : S8192x512.Idx → ℝ) : FVec Ideal S256x512 .f32 := arr (pick A r)
abbrev at10 (A : S8192x1024.Idx → ℝ) : FVec Ideal S256x1024 .f32 := arr (pick A r)
abbrev hm : FVec Ideal S512x512 .bf16 := arr heads

theorem z_eq : k0_pay8 (F := Ideal) (arr (φ := .bf16) (wr W)) (at10 r D) = arr (fun x => dz (row D (r (x 0))) W (x 1)) := (p8 _ _).trans rfl
theorem h12 : k0_pay7 (F := Ideal) (arr (φ := .bf16) (wa W)) (at10 r D) = arr (fun x => f12 D W (r (x 0)) (x 1)) := (p7 _ _).trans rfl
theorem h13 : k0_pay27 (F := Ideal) (arr (φ := .f32) w) (k0_pay4 hm) (k0_pay9 hm (at5 r Y)) (k0_pay12 (k0_pay4 hm) (k0_pay10 hm (at5 r Y))) (k0_pay13 (k0_pay4 hm) (k0_pay10 hm (at5 r Y)))
    (k0_pay18 (at5 r G) (k0_pay8 (arr (φ := .bf16) (wr W)) (at10 r D))) = arr (fun x => f13 Y G D w W (r (x 0)) (x 1)) := by
  rw [p4, p9, p10, p12, p13, z_eq, p18, p27]; rfl
theorem h14 : k0_pay24 (F := Ideal) (arr (φ := .f32) q) (k0_pay4 hm) (at5 r K) (at5 r V) (at5 r G) (k0_pay8 (arr (φ := .bf16) (wr W)) (at10 r D))
    = arr (fun x => f14 K V G D q W (r (x 0)) (x 1)) := by
  rw [p4, z_eq, p24]; rfl
theorem h15 : k0_pay23 (F := Ideal) (arr (φ := .f32) q) (k0_pay4 hm) (at5 r R) (at5 r V) (at5 r G) (k0_pay8 (arr (φ := .bf16) (wr W)) (at10 r D))
    = arr (fun x => f15 R V G D q W (r (x 0)) (x 1)) := by
  rw [p4, z_eq, p23]; rfl
theorem h16 : k0_pay19 (F := Ideal) (arr (φ := .f32) q) (k0_pay4 hm) (at5 r R) (at5 r K) (at5 r G) (k0_pay8 (arr (φ := .bf16) (wr W)) (at10 r D))
    = arr (fun x => f16 R K G D q W (r (x 0)) (x 1)) := by
  rw [p4, z_eq, p19]; rfl
theorem h17 : k0_pay17 (F := Ideal) (arr (φ := .f32) w) (arr (φ := .f32) b) (arr (φ := .f32) q) (k0_pay4 hm) (at5 r R) (at5 r K) (at5 r V) (k0_pay8 (arr (φ := .bf16) (wr W)) (at10 r D)) (k0_pay9 hm (at5 r Y)) (k0_pay10 hm (at5 r Y))
    = arr (fun x => f17 Y R K V D w b q W (r (x 0)) (x 1)) := by
  rw [p4, p9, p10, z_eq, p17]; rfl
theorem h18 : k0_pay26 (F := Ideal) (k0_pay14 (k0_pay4 hm) (k0_pay9 hm (at5 r Y)) (k0_pay10 hm (at5 r Y))) (k0_pay18 (at5 r G) (k0_pay8 (arr (φ := .bf16) (wr W)) (at10 r D)))
    = arr (fun x => ∑ i : Fin 256, f18 Y G D W (r i) (x 1)) := by
  rw [p4, p9, p10, p14, z_eq, p18, p26]; rfl
theorem h19 : k0_pay25 (F := Ideal) (k0_pay18 (at5 r G) (k0_pay8 (arr (φ := .bf16) (wr W)) (at10 r D))) = arr (fun x => ∑ i : Fin 256, f19 G D W (r i) (x 1)) := by
  rw [z_eq, p18, p25]; rfl
theorem h20 : k0_pay21 (F := Ideal) (k0_pay4 hm) (at5 r R) (at5 r K) (at5 r V) (at5 r G) (k0_pay8 (arr (φ := .bf16) (wr W)) (at10 r D)) = arr (fun x => ∑ i : Fin 256, f20 R K V G D W (r i) (x 1)) := by
  rw [p4, z_eq, p21]; rfl

/-- The second half's operations are the first half's. -/
abbrev z2 : FVec Ideal S256x512 .f32 := k0_pay29 (k0_pay6 (arr (φ := .bf16) (wr W))) (at10 r D)
theorem g12 : k0_pay28 (F := Ideal) (k0_pay5 (arr (φ := .bf16) (wa W))) (at10 r D) = arr (fun x => f12 D W (r (x 0)) (x 1)) := h12 D W r
theorem g13 : k0_pay52 (F := Ideal) (k0_pay4 hm) (k0_pay30 (k0_pay4 hm) (at5 r Y)) (k0_pay49 (arr (φ := .f32) w) (at5 r G) (z2 D W r) (k0_pay31 (k0_pay4 hm) (at5 r Y)) k0_pay32)
    (k0_pay50 (arr (φ := .f32) w) (at5 r G) (z2 D W r) (k0_pay30 (k0_pay4 hm) (at5 r Y)) (k0_pay31 (k0_pay4 hm) (at5 r Y)) k0_pay32) k0_pay51
    = arr (fun x => f13 Y G D w W (r (x 0)) (x 1)) := h13 Y G D w W r
theorem g14 : k0_pay45 (F := Ideal) (arr (φ := .f32) q) (k0_pay4 hm) (at5 r K) (at5 r V) (at5 r G) (z2 D W r) = arr (fun x => f14 K V G D q W (r (x 0)) (x 1)) := h14 K V G D q W r
theorem g15 : k0_pay44 (F := Ideal) (arr (φ := .f32) q) (k0_pay4 hm) (at5 r R) (at5 r V) (at5 r G) (z2 D W r) = arr (fun x => f15 R V G D q W (r (x 0)) (x 1)) := h15 R V G D q W r
theorem g16 : k0_pay40 (F := Ideal) (arr (φ := .f32) q) (k0_pay4 hm) (at5 r R) (at5 r K) (at5 r G) (z2 D W r) = arr (fun x => f16 R K G D q W (r (x 0)) (x 1)) := h16 R K G D q W r
theorem g17 : k0_pay38 (F := Ideal) (arr (φ := .f32) w) (arr (φ := .f32) b) (arr (φ := .f32) q) (k0_pay4 hm) (at5 r R) (at5 r K) (at5 r V) (z2 D W r) (k0_pay30 (k0_pay4 hm) (at5 r Y)) (k0_pay31 (k0_pay4 hm) (at5 r Y)) k0_pay32
    = arr (fun x => f17 Y R K V D w b q W (r (x 0)) (x 1)) := h17 Y R K V D w b q W r
theorem g18 : k0_pay47 (F := Ideal) (at5 r G) (z2 D W r) (k0_pay30 (k0_pay4 hm) (at5 r Y)) (k0_pay31 (k0_pay4 hm) (at5 r Y)) k0_pay32 = arr (fun x => ∑ i : Fin 256, f18 Y G D W (r i) (x 1)) := h18 Y G D W r
theorem g19 : k0_pay46 (F := Ideal) (at5 r G) (z2 D W r) = arr (fun x => ∑ i : Fin 256, f19 G D W (r i) (x 1)) := h19 G D W r
theorem g20 : k0_pay42 (F := Ideal) (k0_pay4 hm) (at5 r R) (at5 r K) (at5 r V) (at5 r G) (z2 D W r) = arr (fun x => ∑ i : Fin 256, f20 R K V G D W (r i) (x 1)) := h20 R K V G D W r
end Half

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![0, 0] ∧ win0_19.index t = ![0, 0] ∧ win0_20.index t = ![0, 0] :=
  (by decide +kernel : ∀ t : Fin grid0.N, _)

/-- A block's halves. -/
theorem ld_lo5 (A : S8192x512.Idx → ℝ) (r : Fin 512 → Fin 8192) : View.ld (show Vec Ideal S512x512 .f32 from arr (φ := .f32) (pick A r)) (Rect.unit ![0, 0] ![256, 512] inb_S512x512_S256x512_0_0)
    = arr (φ := .f32) (pick A fun i => r (lo i)) := by
  funext x; idx_vars x
  pointwise [arr, pick, lo]
theorem ld_up5 (A : S8192x512.Idx → ℝ) (r : Fin 512 → Fin 8192) : View.ld (show Vec Ideal S512x512 .f32 from arr (φ := .f32) (pick A r)) (Rect.unit ![256, 0] ![256, 512] inb_S512x512_S256x512_256_0)
    = arr (φ := .f32) (pick A fun i => r (up i)) := by
  funext x; idx_vars x
  pointwise [arr, pick, up]
theorem ld_lo10 (A : S8192x1024.Idx → ℝ) (r : Fin 512 → Fin 8192) : View.ld (show Vec Ideal S512x1024 .f32 from arr (φ := .f32) (pick A r)) (Rect.unit ![0, 0] ![256, 1024] inb_S512x1024_S256x1024_0_0)
    = arr (φ := .f32) (pick A fun i => r (lo i)) := by
  funext x; idx_vars x
  pointwise [arr, pick, lo]
theorem ld_up10 (A : S8192x1024.Idx → ℝ) (r : Fin 512 → Fin 8192) : View.ld (show Vec Ideal S512x1024 .f32 from arr (φ := .f32) (pick A r)) (Rect.unit ![256, 0] ![256, 1024] inb_S512x1024_S256x1024_256_0)
    = arr (φ := .f32) (pick A fun i => r (up i)) := by
  funext x; idx_vars x
  pointwise [arr, pick, up]

section Host
variable (m : (ℓ : Loc nD τ sig) → Buf (Elt Ideal) ℓ) (c : Dev nD)

/-- The projection's rows that the grid reads. -/
theorem V7 (i : Fin 512) (k : Fin 1024) : (V m c main_v7 : FVec Ideal S512x1024 .bf16) (ix2 i k) = m ((c.tc : Thread nD τ).loc main_arg9) (ix2 ⟨i.val, by omega⟩ k) := by
  unfold V
  simp only [List.flatten_cons, List.flatten_nil, List.append_nil, hostOps0, hostOps0_1, hostOps0_2, hostOps0_3, hostOps0_4, List.cons_append, List.nil_append]
  after_results
  pointwise
theorem V8 (i : Fin 512) (k : Fin 1024) : (V m c main_v8 : FVec Ideal S512x1024 .bf16) (ix2 i k) = m ((c.tc : Thread nD τ).loc main_arg9) (ix2 ⟨512 + i.val, by omega⟩ k) := by
  unfold V
  simp only [List.flatten_cons, List.flatten_nil, List.append_nil, hostOps0, hostOps0_1, hostOps0_2, hostOps0_3, hostOps0_4, List.cons_append, List.nil_append]
  after_results
  pointwise
/-- The floored quotient by 64 as the host computes it. -/
def group (i : BitVec 32) : BitVec 32 := Scalar.select
          (IntOp.andi
            (IntOp.cmpi CmpIPredicate.ne
              (if i = 0 then 0 else if i.msb = true then -1 else 1)
              (if 64#32 = 0 then 0 else if (64#32).msb = true then -1 else (1 : BitVec 32)))
            (IntOp.cmpi CmpIPredicate.ne (IntOp.remsi ArithUnit.host i 64#32) 0#32))
          (IntOp.subi (IntOp.divsi ArithUnit.host i 64#32) 1#32)
          (IntOp.divsi ArithUnit.host i 64#32)
theorem group_eq : ∀ i : Fin 512, group (BitVec.ofNat 32 i.val) = BitVec.ofNat 32 (i.val / 64) := by decide +kernel
/-- Whether two columns share a head, as the host computes it. -/
theorem same_head (i k : Fin 512) : FloatOps.uitofp (F := Ideal) FTy.bf16 (IntOp.cmpi CmpIPredicate.eq (group (BitVec.ofNat 32 i.val)) (group (BitVec.ofNat 32 k.val)))
    = (((if i.val / 64 = k.val / 64 then 1 else 0 : ℝ)) : EReal) := by
  refine (congrArg (FloatOps.uitofp (F := Ideal) FTy.bf16) (congrArg₂ (IntOp.cmpi CmpIPredicate.eq) (group_eq i) (group_eq k))).trans ?_
  by_cases h : i.val / 64 = k.val / 64
  · rw [h, if_pos rfl]
    simp [IntOp.cmpi, FloatOps.uitofp]
  · rw [if_neg h]
    have h2 : ¬ BitVec.ofNat 32 (i.val / 64) = BitVec.ofNat 32 (k.val / 64) := fun e => h (by
      have := congrArg BitVec.toNat e
      simp only [BitVec.toNat_ofNat] at this
      omega)
    simp [IntOp.cmpi, FloatOps.uitofp, h2]
/-- The matrix of the heads as the host makes it. -/
theorem V6 (i k : Fin 512) : (V m c main_v6 : FVec Ideal S512x512 .bf16) (ix2 i k) = (((if i.val / 64 = k.val / 64 then 1 else 0 : ℝ)) : EReal) := by
  unfold V
  simp only [List.flatten_cons, List.flatten_nil, List.append_nil, hostOps0, hostOps0_1, hostOps0_2, hostOps0_3, hostOps0_4, List.cons_append, List.nil_append]
  after_results
  simp only [StableHlo.TRef.ofBuf, StableHlo.TRef.toBuf, cast_eq, cast_cast, id_eq]
  pointwise
  exact same_head i k
end Host

variable (m : (ℓ : Loc nD τ sig) → Buf (Elt Ideal) ℓ) (c : Dev nD)
  (D : S8192x1024.Idx → ℝ) (Y R K V' G : S8192x512.Idx → ℝ) (w b q : S1x512.Idx → ℝ) (W : S1024x1024.Idx → ℝ)

/-- The arguments are arrays of real numbers. -/
structure Reals : Prop where
  h0 : m ((c.tc : Thread nD τ).loc main_arg0) = (arr D : FVec Ideal S8192x1024 .f32)
  h1 : m ((c.tc : Thread nD τ).loc main_arg1) = (arr Y : FVec Ideal S8192x512 .f32)
  h2 : m ((c.tc : Thread nD τ).loc main_arg2) = (arr R : FVec Ideal S8192x512 .f32)
  h3 : m ((c.tc : Thread nD τ).loc main_arg3) = (arr K : FVec Ideal S8192x512 .f32)
  h4 : m ((c.tc : Thread nD τ).loc main_arg4) = (arr V' : FVec Ideal S8192x512 .f32)
  h5 : m ((c.tc : Thread nD τ).loc main_arg5) = (arr G : FVec Ideal S8192x512 .f32)
  h6 : m ((c.tc : Thread nD τ).loc main_arg6) = (arr w : FVec Ideal S1x512 .f32)
  h7 : m ((c.tc : Thread nD τ).loc main_arg7) = (arr b : FVec Ideal S1x512 .f32)
  h8 : m ((c.tc : Thread nD τ).loc main_arg8) = (arr q : FVec Ideal S1x512 .f32)
  h9 : m ((c.tc : Thread nD τ).loc main_arg9) = (arr W : FVec Ideal S1024x1024 .f32)

variable (h : Reals m c D Y R K V' G w b q W) (t : Fin cfg0.N)
include h

theorem blk0 : iblk m c 0 t = arr (φ := .f32) (pick D (rr t)) := by
  funext x; idx_vars x
  refine Eq.trans ?_ (congrFun h.h0 (ix2 (rr t x0) x1))
  blk_ext [iblk, V, idx t, rr]
theorem blk1 : iblk m c 1 t = arr (φ := .f32) (pick Y (rr t)) := by
  funext x; idx_vars x
  refine Eq.trans ?_ (congrFun h.h1 (ix2 (rr t x0) x1))
  blk_ext [iblk, V, idx t, rr]
theorem blk6 : iblk m c 6 t = arr (φ := .f32) w := by
  funext x; idx_vars x
  refine Eq.trans ?_ (congrFun h.h6 (ix2 x0 x1))
  blk_ext [iblk, V, idx t]
theorem blk7 : iblk m c 7 t = arr (φ := .f32) b := by
  funext x; idx_vars x
  refine Eq.trans ?_ (congrFun h.h7 (ix2 x0 x1))
  blk_ext [iblk, V, idx t]
theorem blk8 : iblk m c 8 t = arr (φ := .f32) q := by
  funext x; idx_vars x
  refine Eq.trans ?_ (congrFun h.h8 (ix2 x0 x1))
  blk_ext [iblk, V, idx t]
theorem blk2 : iblk m c 2 t = arr (φ := .f32) (pick R (rr t)) := by
  funext x; idx_vars x
  refine Eq.trans ?_ (congrFun h.h2 (ix2 (rr t x0) x1))
  blk_ext [iblk, V, idx t, rr]
theorem blk3 : iblk m c 3 t = arr (φ := .f32) (pick K (rr t)) := by
  funext x; idx_vars x
  refine Eq.trans ?_ (congrFun h.h3 (ix2 (rr t x0) x1))
  blk_ext [iblk, V, idx t, rr]
theorem blk4 : iblk m c 4 t = arr (φ := .f32) (pick V' (rr t)) := by
  funext x; idx_vars x
  refine Eq.trans ?_ (congrFun h.h4 (ix2 (rr t x0) x1))
  blk_ext [iblk, V, idx t, rr]
theorem blk5 : iblk m c 5 t = arr (φ := .f32) (pick G (rr t)) := by
  funext x; idx_vars x
  refine Eq.trans ?_ (congrFun h.h5 (ix2 (rr t x0) x1))
  blk_ext [iblk, V, idx t, rr]
omit h in
theorem blk9 : iblk m c 9 t = arr (φ := .bf16) heads := by
  funext x; idx_vars x
  refine Eq.trans ?_ (V6 m c x0 x1)
  unfold iblk
  generalize V m c (Pipeline.arrRef spec0 9) = A
  blk_ext [idx t]
theorem blk10 : iblk m c 10 t = arr (φ := .bf16) (wa W) := by
  funext x; idx_vars x
  refine Eq.trans ?_ ((V7 m c x0 x1).trans (congrFun h.h9 _))
  unfold iblk
  generalize V m c (Pipeline.arrRef spec0 10) = A
  blk_ext [idx t]
theorem blk11 : iblk m c 11 t = arr (φ := .bf16) (wr W) := by
  funext x; idx_vars x
  refine Eq.trans ?_ ((V8 m c x0 x1).trans (congrFun h.h9 _))
  unfold iblk
  generalize V m c (Pipeline.arrRef spec0 11) = A
  blk_ext [idx t]

/-- Every input's block at a grid point. -/
theorem blks : iblk m c 0 t = arr (φ := .f32) (pick D (rr t)) ∧ iblk m c 1 t = arr (φ := .f32) (pick Y (rr t)) ∧ iblk m c 2 t = arr (φ := .f32) (pick R (rr t))
    ∧ iblk m c 3 t = arr (φ := .f32) (pick K (rr t)) ∧ iblk m c 4 t = arr (φ := .f32) (pick V' (rr t)) ∧ iblk m c 5 t = arr (φ := .f32) (pick G (rr t))
    ∧ iblk m c 6 t = arr (φ := .f32) w ∧ iblk m c 7 t = arr (φ := .f32) b ∧ iblk m c 8 t = arr (φ := .f32) q ∧ iblk m c 9 t = arr (φ := .bf16) heads
    ∧ iblk m c 10 t = arr (φ := .bf16) (wa W) ∧ iblk m c 11 t = arr (φ := .bf16) (wr W) :=
  ⟨blk0 m c D Y R K V' G w b q W h t, blk1 m c D Y R K V' G w b q W h t, blk2 m c D Y R K V' G w b q W h t, blk3 m c D Y R K V' G w b q W h t, blk4 m c D Y R K V' G w b q W h t, blk5 m c D Y R K V' G w b q W h t, blk6 m c D Y R K V' G w b q W h t, blk7 m c D Y R K V' G w b q W h t, blk8 m c D Y R K V' G w b q W h t, blk9 m c t, blk10 m c D Y R K V' G w b q W h t, blk11 m c D Y R K V' G w b q W h t⟩

omit h in
/-- An entry of a half block in its block. -/
theorem half {p : FVec Ideal S256x512 .f32} {f : Fin 8192 → Fin 512 → ℝ} {r : Fin 256 → Fin 8192} (hp : p = arr (fun x => f (r (x 0)) (x 1))) {x : S256x512.Idx} {y : S512x512.Idx}
    (h0 : rr t (y 0) = r (x 0)) (h1 : (y 1).val = (x 1).val) : p x = ((f (rr t (y 0)) (y 1) : ℝ) : EReal) := by
  rw [hp, h0, show y 1 = x 1 from Fin.ext h1]; rfl

theorem outs12 (y) : (outsAt0 m c t.val t.isLt).1 y = ((f12 D W (rr t (y 0)) (y 1) : ℝ) : EReal) := by
  have ht : t.val < 16 := lt_of_lt_of_eq t.isLt N_0
  obtain ⟨e0, e1, e2, e3, e4, e5, e6, e7, e8, e9, e10, e11⟩ := blks m c D Y R K V' G w b q W h t
  by_cases h1 : 1 ≤ t.val
  · rw [outsAt0_B m c t (by omega) h1 (by omega) h1 (by omega) h1]; frame_out
    canon_tiles x h
    all_goals simp only [e0, e1, e2, e3, e4, e5, e6, e7, e8, e9, e10, e11, ld_lo5, ld_up5, ld_lo10, ld_up10]
    · rw [g12 D W fun i => rr t (up i)]; exact half t (f := f12 D W) (r := fun i => rr t (up i)) rfl (congrArg (rr t) (Fin.ext h0 : y 0 = up (x 0))) h1
    · rw [h12 D W fun i => rr t (lo i)]; exact half t (f := f12 D W) (r := fun i => rr t (lo i)) rfl (congrArg (rr t) (Fin.ext h0 : y 0 = lo (x 0))) h1
  · rw [outsAt0_A m c t (by omega) h1 (by omega) h1 (by omega) h1]; frame_out
    canon_tiles x h
    all_goals simp only [e0, e1, e2, e3, e4, e5, e6, e7, e8, e9, e10, e11, ld_lo5, ld_up5, ld_lo10, ld_up10]
    · rw [g12 D W fun i => rr t (up i)]; exact half t (f := f12 D W) (r := fun i => rr t (up i)) rfl (congrArg (rr t) (Fin.ext h0 : y 0 = up (x 0))) h1
    · rw [h12 D W fun i => rr t (lo i)]; exact half t (f := f12 D W) (r := fun i => rr t (lo i)) rfl (congrArg (rr t) (Fin.ext h0 : y 0 = lo (x 0))) h1
theorem final12 : (dats m 0 c).arrAt 12 (cfgs 0).N = arr (φ := .f32) (fun x => f12 D W (x 0) (x 1)) := by
  refine (dats m 0 c).arrAt_eq_of_covers 12 _ (by decide +kernel) fun t _ y => ?_
  blk_simp
  rw [after0_12, outs12 m c D Y R K V' G w b q W h t, arr_at]
  exact congrArg₂ (fun i j => ((f12 D W i j : ℝ) : EReal)) (Fin.ext (by blk_simp [idx t, rr])) (Fin.ext (by blk_simp [idx t]))
theorem outs13 (y) : (outsAt0 m c t.val t.isLt).2.1 y = ((f13 Y G D w W (rr t (y 0)) (y 1) : ℝ) : EReal) := by
  have ht : t.val < 16 := lt_of_lt_of_eq t.isLt N_0
  obtain ⟨e0, e1, e2, e3, e4, e5, e6, e7, e8, e9, e10, e11⟩ := blks m c D Y R K V' G w b q W h t
  by_cases h1 : 1 ≤ t.val
  · rw [outsAt0_B m c t (by omega) h1 (by omega) h1 (by omega) h1]; frame_out
    canon_tiles x h
    all_goals simp only [e0, e1, e2, e3, e4, e5, e6, e7, e8, e9, e10, e11, ld_lo5, ld_up5, ld_lo10, ld_up10]
    · rw [g13 Y G D w W fun i => rr t (up i)]; exact half t (f := f13 Y G D w W) (r := fun i => rr t (up i)) rfl (congrArg (rr t) (Fin.ext h0 : y 0 = up (x 0))) h1
    · rw [h13 Y G D w W fun i => rr t (lo i)]; exact half t (f := f13 Y G D w W) (r := fun i => rr t (lo i)) rfl (congrArg (rr t) (Fin.ext h0 : y 0 = lo (x 0))) h1
  · rw [outsAt0_A m c t (by omega) h1 (by omega) h1 (by omega) h1]; frame_out
    canon_tiles x h
    all_goals simp only [e0, e1, e2, e3, e4, e5, e6, e7, e8, e9, e10, e11, ld_lo5, ld_up5, ld_lo10, ld_up10]
    · rw [g13 Y G D w W fun i => rr t (up i)]; exact half t (f := f13 Y G D w W) (r := fun i => rr t (up i)) rfl (congrArg (rr t) (Fin.ext h0 : y 0 = up (x 0))) h1
    · rw [h13 Y G D w W fun i => rr t (lo i)]; exact half t (f := f13 Y G D w W) (r := fun i => rr t (lo i)) rfl (congrArg (rr t) (Fin.ext h0 : y 0 = lo (x 0))) h1
theorem final13 : (dats m 0 c).arrAt 13 (cfgs 0).N = arr (φ := .f32) (fun x => f13 Y G D w W (x 0) (x 1)) := by
  refine (dats m 0 c).arrAt_eq_of_covers 13 _ (by decide +kernel) fun t _ y => ?_
  blk_simp
  rw [after0_13, outs13 m c D Y R K V' G w b q W h t, arr_at]
  exact congrArg₂ (fun i j => ((f13 Y G D w W i j : ℝ) : EReal)) (Fin.ext (by blk_simp [idx t, rr])) (Fin.ext (by blk_simp [idx t]))
theorem outs14 (y) : (outsAt0 m c t.val t.isLt).2.2.1 y = ((f14 K V' G D q W (rr t (y 0)) (y 1) : ℝ) : EReal) := by
  have ht : t.val < 16 := lt_of_lt_of_eq t.isLt N_0
  obtain ⟨e0, e1, e2, e3, e4, e5, e6, e7, e8, e9, e10, e11⟩ := blks m c D Y R K V' G w b q W h t
  by_cases h1 : 1 ≤ t.val
  · rw [outsAt0_B m c t (by omega) h1 (by omega) h1 (by omega) h1]; frame_out
    canon_tiles x h
    all_goals simp only [e0, e1, e2, e3, e4, e5, e6, e7, e8, e9, e10, e11, ld_lo5, ld_up5, ld_lo10, ld_up10]
    · rw [g14 K V' G D q W fun i => rr t (up i)]; exact half t (f := f14 K V' G D q W) (r := fun i => rr t (up i)) rfl (congrArg (rr t) (Fin.ext h0 : y 0 = up (x 0))) h1
    · rw [h14 K V' G D q W fun i => rr t (lo i)]; exact half t (f := f14 K V' G D q W) (r := fun i => rr t (lo i)) rfl (congrArg (rr t) (Fin.ext h0 : y 0 = lo (x 0))) h1
  · rw [outsAt0_A m c t (by omega) h1 (by omega) h1 (by omega) h1]; frame_out
    canon_tiles x h
    all_goals simp only [e0, e1, e2, e3, e4, e5, e6, e7, e8, e9, e10, e11, ld_lo5, ld_up5, ld_lo10, ld_up10]
    · rw [g14 K V' G D q W fun i => rr t (up i)]; exact half t (f := f14 K V' G D q W) (r := fun i => rr t (up i)) rfl (congrArg (rr t) (Fin.ext h0 : y 0 = up (x 0))) h1
    · rw [h14 K V' G D q W fun i => rr t (lo i)]; exact half t (f := f14 K V' G D q W) (r := fun i => rr t (lo i)) rfl (congrArg (rr t) (Fin.ext h0 : y 0 = lo (x 0))) h1
theorem final14 : (dats m 0 c).arrAt 14 (cfgs 0).N = arr (φ := .f32) (fun x => f14 K V' G D q W (x 0) (x 1)) := by
  refine (dats m 0 c).arrAt_eq_of_covers 14 _ (by decide +kernel) fun t _ y => ?_
  blk_simp
  rw [after0_14, outs14 m c D Y R K V' G w b q W h t, arr_at]
  exact congrArg₂ (fun i j => ((f14 K V' G D q W i j : ℝ) : EReal)) (Fin.ext (by blk_simp [idx t, rr])) (Fin.ext (by blk_simp [idx t]))
theorem outs15 (y) : (outsAt0 m c t.val t.isLt).2.2.2.1 y = ((f15 R V' G D q W (rr t (y 0)) (y 1) : ℝ) : EReal) := by
  have ht : t.val < 16 := lt_of_lt_of_eq t.isLt N_0
  obtain ⟨e0, e1, e2, e3, e4, e5, e6, e7, e8, e9, e10, e11⟩ := blks m c D Y R K V' G w b q W h t
  by_cases h1 : 1 ≤ t.val
  · rw [outsAt0_B m c t (by omega) h1 (by omega) h1 (by omega) h1]; frame_out
    canon_tiles x h
    all_goals simp only [e0, e1, e2, e3, e4, e5, e6, e7, e8, e9, e10, e11, ld_lo5, ld_up5, ld_lo10, ld_up10]
    · rw [g15 R V' G D q W fun i => rr t (up i)]; exact half t (f := f15 R V' G D q W) (r := fun i => rr t (up i)) rfl (congrArg (rr t) (Fin.ext h0 : y 0 = up (x 0))) h1
    · rw [h15 R V' G D q W fun i => rr t (lo i)]; exact half t (f := f15 R V' G D q W) (r := fun i => rr t (lo i)) rfl (congrArg (rr t) (Fin.ext h0 : y 0 = lo (x 0))) h1
  · rw [outsAt0_A m c t (by omega) h1 (by omega) h1 (by omega) h1]; frame_out
    canon_tiles x h
    all_goals simp only [e0, e1, e2, e3, e4, e5, e6, e7, e8, e9, e10, e11, ld_lo5, ld_up5, ld_lo10, ld_up10]
    · rw [g15 R V' G D q W fun i => rr t (up i)]; exact half t (f := f15 R V' G D q W) (r := fun i => rr t (up i)) rfl (congrArg (rr t) (Fin.ext h0 : y 0 = up (x 0))) h1
    · rw [h15 R V' G D q W fun i => rr t (lo i)]; exact half t (f := f15 R V' G D q W) (r := fun i => rr t (lo i)) rfl (congrArg (rr t) (Fin.ext h0 : y 0 = lo (x 0))) h1
theorem final15 : (dats m 0 c).arrAt 15 (cfgs 0).N = arr (φ := .f32) (fun x => f15 R V' G D q W (x 0) (x 1)) := by
  refine (dats m 0 c).arrAt_eq_of_covers 15 _ (by decide +kernel) fun t _ y => ?_
  blk_simp
  rw [after0_15, outs15 m c D Y R K V' G w b q W h t, arr_at]
  exact congrArg₂ (fun i j => ((f15 R V' G D q W i j : ℝ) : EReal)) (Fin.ext (by blk_simp [idx t, rr])) (Fin.ext (by blk_simp [idx t]))
theorem outs16 (y) : (outsAt0 m c t.val t.isLt).2.2.2.2.1 y = ((f16 R K G D q W (rr t (y 0)) (y 1) : ℝ) : EReal) := by
  have ht : t.val < 16 := lt_of_lt_of_eq t.isLt N_0
  obtain ⟨e0, e1, e2, e3, e4, e5, e6, e7, e8, e9, e10, e11⟩ := blks m c D Y R K V' G w b q W h t
  by_cases h1 : 1 ≤ t.val
  · rw [outsAt0_B m c t (by omega) h1 (by omega) h1 (by omega) h1]; frame_out
    canon_tiles x h
    all_goals simp only [e0, e1, e2, e3, e4, e5, e6, e7, e8, e9, e10, e11, ld_lo5, ld_up5, ld_lo10, ld_up10]
    · rw [g16 R K G D q W fun i => rr t (up i)]; exact half t (f := f16 R K G D q W) (r := fun i => rr t (up i)) rfl (congrArg (rr t) (Fin.ext h0 : y 0 = up (x 0))) h1
    · rw [h16 R K G D q W fun i => rr t (lo i)]; exact half t (f := f16 R K G D q W) (r := fun i => rr t (lo i)) rfl (congrArg (rr t) (Fin.ext h0 : y 0 = lo (x 0))) h1
  · rw [outsAt0_A m c t (by omega) h1 (by omega) h1 (by omega) h1]; frame_out
    canon_tiles x h
    all_goals simp only [e0, e1, e2, e3, e4, e5, e6, e7, e8, e9, e10, e11, ld_lo5, ld_up5, ld_lo10, ld_up10]
    · rw [g16 R K G D q W fun i => rr t (up i)]; exact half t (f := f16 R K G D q W) (r := fun i => rr t (up i)) rfl (congrArg (rr t) (Fin.ext h0 : y 0 = up (x 0))) h1
    · rw [h16 R K G D q W fun i => rr t (lo i)]; exact half t (f := f16 R K G D q W) (r := fun i => rr t (lo i)) rfl (congrArg (rr t) (Fin.ext h0 : y 0 = lo (x 0))) h1
theorem final16 : (dats m 0 c).arrAt 16 (cfgs 0).N = arr (φ := .f32) (fun x => f16 R K G D q W (x 0) (x 1)) := by
  refine (dats m 0 c).arrAt_eq_of_covers 16 _ (by decide +kernel) fun t _ y => ?_
  blk_simp
  rw [after0_16, outs16 m c D Y R K V' G w b q W h t, arr_at]
  exact congrArg₂ (fun i j => ((f16 R K G D q W i j : ℝ) : EReal)) (Fin.ext (by blk_simp [idx t, rr])) (Fin.ext (by blk_simp [idx t]))
theorem outs17 (y) : (outsAt0 m c t.val t.isLt).2.2.2.2.2.1 y = ((f17 Y R K V' D w b q W (rr t (y 0)) (y 1) : ℝ) : EReal) := by
  have ht : t.val < 16 := lt_of_lt_of_eq t.isLt N_0
  obtain ⟨e0, e1, e2, e3, e4, e5, e6, e7, e8, e9, e10, e11⟩ := blks m c D Y R K V' G w b q W h t
  by_cases h1 : 1 ≤ t.val
  · rw [outsAt0_B m c t (by omega) h1 (by omega) h1 (by omega) h1]; frame_out
    canon_tiles x h
    all_goals simp only [e0, e1, e2, e3, e4, e5, e6, e7, e8, e9, e10, e11, ld_lo5, ld_up5, ld_lo10, ld_up10]
    · rw [g17 Y R K V' D w b q W fun i => rr t (up i)]; exact half t (f := f17 Y R K V' D w b q W) (r := fun i => rr t (up i)) rfl (congrArg (rr t) (Fin.ext h0 : y 0 = up (x 0))) h1
    · rw [h17 Y R K V' D w b q W fun i => rr t (lo i)]; exact half t (f := f17 Y R K V' D w b q W) (r := fun i => rr t (lo i)) rfl (congrArg (rr t) (Fin.ext h0 : y 0 = lo (x 0))) h1
  · rw [outsAt0_A m c t (by omega) h1 (by omega) h1 (by omega) h1]; frame_out
    canon_tiles x h
    all_goals simp only [e0, e1, e2, e3, e4, e5, e6, e7, e8, e9, e10, e11, ld_lo5, ld_up5, ld_lo10, ld_up10]
    · rw [g17 Y R K V' D w b q W fun i => rr t (up i)]; exact half t (f := f17 Y R K V' D w b q W) (r := fun i => rr t (up i)) rfl (congrArg (rr t) (Fin.ext h0 : y 0 = up (x 0))) h1
    · rw [h17 Y R K V' D w b q W fun i => rr t (lo i)]; exact half t (f := f17 Y R K V' D w b q W) (r := fun i => rr t (lo i)) rfl (congrArg (rr t) (Fin.ext h0 : y 0 = lo (x 0))) h1
theorem final17 : (dats m 0 c).arrAt 17 (cfgs 0).N = arr (φ := .f32) (fun x => f17 Y R K V' D w b q W (x 0) (x 1)) := by
  refine (dats m 0 c).arrAt_eq_of_covers 17 _ (by decide +kernel) fun t _ y => ?_
  blk_simp
  rw [after0_17, outs17 m c D Y R K V' G w b q W h t, arr_at]
  exact congrArg₂ (fun i j => ((f17 Y R K V' D w b q W i j : ℝ) : EReal)) (Fin.ext (by blk_simp [idx t, rr])) (Fin.ext (by blk_simp [idx t]))

omit h in
/-- A result summed over the grid. -/
theorem acc (o : ∀ n, n < cfg0.N → S1x512.Idx → EReal) (f : Fin 8192 → Fin 512 → ℝ)
    (first : ∀ t : Fin cfg0.N, t.val % 16 = 0 → ∀ j, o t.val t.isLt j = ((∑ i, f (rr t i) (j 1) : ℝ) : EReal))
    (next : ∀ t : Fin cfg0.N, ¬t.val % 16 = 0 → ∀ j, o t.val t.isLt j = o (t.val - 1) (Nat.lt_of_le_of_lt (Nat.sub_le _ _) t.isLt) j + ((∑ i, f (rr t i) (j 1) : ℝ) : EReal)) (j : S1x512.Idx) :
    o t0_15.val t0_15.isLt j = ((∑ i, f i (j 1) : ℝ) : EReal) := by
  rw [Pipeline.eq_sum_fin_of_reset_step_apply_last o 16 (fun _ => 0) (fun p j => ((∑ i, f (rr p i) (j 1) : ℝ) : EReal))
    (fun t h j => by rw [first t h, zero_add]) (fun t h j => next t h j) (le_of_eq N_0) t0_15 rfl, zero_add, total]
  exact congrArg _ (Fin.sum_mul_add_fin cfg0.N 512 (fun i => f i (j 1)) (by rw [show cfg0.N = 16 from N_0]))

theorem first18 (h1 : ¬1 ≤ t.val) (j) : (outsAt0 m c t.val t.isLt).2.2.2.2.2.2.1 j = ((∑ i, f18 Y G D W (rr t i) (j 1) : ℝ) : EReal) := by
  have ht : t.val < 16 := lt_of_lt_of_eq t.isLt N_0
  obtain ⟨e0, e1, e2, e3, e4, e5, e6, e7, e8, e9, e10, e11⟩ := blks m c D Y R K V' G w b q W h t
  rw [outsAt0_A m c t (by omega) h1 (by omega) h1 (by omega) h1]; frame_out
  simp only [e0, e1, e2, e3, e4, e5, e6, e7, e8, e9, e10, e11, ld_lo5, ld_up5, ld_lo10, ld_up10]
  rw [h18 Y G D W]
  refine (congrFun (congrArg (k0_pay53 (F := Ideal) _) (g18 Y G D W _)) j).trans ?_
  unfold k0_pay53
  rw [arr_add, ← sum_halves]
  rfl
theorem next18 (h1 : 1 ≤ t.val) (j) : (outsAt0 m c t.val t.isLt).2.2.2.2.2.2.1 j = (outsAt0 m c (t.val - 1) (Nat.lt_of_le_of_lt (Nat.sub_le _ _) t.isLt)).2.2.2.2.2.2.1 j + ((∑ i, f18 Y G D W (rr t i) (j 1) : ℝ) : EReal) := by
  have ht : t.val < 16 := lt_of_lt_of_eq t.isLt N_0
  obtain ⟨e0, e1, e2, e3, e4, e5, e6, e7, e8, e9, e10, e11⟩ := blks m c D Y R K V' G w b q W h t
  rw [outsAt0_B m c t (by omega) h1 (by omega) h1 (by omega) h1]; frame_out
  simp only [e0, e1, e2, e3, e4, e5, e6, e7, e8, e9, e10, e11, ld_lo5, ld_up5, ld_lo10, ld_up10]
  rw [h18 Y G D W]
  refine (congrFun (congrArg (fun a => k0_pay1 (F := Ideal) (k0_pay53 _ a) _) (g18 Y G D W _)) j).trans ?_
  unfold k0_pay1 k0_pay53
  rw [arr_add, ← sum_halves, shapeCast_self]
  rfl
theorem final18 : (dats m 0 c).arrAt 18 (cfgs 0).N = arr (φ := .f32) (fun x => ∑ i : Fin 8192, f18 Y G D W i (x 1)) := by
  refine (dats m 0 c).arrAt_eq_of_after_last 18 t0_15 (by decide +kernel) _ fun j => ?_
  blk_simp
  rw [after0_18, acc (fun n h => (outsAt0 m c n h).2.2.2.2.2.2.1) (f18 Y G D W) (fun t h' j => first18 m c D Y R K V' G w b q W h t (by have ht : t.val < 16 := lt_of_lt_of_eq t.isLt N_0; omega) j)
    (fun t h' j => next18 m c D Y R K V' G w b q W h t (by omega) j)]
  rfl
theorem first19 (h1 : ¬1 ≤ t.val) (j) : (outsAt0 m c t.val t.isLt).2.2.2.2.2.2.2.1 j = ((∑ i, f19 G D W (rr t i) (j 1) : ℝ) : EReal) := by
  have ht : t.val < 16 := lt_of_lt_of_eq t.isLt N_0
  obtain ⟨e0, e1, e2, e3, e4, e5, e6, e7, e8, e9, e10, e11⟩ := blks m c D Y R K V' G w b q W h t
  rw [outsAt0_A m c t (by omega) h1 (by omega) h1 (by omega) h1]; frame_out
  simp only [e0, e1, e2, e3, e4, e5, e6, e7, e8, e9, e10, e11, ld_lo5, ld_up5, ld_lo10, ld_up10]
  rw [h19 G D W]
  refine (congrFun (congrArg (k0_pay54 (F := Ideal) _) (g19 G D W _)) j).trans ?_
  unfold k0_pay54
  rw [arr_add, ← sum_halves]
  rfl
theorem next19 (h1 : 1 ≤ t.val) (j) : (outsAt0 m c t.val t.isLt).2.2.2.2.2.2.2.1 j = (outsAt0 m c (t.val - 1) (Nat.lt_of_le_of_lt (Nat.sub_le _ _) t.isLt)).2.2.2.2.2.2.2.1 j + ((∑ i, f19 G D W (rr t i) (j 1) : ℝ) : EReal) := by
  have ht : t.val < 16 := lt_of_lt_of_eq t.isLt N_0
  obtain ⟨e0, e1, e2, e3, e4, e5, e6, e7, e8, e9, e10, e11⟩ := blks m c D Y R K V' G w b q W h t
  rw [outsAt0_B m c t (by omega) h1 (by omega) h1 (by omega) h1]; frame_out
  simp only [e0, e1, e2, e3, e4, e5, e6, e7, e8, e9, e10, e11, ld_lo5, ld_up5, ld_lo10, ld_up10]
  rw [h19 G D W]
  refine (congrFun (congrArg (fun a => k0_pay2 (F := Ideal) (k0_pay54 _ a) _) (g19 G D W _)) j).trans ?_
  unfold k0_pay2 k0_pay54
  rw [arr_add, ← sum_halves, shapeCast_self]
  rfl
theorem final19 : (dats m 0 c).arrAt 19 (cfgs 0).N = arr (φ := .f32) (fun x => ∑ i : Fin 8192, f19 G D W i (x 1)) := by
  refine (dats m 0 c).arrAt_eq_of_after_last 19 t0_15 (by decide +kernel) _ fun j => ?_
  blk_simp
  rw [after0_19, acc (fun n h => (outsAt0 m c n h).2.2.2.2.2.2.2.1) (f19 G D W) (fun t h' j => first19 m c D Y R K V' G w b q W h t (by have ht : t.val < 16 := lt_of_lt_of_eq t.isLt N_0; omega) j)
    (fun t h' j => next19 m c D Y R K V' G w b q W h t (by omega) j)]
  rfl
theorem first20 (h1 : ¬1 ≤ t.val) (j) : (outsAt0 m c t.val t.isLt).2.2.2.2.2.2.2.2 j = ((∑ i, f20 R K V' G D W (rr t i) (j 1) : ℝ) : EReal) := by
  have ht : t.val < 16 := lt_of_lt_of_eq t.isLt N_0
  obtain ⟨e0, e1, e2, e3, e4, e5, e6, e7, e8, e9, e10, e11⟩ := blks m c D Y R K V' G w b q W h t
  rw [outsAt0_A m c t (by omega) h1 (by omega) h1 (by omega) h1]; frame_out
  simp only [e0, e1, e2, e3, e4, e5, e6, e7, e8, e9, e10, e11, ld_lo5, ld_up5, ld_lo10, ld_up10]
  rw [h20 R K V' G D W]
  refine (congrFun (congrArg (k0_pay55 (F := Ideal) _) (g20 R K V' G D W _)) j).trans ?_
  unfold k0_pay55
  rw [arr_add, ← sum_halves]
  rfl
theorem next20 (h1 : 1 ≤ t.val) (j) : (outsAt0 m c t.val t.isLt).2.2.2.2.2.2.2.2 j = (outsAt0 m c (t.val - 1) (Nat.lt_of_le_of_lt (Nat.sub_le _ _) t.isLt)).2.2.2.2.2.2.2.2 j + ((∑ i, f20 R K V' G D W (rr t i) (j 1) : ℝ) : EReal) := by
  have ht : t.val < 16 := lt_of_lt_of_eq t.isLt N_0
  obtain ⟨e0, e1, e2, e3, e4, e5, e6, e7, e8, e9, e10, e11⟩ := blks m c D Y R K V' G w b q W h t
  rw [outsAt0_B m c t (by omega) h1 (by omega) h1 (by omega) h1]; frame_out
  simp only [e0, e1, e2, e3, e4, e5, e6, e7, e8, e9, e10, e11, ld_lo5, ld_up5, ld_lo10, ld_up10]
  rw [h20 R K V' G D W]
  refine (congrFun (congrArg (fun a => k0_pay3 (F := Ideal) (k0_pay55 _ a) _) (g20 R K V' G D W _)) j).trans ?_
  unfold k0_pay3 k0_pay55
  rw [arr_add, ← sum_halves, shapeCast_self]
  rfl
theorem final20 : (dats m 0 c).arrAt 20 (cfgs 0).N = arr (φ := .f32) (fun x => ∑ i : Fin 8192, f20 R K V' G D W i (x 1)) := by
  refine (dats m 0 c).arrAt_eq_of_after_last 20 t0_15 (by decide +kernel) _ fun j => ?_
  blk_simp
  rw [after0_20, acc (fun n h => (outsAt0 m c n h).2.2.2.2.2.2.2.2) (f20 R K V' G D W) (fun t h' j => first20 m c D Y R K V' G w b q W h t (by have ht : t.val < 16 := lt_of_lt_of_eq t.isLt N_0; omega) j)
    (fun t h' j => next20 m c D Y R K V' G w b q W h t (by omega) j)]
  rfl
end Cert.PostBwdIdeal.Post

namespace Cert.Proof

open Cert.PostBwdIdeal.Post Cert.Arr Cert.PostBwdIdeal Cert.PostBwdIdeal.Gen
open Cert.PostBwdIdeal.Pay (col_hd_ln)

/-- An array's entries as real numbers. -/
def re {s : Shape} (A : FVec Ideal s .f32) : s.Idx → ℝ := fun i => EReal.toReal (A i)

theorem post_reals (m : (ℓ : Loc Cert.PostBwdIdeal.nD Cert.PostBwdIdeal.τ Cert.PostBwdIdeal.sig) → Buf (Elt Ideal) ℓ) (hpre : Pre_PostBwdIdeal_post_finite m) (c : Dev Cert.PostBwdIdeal.nD) :
    Reals m c (re (m (c.tc.loc Cert.PostBwdIdeal.main_arg0))) (re (m (c.tc.loc Cert.PostBwdIdeal.main_arg1))) (re (m (c.tc.loc Cert.PostBwdIdeal.main_arg2))) (re (m (c.tc.loc Cert.PostBwdIdeal.main_arg3))) (re (m (c.tc.loc Cert.PostBwdIdeal.main_arg4))) (re (m (c.tc.loc Cert.PostBwdIdeal.main_arg5))) (re (m (c.tc.loc Cert.PostBwdIdeal.main_arg6))) (re (m (c.tc.loc Cert.PostBwdIdeal.main_arg7))) (re (m (c.tc.loc Cert.PostBwdIdeal.main_arg8))) (re (m (c.tc.loc Cert.PostBwdIdeal.main_arg9))) := by
  obtain ⟨p0, p1, p2, p3, p4, p5, p6, p7, p8, p9⟩ := hpre c
  exact ⟨funext fun i => real_of_finite _ (congrFun p0 i), funext fun i => real_of_finite _ (congrFun p1 i), funext fun i => real_of_finite _ (congrFun p2 i), funext fun i => real_of_finite _ (congrFun p3 i), funext fun i => real_of_finite _ (congrFun p4 i), funext fun i => real_of_finite _ (congrFun p5 i), funext fun i => real_of_finite _ (congrFun p6 i), funext fun i => real_of_finite _ (congrFun p7 i), funext fun i => real_of_finite _ (congrFun p8 i), funext fun i => real_of_finite _ (congrFun p9 i)⟩

set_option maxHeartbeats 2000000 in
/-- `out_proj_bwd_rwkv_post_bwd` computes the gradients that the reference computes, for finite arguments. -/
theorem post_value : Cert.algebraic_PostBwdIdeal_PostRefIdeal_pre_post_finite := by
  intro m g m' g' hpre hagree
  refine ⟨fun c => arr (φ := .f32) (s := S8192x512) fun x => f12 (re (m (c.tc.loc Cert.PostBwdIdeal.main_arg0))) (re (m (c.tc.loc Cert.PostBwdIdeal.main_arg9))) (x 0) (x 1),
    fun c => arr (φ := .f32) (s := S8192x512) fun x => f13 (re (m (c.tc.loc Cert.PostBwdIdeal.main_arg1))) (re (m (c.tc.loc Cert.PostBwdIdeal.main_arg5))) (re (m (c.tc.loc Cert.PostBwdIdeal.main_arg0))) (re (m (c.tc.loc Cert.PostBwdIdeal.main_arg6))) (re (m (c.tc.loc Cert.PostBwdIdeal.main_arg9))) (x 0) (x 1),
    fun c => arr (φ := .f32) (s := S8192x512) fun x => f14 (re (m (c.tc.loc Cert.PostBwdIdeal.main_arg3))) (re (m (c.tc.loc Cert.PostBwdIdeal.main_arg4))) (re (m (c.tc.loc Cert.PostBwdIdeal.main_arg5))) (re (m (c.tc.loc Cert.PostBwdIdeal.main_arg0))) (re (m (c.tc.loc Cert.PostBwdIdeal.main_arg8))) (re (m (c.tc.loc Cert.PostBwdIdeal.main_arg9))) (x 0) (x 1),
    fun c => arr (φ := .f32) (s := S8192x512) fun x => f15 (re (m (c.tc.loc Cert.PostBwdIdeal.main_arg2))) (re (m (c.tc.loc Cert.PostBwdIdeal.main_arg4))) (re (m (c.tc.loc Cert.PostBwdIdeal.main_arg5))) (re (m (c.tc.loc Cert.PostBwdIdeal.main_arg0))) (re (m (c.tc.loc Cert.PostBwdIdeal.main_arg8))) (re (m (c.tc.loc Cert.PostBwdIdeal.main_arg9))) (x 0) (x 1),
    fun c => arr (φ := .f32) (s := S8192x512) fun x => f16 (re (m (c.tc.loc Cert.PostBwdIdeal.main_arg2))) (re (m (c.tc.loc Cert.PostBwdIdeal.main_arg3))) (re (m (c.tc.loc Cert.PostBwdIdeal.main_arg5))) (re (m (c.tc.loc Cert.PostBwdIdeal.main_arg0))) (re (m (c.tc.loc Cert.PostBwdIdeal.main_arg8))) (re (m (c.tc.loc Cert.PostBwdIdeal.main_arg9))) (x 0) (x 1),
    fun c => arr (φ := .f32) (s := S8192x512) fun x => f17 (re (m (c.tc.loc Cert.PostBwdIdeal.main_arg1))) (re (m (c.tc.loc Cert.PostBwdIdeal.main_arg2))) (re (m (c.tc.loc Cert.PostBwdIdeal.main_arg3))) (re (m (c.tc.loc Cert.PostBwdIdeal.main_arg4))) (re (m (c.tc.loc Cert.PostBwdIdeal.main_arg0))) (re (m (c.tc.loc Cert.PostBwdIdeal.main_arg6))) (re (m (c.tc.loc Cert.PostBwdIdeal.main_arg7))) (re (m (c.tc.loc Cert.PostBwdIdeal.main_arg8))) (re (m (c.tc.loc Cert.PostBwdIdeal.main_arg9))) (x 0) (x 1),
    fun c => arr (φ := .f32) (s := S1x512) fun x => ∑ i : Fin 8192, f18 (re (m (c.tc.loc Cert.PostBwdIdeal.main_arg1))) (re (m (c.tc.loc Cert.PostBwdIdeal.main_arg5))) (re (m (c.tc.loc Cert.PostBwdIdeal.main_arg0))) (re (m (c.tc.loc Cert.PostBwdIdeal.main_arg9))) i (x 1),
    fun c => arr (φ := .f32) (s := S1x512) fun x => ∑ i : Fin 8192, f19 (re (m (c.tc.loc Cert.PostBwdIdeal.main_arg5))) (re (m (c.tc.loc Cert.PostBwdIdeal.main_arg0))) (re (m (c.tc.loc Cert.PostBwdIdeal.main_arg9))) i (x 1),
    fun c => arr (φ := .f32) (s := S1x512) fun x => ∑ i : Fin 8192, f20 (re (m (c.tc.loc Cert.PostBwdIdeal.main_arg2))) (re (m (c.tc.loc Cert.PostBwdIdeal.main_arg3))) (re (m (c.tc.loc Cert.PostBwdIdeal.main_arg4))) (re (m (c.tc.loc Cert.PostBwdIdeal.main_arg5))) (re (m (c.tc.loc Cert.PostBwdIdeal.main_arg0))) (re (m (c.tc.loc Cert.PostBwdIdeal.main_arg9))) i (x 1), ?_, ?_⟩
  · refine (θ_run _ _ _).mono (fun r h c => ?_) (Cert.PostBwdIdeal.Value.run_blocks m g)
    have hr := post_reals m hpre c
    obtain ⟨r0, r1, r2, r3, r4, r5, r6, r7, r8, rest⟩ := h c
    exact ⟨r0.trans (final12 m c _ _ _ _ _ _ _ _ _ _ hr), r1.trans (final13 m c _ _ _ _ _ _ _ _ _ _ hr), r2.trans (final14 m c _ _ _ _ _ _ _ _ _ _ hr), r3.trans (final15 m c _ _ _ _ _ _ _ _ _ _ hr), r4.trans (final16 m c _ _ _ _ _ _ _ _ _ _ hr), r5.trans (final17 m c _ _ _ _ _ _ _ _ _ _ hr), r6.trans (final18 m c _ _ _ _ _ _ _ _ _ _ hr), r7.trans (final19 m c _ _ _ _ _ _ _ _ _ _ hr), r8.trans (final20 m c _ _ _ _ _ _ _ _ _ _ hr), rest⟩
  · have hc : ∀ c c' : Dev Cert.PostRefIdeal.nD, c = c' := fun c c' => Subsingleton.elim (α := Fin 1) c c'
    obtain ⟨h0, h1, h2, h3, h4, h5, h6, h7, h8, h9⟩ := hagree 0
    have hr := post_reals m hpre 0
    refine (θ_run _ _ _).mono (fun r h c => ?_) (θ_run_and (Cert.PostRefIdeal.Value.run m' g') (Cert.PostRefIdeal.Real.ref_run m' 0 _ _ _ _ _ _ _ _ _ _
      (h0.trans hr.h0) (h1.trans hr.h1) (h2.trans hr.h2) (h3.trans hr.h3) (h4.trans hr.h4) (h5.trans hr.h5) (h6.trans hr.h6) (h7.trans hr.h7) (h8.trans hr.h8) (h9.trans hr.h9) g'))
    obtain ⟨h, r0, r1, r2, r3, r4, r5, r6, r7, r8⟩ := h
    obtain ⟨-, -, -, -, -, -, -, -, -, rest⟩ := h c
    obtain rfl := hc 0 c
    refine ⟨r0, r1, r2.trans (congrArg arr (funext fun x => ?_)), r3.trans (congrArg arr (funext fun x => ?_)), r4.trans (congrArg arr (funext fun x => ?_)),
      r5.trans (congrArg arr (funext fun x => ?_)), r6, r7, r8.trans (congrArg arr (funext fun x => Finset.sum_congr rfl fun i _ => ?_)), rest⟩
    all_goals idx_vars x
    all_goals simp only [ix2_0, ix2_1, col_hd_ln]
    all_goals rfl

/-- The reference leaves its arguments and the counters as they were. -/
theorem post_ref_frame : Cert.quiescent_PostRefIdeal := fun m g _ =>
  (θ_run Cert.PostRefIdeal.defs _ _).mono (fun r h => ⟨fun c => (h c).2.2.2.2.2.2.2.2.2, sem_eq_zero_of_no_sems (by decide) r.2⟩)
    (Cert.PostRefIdeal.Value.run m g)

end Cert.Proof

end
-- ==== Proof.Act.lean ====
/- The value of `mlp_up`: the product with the up projection and the square of its positive part are the reference's. -/
module

public import proofs.«01_k».proof.Defs
public import proofs.«01_k».proof.Proof.Gen.ActFwdIdeal.Value
public import proofs.«01_k».proof.Proof.Gen.ActRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ActFwdIdeal.Act

open Cert.ActFwdIdeal Cert.ActFwdIdeal.Gen

variable (m : (ℓ : Loc nD τ sig) → Buf (Elt Ideal) ℓ)

/-- One entry of the product. -/
def up (H : FVec Ideal S8192x1024 .f32) (W : FVec Ideal S1024x4096 .f32) (i : Fin 8192) (j : Fin 4096) : EReal :=
  ∑ k : Fin 1024, H (ix2 i k) * W (ix2 k j)

/-- The product. -/
def U (H : FVec Ideal S8192x1024 .f32) (W : FVec Ideal S1024x4096 .f32) : FVec Ideal S8192x4096 .bf16 :=
  fun i => up H W (i 0) (i 1)

/-- The square of its positive part. -/
def Q (H : FVec Ideal S8192x1024 .f32) (W : FVec Ideal S1024x4096 .f32) : FVec Ideal S8192x4096 .bf16 :=
  fun i => max (up H W (i 0) (i 1)) 0 * max (up H W (i 0) (i 1)) 0

/-- Every window's block index at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The product of two blocks at an index. -/
def bup (H W : FVec Ideal S1024x1024 .f32) (y : S1024x1024.Idx) : EReal := ∑ k : Fin 1024, H (ix2 (y 0) k) * W (ix2 k (y 1))

/-- The product of the blocks at a block index is the arrays' at the array index it stands at. -/
theorem up_blk (c : Dev nD) (t : Fin cfg0.N) (y : S1024x1024.Idx) (i : Fin 8192) (j : Fin 4096)
    (hi : i.val = (grid0.coords t 0).val * 1024 + (y 0).val) (hj : j.val = (grid0.coords t 1).val * 1024 + (y 1).val) :
    bup (iblk m c 0 t) (iblk m c 1 t) y = up (m ((c : Thread nD τ).loc main_arg0)) (m ((c : Thread nD τ).loc main_arg1)) i j := by
  refine Finset.sum_congr rfl fun k _ => congrArg₂ (· * ·) ?_ ?_
  all_goals blk_ext [iblk, V, idx t]

/-- The first result at a block index. -/
theorem point2 (c : Dev nD) (t : Fin cfg0.N) (y) : k0_pay2 (iblk m c 0 t) (iblk m c 1 t) y
    = U (m ((c : Thread nD τ).loc main_arg0)) (m ((c : Thread nD τ).loc main_arg1)) (((cfg0.win 2).blk t).view.emb y) := by
  refine Eq.trans ?_ (up_blk m c t y _ _ ?_ ?_)
  · idx_vars y
    pointwise [k0_pay2, k0_pay1, bup]
  all_goals blk_simp [idx t]

/-- The second result at a block index. -/
theorem point3 (c : Dev nD) (t : Fin cfg0.N) (y) : k0_pay3 (iblk m c 0 t) (iblk m c 1 t) y
    = Q (m ((c : Thread nD τ).loc main_arg0)) (m ((c : Thread nD τ).loc main_arg1)) (((cfg0.win 3).blk t).view.emb y) := by
  unfold Q
  rw [← up_blk m c t y (((cfg0.win 3).blk t).view.emb y 0) (((cfg0.win 3).blk t).view.emb y 1) (by blk_simp [idx t]) (by blk_simp [idx t])]
  idx_vars y
  pointwise [k0_pay3, k0_pay1, bup]

/-- The first result after the run is the product. -/
theorem final2 (c : Dev nD) : (dats m 0 c).arrAt 2 (cfgs 0).N = U (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

/-- The second result after the run is the squared positive part. -/
theorem final3 (c : Dev nD) : (dats m 0 c).arrAt 3 (cfgs 0).N = Q (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

end Cert.ActFwdIdeal.Act

namespace Cert.Proof
open Cert.ActFwdIdeal.Act

/-- `mlp_up` computes the two arrays that the reference computes. -/
theorem act_value : Cert.algebraic_ActFwdIdeal_ActRefIdeal := by
  intro m g m' g' hpre hagree
  refine ⟨fun c => U (m ((c : Thread Cert.ActFwdIdeal.nD Cert.ActFwdIdeal.τ).loc Cert.ActFwdIdeal.main_arg0)) (m ((c : Thread Cert.ActFwdIdeal.nD Cert.ActFwdIdeal.τ).loc Cert.ActFwdIdeal.main_arg1)),
    fun c => Q (m ((c : Thread Cert.ActFwdIdeal.nD Cert.ActFwdIdeal.τ).loc Cert.ActFwdIdeal.main_arg0)) (m ((c : Thread Cert.ActFwdIdeal.nD Cert.ActFwdIdeal.τ).loc Cert.ActFwdIdeal.main_arg1)), ?_, ?_⟩
  · refine (θ_run _ _ _).mono (fun r h c => ?_) (Cert.ActFwdIdeal.Value.run_blocks m g)
    obtain ⟨r1, r2, r3⟩ := h c
    exact ⟨r1.trans (final2 m c), r2.trans (final3 m c), r3⟩
  · refine (θ_run _ _ _).mono (fun r h c => ?_) (Cert.ActRefIdeal.Value.run m' g')
    obtain ⟨h0, h1⟩ := hagree c
    obtain ⟨r1, r2, r3⟩ := h c
    refine ⟨r1.trans ?_, r2.trans ?_, r3⟩
    all_goals
      rw [h0, h1]
      funext j
      idx_vars j
      pointwise [U, Q, up]

/-- The reference leaves its arguments and the counters as they were. -/
theorem act_ref_frame : Cert.quiescent_ActRefIdeal := fun m g _ =>
  (θ_run Cert.ActRefIdeal.defs _ _).mono (fun r h => ⟨fun c => (h c).2.2, sem_eq_zero_of_no_sems (by decide) r.2⟩)
    (Cert.ActRefIdeal.Value.run m g)

end Cert.Proof

end
-- ==== Proof.Grad.lean ====
/- The value of `grad_w_down`: eight products of row blocks, summed in the scratch, are the whole product of the reference. -/
module

public import proofs.«01_k».proof.Defs
public import proofs.«01_k».proof.Proof.Gen.GradWIdeal.Value
public import proofs.«01_k».proof.Proof.Gen.GradWRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GradWIdeal.Grad

open Cert.GradWIdeal Cert.GradWIdeal.Gen Cert.GradWIdeal.Value

variable (m : (ℓ : Loc nD τ sig) → Buf (Elt Ideal) ℓ)

/-- The product of the first argument's transpose with the second. -/
def P (A : FVec Ideal S8192x4096 .f32) (D : FVec Ideal S8192x1024 .f32) : FVec Ideal S4096x1024 .bf16 :=
  fun i => ∑ k : Fin 8192, A (ix2 k (i 0)) * D (ix2 k (i 1))

/-- Every window's block index at a grid point. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- The product of two blocks, at an index of the block. -/
def bp (A D : FVec Ideal S1024x1024 .f32) (y : S1024x1024.Idx) : EReal := ∑ k : Fin 1024, A (ix2 k (y 0)) * D (ix2 k (y 1))
/-- A step's product, at an index of the block. -/
def part (c : Dev nD) (t : Fin cfg0.N) (y : S1024x1024.Idx) : EReal := bp (iblk m c 0 t) (iblk m c 1 t) y
/-- The product over the `s`-th 1024 rows. -/
def rows (A : FVec Ideal S8192x4096 .f32) (D : FVec Ideal S8192x1024 .f32) (i : Fin 4096) (j : Fin 1024) (s : Fin 8) : EReal :=
  ∑ k : Fin 1024, A (ix2 ⟨s.val * 1024 + k.val, by omega⟩ i) * D (ix2 ⟨s.val * 1024 + k.val, by omega⟩ j)
/-- The eight stretches of rows are all rows. -/
theorem rows_sum (A : FVec Ideal S8192x4096 .f32) (D : FVec Ideal S8192x1024 .f32) (i : Fin 4096) (j : Fin 1024) :
    ∑ s, rows A D i j s = ∑ k : Fin 8192, A (ix2 k i) * D (ix2 k j) :=
  Fin.sum_mul_add_fin 8 1024 (fun k => A (ix2 k i) * D (ix2 k j))

/-- The payload of a step adds its product. -/
theorem pay2 (c : Dev nD) (t : Fin cfg0.N) (a : FVec Ideal S1024x1024 .f32) (y) : k0_pay2 a (iblk m c 0 t) (iblk m c 1 t) y = a y + part m c t y := by
  idx_vars y
  pointwise [k0_pay2, part, bp]

/-- The first step of a block stores its product. -/
theorem first (c : Dev nD) (t : Fin cfg0.N) (h0 : t.val % 8 = 0) (y) : (outsAt0 m c t.val t.isLt).2 y = part m c t y := by
  rw [outsAt0_A m c t h0 (by omega)]; frame_out
  refine (pay2 m c t _ y).trans ?_
  idx_vars y
  pointwise [k0_pay1]
  try exact zero_add _

/-- Every later step adds its product. -/
theorem next (c : Dev nD) (t : Fin cfg0.N) (h0 : ¬t.val % 8 = 0) (y) : (outsAt0 m c t.val t.isLt).2 y
    = (outsAt0 m c (t.val - 1) (Nat.lt_of_le_of_lt (Nat.sub_le _ _) t.isLt)).2 y + part m c t y := by
  by_cases h : t.val % 8 = 7
  · rw [outsAt0_C m c t h0 h]; frame_out
    refine (pay2 m c t _ y).trans ?_
    exact congrArg (· + part m c t y) (congrFun (Memref.IsWhole.read_unread _ _) y)
  · rw [outsAt0_B m c t h0 h]; frame_out
    refine (pay2 m c t _ y).trans ?_
    exact congrArg (· + part m c t y) (congrFun (Memref.IsWhole.read_unread _ _) y)

/-- The last step stores what the scratch then holds. -/
theorem last (c : Dev nD) (t : Fin cfg0.N) (h : t.val % 8 = 7) (y) : (outsAt0 m c t.val t.isLt).1 y = (outsAt0 m c t.val t.isLt).2 y := by
  rw [outsAt0_C m c t (by omega) h]; frame_out
  try rfl

/-- A step's product is the arrays' product over its 1024 rows. -/
theorem part_eq (c : Dev nD) (t : Fin cfg0.N) (y : S1024x1024.Idx) (s : Fin 8) (hs : t.val % 8 = s.val) (i : Fin 4096) (j : Fin 1024)
    (hi : i.val = t.val / 8 * 1024 + (y 0).val) (hj : j.val = (y 1).val) :
    part m c t y = rows (m ((c : Thread nD τ).loc main_arg0)) (m ((c : Thread nD τ).loc main_arg1)) i j s := by
  unfold part bp rows
  refine Finset.sum_congr rfl fun k _ => congrArg₂ (α := EReal) (β := EReal) (· * ·) ?_ ?_
  all_goals blk_ext [iblk, V, idx t]

/-- What the last step of a block stores is the whole product. -/
theorem point (c : Dev nD) (t : Fin cfg0.N) (h : t.val % 8 = 7) (y) : (outsAt0 m c t.val t.isLt).1 y
    = P (m ((c : Thread nD τ).loc main_arg0)) (m ((c : Thread nD τ).loc main_arg1)) (((cfg0.win 2).blk t).view.emb y) := by
  have hN : t.val < 32 := lt_of_lt_of_eq t.isLt N_0
  rw [last m c t h, Pipeline.eq_sum_fin_of_reset_step_apply_of_flush (fun n h => (outsAt0 m c n h).2) 8 (fun _ => 0) (fun p y => part m c p y)
    (fun t h y => by rw [first m c t h y, zero_add]) (fun t h y => next m c t h y) t h y, zero_add]
  refine (Finset.sum_congr rfl fun s _ => part_eq m c _ y s ?_ (((cfg0.win 2).blk t).view.emb y 0) (((cfg0.win 2).blk t).view.emb y 1) ?_ ?_).trans (rows_sum _ _ _ _)
  · show (8 * (t.val / 8) + s.val) % 8 = s.val
    omega
  · have e := Nat.mul_add_div (by decide : 0 < 8) (t.val / 8) s.val
    have e' : (8 * (t.val / 8) + s.val) / 8 = t.val / 8 := by omega
    blk_simp [idx t, e']
  · blk_simp [idx t]

/-- The result after the run. -/
theorem final (c : Dev nD) : (dats m 0 c).arrAt 2 (cfgs 0).N = P (m ((c : Thread nD τ).loc main_arg0)) (m ((c : Thread nD τ).loc main_arg1)) := by
  refine (dats m 0 c).arrAt_eq_of_covers 2 _ (by decide +kernel) fun t ht y => ?_
  have h7 : t.val % 8 = 7 := (by decide +kernel : ∀ t : Fin cfg0.N, (cfg0.win 2).flush t = true → t.val % 8 = 7) t ht
  blk_simp
  rw [after0_2]
  exact point m c t h7 y

end Cert.GradWIdeal.Grad

namespace Cert.Proof

/-- `grad_w_down` computes the gradient that the reference computes. -/
theorem grad_value : Cert.algebraic_GradWIdeal_GradWRefIdeal := by
  pair_intro
  · run_from Cert.GradWIdeal.Gen.run_main m g
  · run_from Cert.GradWRefIdeal.Value.run m' g'
    refine Eq.trans ?_ (Cert.GradWIdeal.Grad.final m c).symm
    funext j
    idx_vars j
    pointwise [Cert.GradWIdeal.Grad.P]
    exact Finset.sum_congr rfl fun k _ => mul_comm _ _

/-- The reference leaves its arguments and the counters as they were. -/
theorem grad_ref_frame : Cert.quiescent_GradWRefIdeal := fun m g _ =>
  (θ_run Cert.GradWRefIdeal.defs _ _).mono (fun r h => ⟨fun c => (h c).2, sem_eq_zero_of_no_sems (by decide) r.2⟩)
    (Cert.GradWRefIdeal.Value.run m g)

end Cert.Proof

end
-- ==== Proof.Adam.lean ====
/- The value of the optimiser's kernel: the eight parts' sum, the moments and the step are the reference's. -/
module

public import proofs.«01_k».proof.Defs
public import proofs.«01_k».proof.Proof.Gen.AdamIdeal.Value
public import proofs.«01_k».proof.Proof.Gen.AdamRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamIdeal.Adam

open Cert.AdamIdeal Cert.AdamIdeal.Gen

variable (m : (ℓ : Loc nD τ sig) → Buf (Elt Ideal) ℓ)

/-- A literal of the optimiser as it is read. -/
abbrev lit (b : BitVec 32) : EReal := Ideal.ofBits .f32 b

/-- The sum of the eight parts at an entry. -/
def gs (G : FVec Ideal S8x1024x512 .f32) (i : Fin 1024) (j : Fin 512) : EReal := ∑ d : Fin 8, G (ix3 d i j)
/-- The new first moment of one entry. -/
def nm (g a : EReal) : EReal := lit 0x3F666666#32 * a + lit 0x3DCCCCCD#32 * g
/-- The new second moment of one entry. -/
def nv (g b : EReal) : EReal := lit 0x3F7FBE77#32 * b + lit 0x3A83126F#32 * (g * g)
/-- The step of one entry. -/
def nd (g a b w : EReal) : EReal :=
  lit 0xBA83126F#32 * (Ideal.div (Ideal.div (nm g a) (lit 0x3F26BD02#32)) (Ideal.sqrt (Ideal.div (nv g b) (lit 0x3C231ACC#32)) + lit 0x322BCC77#32) + lit 0x3C23D70A#32 * w)

/-- The first divisor of the reference is the inverse of the kernel's first factor. -/
theorem div1 (x : EReal) : Ideal.div x (lit 0x3F26BD02#32) = x * Named.named (F := Ideal) (φ := .f32) κ "inv_c1" 0x3FC48605#32 := by
  have e : lit 0x3F26BD02#32 = ((5463681 / 8388608 : ℝ) : EReal) := by
    simp [lit, Ideal.ofBits, Ideal.ieee]; try (rw [← EReal.coe_mul]; norm_num)
  rw [e, IdealRules.named_const.ideal_named_scalar κ "inv_c1" (φ := .f32) 0x3FC48605#32 _ rfl, Ideal.div_coe (by norm_num)]
  norm_num

/-- The second divisor of the reference is the inverse of the kernel's second factor. -/
theorem div2 (x : EReal) : Ideal.div x (lit 0x3C231ACC#32) = x * Named.named (F := Ideal) (φ := .f32) κ "inv_c2" 0x42C8E6D3#32 := by
  have e : lit 0x3C231ACC#32 = ((2672307 / 268435456 : ℝ) : EReal) := by
    simp [lit, Ideal.ofBits, Ideal.ieee]; try (rw [← EReal.coe_mul]; norm_num)
  rw [e, IdealRules.named_const.ideal_named_scalar κ "inv_c2" (φ := .f32) 0x42C8E6D3#32 _ rfl, Ideal.div_coe (by norm_num)]
  norm_num

/-- The new first moment at an index of a block. -/
theorem t1 (g a : FVec Ideal S256x512 .f32) (e : EReal) (y) : k0_pay1 g a e y = e * a y + lit 0x3DCCCCCD#32 * g y := by
  pointwise [k0_pay1]

/-- The new second moment at an index of a block. -/
theorem t2 (g a : FVec Ideal S256x512 .f32) (y) : k0_pay2 g a y = nv (g y) (a y) := by
  pointwise [k0_pay2, nv]

/-- The step at an index of a block. -/
theorem t3 (g a b w : FVec Ideal S256x512 .f32) (y) : k0_pay3 g a (Scalar.ofBits .f32 0x3F666666#32) b w y = nd (g y) (a y) (b y) (w y) := by
  unfold nd
  rw [div1, div2]
  pointwise [k0_pay3, t1, t2, nm]

/-- The sum of the eight parts at an index of a block. -/
theorem t4 (a0 : FVec Ideal S8x256x512 .f32) (a1 a2 a3 : FVec Ideal S256x512 .f32) (y) : k0_pay5 a0 a1 a2 a3 y = ∑ d : Fin 8, a0 (ix3 d (y 0) (y 1)) := by
  idx_vars y
  rw [Fin.sum_univ_eight]
  pointwise [k0_pay5, k0_pay4]

/-- Every window's block index at a grid point. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0]
     ∧ win0_5.index t = ![t.val, 0] ∧ win0_6.index t = ![t.val, 0] ∧ win0_7.index t = ![t.val, 0] :=
  (by decide +kernel : ∀ t : Fin grid0.N, _)

abbrev G (c : Dev nD) : FVec Ideal S8x1024x512 .f32 := m ((c : Thread nD τ).loc main_arg0)
abbrev W (c : Dev nD) : FVec Ideal S1024x512 .f32 := m ((c : Thread nD τ).loc main_arg1)
abbrev A (c : Dev nD) : FVec Ideal S1024x512 .f32 := m ((c : Thread nD τ).loc main_arg2)
abbrev B (c : Dev nD) : FVec Ideal S1024x512 .f32 := m ((c : Thread nD τ).loc main_arg3)

/-- The row of the array at which a block's row stands. -/
def row (t : Fin cfg0.N) (i : Fin 256) : Fin 1024 := ⟨t.val * 256 + i.val, by have h : t.val < 4 := lt_of_lt_of_eq t.isLt N_0; omega⟩

/-- The sum of a block's parts is the arrays'. -/
theorem sum_blk (c : Dev nD) (t : Fin cfg0.N) (y) : k0_pay5 (iblk m c 0 t) (iblk m c 1 t) (iblk m c 2 t) (iblk m c 3 t) y = gs (G m c) (row t (y 0)) (y 1) := by
  refine (t4 _ _ _ _ y).trans (Finset.sum_congr rfl fun d _ => ?_)
  blk_ext [iblk, V, idx t, row]
/-- Argument 1 at a block index. -/
theorem blkW (c : Dev nD) (t : Fin cfg0.N) (y : S256x512.Idx) : (iblk m c 1 t : FVec Ideal S256x512 .f32) y = W m c (ix2 (row t (y 0)) (y 1)) := by
  blk_ext [iblk, V, idx t, row]
/-- Argument 2 at a block index. -/
theorem blkA (c : Dev nD) (t : Fin cfg0.N) (y : S256x512.Idx) : (iblk m c 2 t : FVec Ideal S256x512 .f32) y = A m c (ix2 (row t (y 0)) (y 1)) := by
  blk_ext [iblk, V, idx t, row]
/-- Argument 3 at a block index. -/
theorem blkB (c : Dev nD) (t : Fin cfg0.N) (y : S256x512.Idx) : (iblk m c 3 t : FVec Ideal S256x512 .f32) y = B m c (ix2 (row t (y 0)) (y 1)) := by
  blk_ext [iblk, V, idx t, row]

/-- The sum of the parts, as an array. -/
def R4 (c : Dev nD) : FVec Ideal S1024x512 .f32 := fun i => gs (G m c) (i 0) (i 1)
/-- The step, as an array. -/
def R5 (c : Dev nD) : FVec Ideal S1024x512 .f32 := fun i => nd (gs (G m c) (i 0) (i 1)) (A m c i) (B m c i) (W m c i)
/-- The new first moment, as an array. -/
def R6 (c : Dev nD) : FVec Ideal S1024x512 .f32 := fun i => nm (gs (G m c) (i 0) (i 1)) (A m c i)
/-- The new second moment, as an array. -/
def R7 (c : Dev nD) : FVec Ideal S1024x512 .f32 := fun i => nv (gs (G m c) (i 0) (i 1)) (B m c i)

theorem emb4 (t : Fin cfg0.N) (y : S256x512.Idx) : ((cfg0.win 4).blk t).view.emb y = ix2 (row t (y 0)) (y 1) := by
  blk_ext [idx t, row]
theorem emb5 (t : Fin cfg0.N) (y : S256x512.Idx) : ((cfg0.win 5).blk t).view.emb y = ix2 (row t (y 0)) (y 1) := by
  blk_ext [idx t, row]
theorem emb6 (t : Fin cfg0.N) (y : S256x512.Idx) : ((cfg0.win 6).blk t).view.emb y = ix2 (row t (y 0)) (y 1) := by
  blk_ext [idx t, row]
theorem emb7 (t : Fin cfg0.N) (y : S256x512.Idx) : ((cfg0.win 7).blk t).view.emb y = ix2 (row t (y 0)) (y 1) := by
  blk_ext [idx t, row]

/-- Result 0 after the run. -/
theorem final4 (c : Dev nD) : (dats m 0 c).arrAt 4 (cfgs 0).N = R4 m c := by
  refine (dats m 0 c).arrAt_eq_of_covers 4 _ (by decide +kernel) fun t _ y => ?_
  blk_simp
  rw [after0_4, emb4 t y]; frame_out
  exact sum_blk m c t y

/-- Result 1 after the run. -/
theorem final5 (c : Dev nD) : (dats m 0 c).arrAt 5 (cfgs 0).N = R5 m c := by
  refine (dats m 0 c).arrAt_eq_of_covers 5 _ (by decide +kernel) fun t _ y => ?_
  blk_simp
  rw [after0_5, emb5 t y]; frame_out
  refine (t3 _ _ _ _ y).trans ?_
  rw [sum_blk, blkA m c t y, blkB m c t y, blkW m c t y]
  rfl

/-- Result 2 after the run. -/
theorem final6 (c : Dev nD) : (dats m 0 c).arrAt 6 (cfgs 0).N = R6 m c := by
  refine (dats m 0 c).arrAt_eq_of_covers 6 _ (by decide +kernel) fun t _ y => ?_
  blk_simp
  rw [after0_6, emb6 t y]; frame_out
  refine (t1 _ _ _ y).trans ?_
  rw [sum_blk, blkA m c t y]
  rfl

/-- Result 3 after the run. -/
theorem final7 (c : Dev nD) : (dats m 0 c).arrAt 7 (cfgs 0).N = R7 m c := by
  refine (dats m 0 c).arrAt_eq_of_covers 7 _ (by decide +kernel) fun t _ y => ?_
  blk_simp
  rw [after0_7, emb7 t y]; frame_out
  refine (t2 _ _ y).trans ?_
  rw [sum_blk, blkB m c t y]
  rfl

end Cert.AdamIdeal.Adam

namespace Cert.Proof
open Cert.AdamIdeal.Adam

/-- Both factors are named with the values stated. -/
theorem adam_preserves : Cert.preserves_Adam_AdamIdeal :=
  ⟨IdealRules.named_const.statement Cert.AdamIdeal.κ "inv_c1" .f32 0x3FC48605#32 ((8388608 / 5463681 : ℝ) : EReal) rfl,
    IdealRules.named_const.statement Cert.AdamIdeal.κ "inv_c2" .f32 0x42C8E6D3#32 ((268435456 / 2672307 : ℝ) : EReal) rfl⟩

/-- The optimiser's kernel computes the four arrays that the reference computes. -/
theorem adam_value : Cert.algebraic_AdamIdeal_AdamRefIdeal := by
  intro m g m' g' hpre hagree
  refine ⟨fun c => R4 m c, fun c => R5 m c, fun c => R6 m c, fun c => R7 m c, ?_, ?_⟩
  · refine (θ_run _ _ _).mono (fun r h c => ?_) (Cert.AdamIdeal.Value.run_blocks m g)
    obtain ⟨r1, r2, r3, r4, r5⟩ := h c
    exact ⟨r1.trans (final4 m c), r2.trans (final5 m c), r3.trans (final6 m c), r4.trans (final7 m c), r5⟩
  · refine (θ_run _ _ _).mono (fun r h c => ?_) (Cert.AdamRefIdeal.Value.run m' g')
    obtain ⟨h0, h1, h2, h3⟩ := hagree c
    obtain ⟨r1, r2, r3, r4, r5⟩ := h c
    refine ⟨r1.trans ?_, r2.trans ?_, r3.trans ?_, r4.trans ?_, r5⟩
    all_goals
      try rw [h0]
      try rw [h1]
      try rw [h2]
      try rw [h3]
      funext j
      idx_vars j
      pointwise [R4, R5, R6, R7, gs, nd, nm, nv]

/-- The reference leaves its arguments and the counters as they were. -/
theorem adam_ref_frame : Cert.quiescent_AdamRefIdeal := fun m g _ =>
  (θ_run Cert.AdamRefIdeal.defs _ _).mono (fun r h => ⟨fun c => (h c).2.2.2.2, sem_eq_zero_of_no_sems (by decide) r.2⟩)
    (Cert.AdamRefIdeal.Value.run m g)

end Cert.Proof

end
-- ==== Proof.MixRef.lean ====
/- The reference of the forward call that joins the group norm, the bonus and the gate with the output projection and the RMS norm,
   where the arguments whose sums are taken by head are real. -/
module

public import proofs.«01_k».proof.Proof.PostRef
public import proofs.«01_k».proof.Proof.Norm
public import proofs.«01_k».proof.Proof.Gen.MixRefIdeal.Run
public import Idealize.ShloMosaic.Lib.Claim

@[expose] public section

set_option maxRecDepth 16384

noncomputable section

open Idealize.ShloMosaic Idealize.ShloMosaic.TcCoe Idealize.SL.Sem

namespace Cert.MixRefIdeal.Mix
open Cert.MixRefIdeal Cert.MixRefIdeal.Gen Cert.MixRefIdeal.Value Cert.Arr
open Cert.PostRefIdeal.Real (col hd ln yc rs row bo ycT vaT rsT fold_yc fold_va fold_rs sum_8192x8x64 split_row join_row spread_weight)

/-- An entry of a gated row: the normed row with gain and shift and the bonus, times the gate. -/
def gated (y r k q : Fin 512 → ℝ) (v g w b : Fin 512 → EReal) (j : Fin 512) : EReal :=
  (((yc y (hd j) (ln j) * rs y (hd j) : ℝ) : EReal) * w j + b j + ((bo r k q (hd j) : ℝ) : EReal) * v j) * g j

/-- An entry of the residual's row: the attention's output and the gated row through the projection are added. -/
def joined (x : Fin 1024 → EReal) (a z : Fin 512 → EReal) (W : Fin 1024 → Fin 1024 → EReal) (j : Fin 1024) : EReal :=
  x j + ∑ k : Fin 512, a k * W ⟨k.val, by omega⟩ j + ∑ k : Fin 512, z k * W ⟨512 + k.val, by omega⟩ j

/-- An entry of a row after the RMS norm. -/
def normed (x g : Fin 1024 → EReal) (j : Fin 1024) : EReal := x j * Ideal.rsqrt (Cert.Norm.ms x) * g j

variable (m : (ℓ : Loc nD τ sig) → Buf (Elt Ideal) ℓ) (c : Dev nD)
  (Y R K : S8192x512.Idx → ℝ) (q : S1x512.Idx → ℝ)

/-- An array's row. -/
def erow {n k : ℕ} (A : (⟨2, ![n, k]⟩ : Shape).Idx → EReal) (i : Fin n) : Fin k → EReal := fun l => A (ix2 i l)

/-- The three results. -/
def R0 (V G : FVec Ideal S8192x512 .f32) (w b : FVec Ideal S1x512 .f32) (i : Fin 8192) : Fin 512 → EReal :=
  gated (row Y i) (row R i) (row K i) (row q 0) (erow V i) (erow G i) (erow w 0) (erow b 0)
def R1 (V G A : FVec Ideal S8192x512 .f32) (X : FVec Ideal S8192x1024 .f32) (w b : FVec Ideal S1x512 .f32) (W : FVec Ideal S1024x1024 .f32) (i : Fin 8192) : Fin 1024 → EReal :=
  joined (erow X i) (erow A i) (R0 Y R K q V G w b i) (fun k j => W (ix2 k j))
def R2 (V G A : FVec Ideal S8192x512 .f32) (X : FVec Ideal S8192x1024 .f32) (w b : FVec Ideal S1x512 .f32) (W : FVec Ideal S1024x1024 .f32) (g : FVec Ideal S1x1024 .f32) (i : Fin 8192) : Fin 1024 → EReal :=
  normed (R1 Y R K q V G A X w b W i) (erow g 0)

variable
  (h0 : m ((c.tc : Thread nD τ).loc main_arg0) = (arr Y : FVec Ideal S8192x512 .f32))
  (h1 : m ((c.tc : Thread nD τ).loc main_arg1) = (arr R : FVec Ideal S8192x512 .f32))
  (h2 : m ((c.tc : Thread nD τ).loc main_arg2) = (arr K : FVec Ideal S8192x512 .f32))
  (h9 : m ((c.tc : Thread nD τ).loc main_arg9) = (arr q : FVec Ideal S1x512 .f32))

/-- The reference's operations after the gated rows. -/
theorem after_gate (V G A Z : FVec Ideal S8192x512 .f32) (X : FVec Ideal S8192x1024 .f32) (w b : FVec Ideal S1x512 .f32) (W : FVec Ideal S1024x1024 .f32) (gn : FVec Ideal S1x1024 .f32)
    (hZ : truncf (F := Ideal) .bf16 Z bitsLt_bf16_f32 = fun x => R0 Y R K q V G w b (x 0) (x 1)) :
    addf X (Host.dotGeneral (F := Ideal) dot_S8192x1024_S1024x1024_S8192x1024_1_0_0_1_n_n none (concatenate S8192x1024 1 [⟨S8192x512, A⟩, ⟨S8192x512, Z⟩] concatenates_S8192x512_S8192x512_S8192x1024_d1) W)
      = fun x => R1 Y R K q V G A X w b W (x 0) (x 1) := by
  obtain rfl : Z = fun x => R0 Y R K q V G w b (x 0) (x 1) := hZ
  funext x; idx_vars x
  pointwise
  exact (add_assoc _ _ _).symm

/-- The reference's operations after the residual. -/
theorem after_sum (V G A : FVec Ideal S8192x512 .f32) (X Z : FVec Ideal S8192x1024 .f32) (w b : FVec Ideal S1x512 .f32) (W : FVec Ideal S1024x1024 .f32) (gn : FVec Ideal S1x1024 .f32)
    (hZ : Z = fun x => R1 Y R K q V G A X w b W (x 0) (x 1)) :
    truncf (F := Ideal) .bf16 (mulf (mulf Z (broadcastInDim S8192x1024 ![0, 1] bcast_S8192x1_S8192x1024_0_1 (Host.rsqrt (addf (Host.divf (broadcastInDim S8192x1 ![0] bcast_S8192_S8192x1_0
        (Host.reduceAdd (mulf Z Z) (constant S_ .f32 0x00000000#32) reducesTo_S8192x1024_S8192_d1 h_S_)) (broadcastInDim S8192x1 ![] bcast_S_S8192x1 (constant S_ .f32 0x44800000#32)))
        (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ gn shapeCasts_S1x1024_S1024)))) bitsLt_bf16_f32
      = fun x => R2 Y R K q V G A X w b W gn (x 0) (x 1) := by
  subst hZ
  funext x; idx_vars x
  pointwise [R2, normed, Cert.Norm.ms, erow]

/-- The gain or the shift spread over the rows. -/
theorem spread_row (w : FVec Ideal S1x512 .f32) : broadcastInDim S8192x512 ![0, 1] bcast_S1x512_S8192x512_0_1 (broadcastInDim S1x512 ![1] bcast_S512_S1x512_1 (shapeCast S512 w shapeCasts_S1x512_S512)) = fun x => w (ix2 0 (x 1)) := by
  funext x; idx_vars x
  pointwise
/-- The bonus, split into heads and joined again. -/
theorem join_bonus (B : S8192x8x64.Idx → ℝ) (V : FVec Ideal S8192x512 .f32) :
    shapeCast S8192x512 (mulf (arr (φ := .f32) B) (shapeCast S8192x8x64 V shapeCasts_S8192x512_S8192x8x64)) shapeCasts_S8192x8x64_S8192x512
      = fun x => ((B (ix3 (x 0) (hd (x 1)) (ln (x 1))) : ℝ) : EReal) * V x := by
  funext x; idx_vars x
  pointwise [arr, hd, ln]

include h0 h1 h2 h9 in
set_option maxHeartbeats 2000000 in
/-- What the reference leaves. -/
theorem ref_run (g : Dev nD → PrngReg) : θ_run defs (onTc (τ := τ) (main (F := Ideal))) ⟨m, fun _ => 0, g⟩ fun r =>
      r.2.mem ((c.tc : Thread nD τ).loc main_v47) = (fun x => R0 Y R K q (m (c.tc.loc main_arg3)) (m (c.tc.loc main_arg4)) (m (c.tc.loc main_arg7)) (m (c.tc.loc main_arg8)) (x 0) (x 1) : FVec Ideal S8192x512 .bf16)
      ∧ r.2.mem ((c.tc : Thread nD τ).loc main_v46) = (fun x => R1 Y R K q (m (c.tc.loc main_arg3)) (m (c.tc.loc main_arg4)) (m (c.tc.loc main_arg5)) (m (c.tc.loc main_arg6)) (m (c.tc.loc main_arg7)) (m (c.tc.loc main_arg8)) (m (c.tc.loc main_arg10)) (x 0) (x 1) : FVec Ideal S8192x1024 .f32)
      ∧ r.2.mem ((c.tc : Thread nD τ).loc main_v62) = (fun x => R2 Y R K q (m (c.tc.loc main_arg3)) (m (c.tc.loc main_arg4)) (m (c.tc.loc main_arg5)) (m (c.tc.loc main_arg6)) (m (c.tc.loc main_arg7)) (m (c.tc.loc main_arg8)) (m (c.tc.loc main_arg10)) (m (c.tc.loc main_arg11)) (x 0) (x 1) : FVec Ideal S8192x1024 .bf16) := by
  refine (θ_run defs _ _).mono (fun r h => ?_) (Cert.MixRefIdeal.Value.run (F := Ideal) m g)
  obtain ⟨r0, r1, r2, -⟩ := h c
  rw [r0, r1, r2]
  clear r0 r1 r2 h
  unfold res_main_v62
  generalize m (c.tc.loc main_arg3) = V
  generalize m (c.tc.loc main_arg4) = G
  generalize m (c.tc.loc main_arg5) = A
  generalize m (c.tc.loc main_arg6) = X
  generalize m (c.tc.loc main_arg7) = w
  generalize m (c.tc.loc main_arg8) = b
  generalize m (c.tc.loc main_arg10) = W
  generalize m (c.tc.loc main_arg11) = gn
  refine (fun hg => ⟨hg, after_gate Y R K q V G A _ X w b W gn hg, after_sum Y R K q V G A X _ w b W gn (after_gate Y R K q V G A _ X w b W gn hg)⟩) ?_
  simp only [h0, h1, h2, h9]
  simp only [const_0, const_64, const_eps, arr_cast, arr_inDim, inDim_const, hdiv_64, arr_mul, arr_add, arr_sub, sum_8192x8x64, fold_yc, fold_va, fold_rs]
  simp only [split_row, join_row]
  rw [spread_weight, spread_row, spread_row, join_bonus]
  funext x; idx_vars x
  rfl

end Cert.MixRefIdeal.Mix

end
-- ==== Proof.MixPay.lean ====
/- What a grid point of `rwkv_post_out_proj_mlp_norm` computes from a half block: row by row the gated row, the residual and its
   RMS norm. -/
module

public import proofs.«01_k».proof.Proof.PostPay
public import proofs.«01_k».proof.Proof.MixRef
public import proofs.«01_k».proof.Proof.Gen.MixFwdIdeal.Skeleton

@[expose] public section

set_option maxRecDepth 16384

noncomputable section

open Idealize.ShloMosaic Idealize.ShloMosaic.TcCoe Idealize.SL.Sem

namespace Cert.MixFwdIdeal.Pay
open Cert.MixFwdIdeal Cert.MixFwdIdeal.Gen Cert.Arr
open Cert.PostRefIdeal.Real (hd ln yc rs row bo)
open Cert.PostBwdIdeal.Pay (heads ycB rsB p9 p10 p14 p16 spread)
open Cert.MixRefIdeal.Mix (gated joined normed erow)

variable (Y R K : S256x512.Idx → ℝ) (q : S1x512.Idx → ℝ) (V G A : FVec Ideal S256x512 .f32) (X : FVec Ideal S256x1024 .f32)
  (w b : FVec Ideal S1x512 .f32) (Wa Wr : FVec Ideal S512x1024 .bf16) (g : FVec Ideal S1x1024 .f32)

abbrev hm : FVec Ideal S512x512 .bf16 := arr heads

/-- The two halves of the projection as one. -/
def both (k j : Fin 1024) : EReal := if h : k.val < 512 then Wa (ix2 ⟨k.val, h⟩ j) else Wr (ix2 ⟨k.val - 512, by omega⟩ j)

theorem c4 : k0_pay4 (F := Ideal) hm (arr (φ := .f32) Y) = arr (ycB Y) := p9 Y
theorem c5 : k0_pay5 (F := Ideal) hm (arr (φ := .f32) Y) = arr (fun x => ycB Y x * ycB Y x) := p10 Y

/-- The half block's gated rows. -/
def z : FVec Ideal S256x512 .f32 := fun x => gated (row Y (x 0)) (row R (x 0)) (row K (x 0)) (row q 0) (erow V (x 0)) (erow G (x 0)) (erow w 0) (erow b 0) (x 1)
/-- The half block's residual. -/
def r : FVec Ideal S256x1024 .f32 := fun x => joined (erow X (x 0)) (erow A (x 0)) (erow (z Y R K q V G w b) (x 0)) (both Wa Wr) (x 1)

theorem c6 : k0_pay6 (F := Ideal) w b (arr (φ := .f32) q) hm (arr (φ := .f32) R) (arr (φ := .f32) K) V G (arr (φ := .f32) (ycB Y)) (arr (φ := .f32) (fun x => ycB Y x * ycB Y x))
    = z Y R K q V G w b := by
  refine (show _ = Cert.PostBwdIdeal.Gen.k0_pay17 (F := Ideal) w b (arr (φ := .f32) q) hm (arr (φ := .f32) R) (arr (φ := .f32) K) V G (arr (φ := .f32) (ycB Y)) (arr (φ := .f32) (fun x => ycB Y x * ycB Y x)) from rfl).trans ?_
  unfold Cert.PostBwdIdeal.Gen.k0_pay17
  rw [p14, p16]
  funext x; idx_vars x
  pointwise [arr, z, gated, erow, ycB, rsB]

/-- The residual from the gated rows. -/
theorem c7 (Z : FVec Ideal S256x512 .f32) : addf (addf X (matmul (F := Ideal) dot_S256x512_S512x1024_S256x1024_1_0_0_1_n_n none (truncf .bf16 A bitsLt_bf16_f32) (k0_pay2 Wa) (constant S256x1024 .f32 0x00000000#32)))
      (matmul (F := Ideal) dot_S256x512_S512x1024_S256x1024_1_0_0_1_n_n none (truncf .bf16 Z bitsLt_bf16_f32) (k0_pay3 Wr) (constant S256x1024 .f32 0x00000000#32))
    = fun x => joined (erow X (x 0)) (erow A (x 0)) (erow Z (x 0)) (both Wa Wr) (x 1) := by
  funext x; idx_vars x
  pointwise [joined, erow, both, k0_pay2, k0_pay3]

theorem c7' : k0_pay7 (F := Ideal) w b (arr (φ := .f32) q) hm (k0_pay2 Wa) (k0_pay3 Wr) (arr (φ := .f32) R) (arr (φ := .f32) K) V G A X (arr (φ := .f32) (ycB Y)) (arr (φ := .f32) (fun x => ycB Y x * ycB Y x))
    = r Y R K q V G A X w b Wa Wr := by
  unfold k0_pay7
  rw [c6]
  exact c7 A X Wa Wr _

theorem c8 : k0_pay8 (F := Ideal) w b (arr (φ := .f32) q) hm (k0_pay2 Wa) (k0_pay3 Wr) g (arr (φ := .f32) R) (arr (φ := .f32) K) V G A X (arr (φ := .f32) (ycB Y)) (arr (φ := .f32) (fun x => ycB Y x * ycB Y x))
    = fun x => normed (erow (r Y R K q V G A X w b Wa Wr) (x 0)) (erow g 0) (x 1) := by
  unfold k0_pay8
  rw [c7']
  generalize r Y R K q V G A X w b Wa Wr = Z
  funext x; idx_vars x
  pointwise [normed, Cert.Norm.ms, erow]

theorem c1 : k0_pay1 (F := Ideal) hm = hm := Cert.PostBwdIdeal.Pay.p4

/-- What the two halves of a block store, the second half's operations being the first half's. -/
theorem half0 : k0_pay9 (F := Ideal) w b (arr (φ := .f32) q) (k0_pay1 hm) (arr (φ := .f32) R) (arr (φ := .f32) K) V G (k0_pay4 hm (arr (φ := .f32) Y)) (k0_pay5 hm (arr (φ := .f32) Y))
    = z Y R K q V G w b := by
  rw [c1, c4, c5]
  exact c6 Y R K q V G w b
theorem half0' : k0_pay15 (F := Ideal) w b (arr (φ := .f32) q) (k0_pay1 hm) (arr (φ := .f32) R) (arr (φ := .f32) K) V G (k0_pay11 (k0_pay1 hm) (arr (φ := .f32) Y)) (k0_pay12 (k0_pay1 hm) (arr (φ := .f32) Y))
    = z Y R K q V G w b := half0 Y R K q V G w b
theorem half1 : k0_pay7 (F := Ideal) w b (arr (φ := .f32) q) (k0_pay1 hm) (k0_pay2 Wa) (k0_pay3 Wr) (arr (φ := .f32) R) (arr (φ := .f32) K) V G A X (k0_pay4 hm (arr (φ := .f32) Y)) (k0_pay5 hm (arr (φ := .f32) Y))
    = r Y R K q V G A X w b Wa Wr := by
  rw [c1, c4, c5]
  exact c7' Y R K q V G A X w b Wa Wr
theorem half1' : k0_pay14 (F := Ideal) w b (arr (φ := .f32) q) (k0_pay1 hm) (k0_pay2 Wa) (k0_pay3 Wr) (arr (φ := .f32) R) (arr (φ := .f32) K) V G A X (k0_pay11 (k0_pay1 hm) (arr (φ := .f32) Y)) (k0_pay12 (k0_pay1 hm) (arr (φ := .f32) Y))
    = r Y R K q V G A X w b Wa Wr := half1 Y R K q V G A X w b Wa Wr
theorem half2 : k0_pay10 (F := Ideal) (k0_pay8 w b (arr (φ := .f32) q) (k0_pay1 hm) (k0_pay2 Wa) (k0_pay3 Wr) g (arr (φ := .f32) R) (arr (φ := .f32) K) V G A X (k0_pay4 hm (arr (φ := .f32) Y)) (k0_pay5 hm (arr (φ := .f32) Y)))
    = fun x => normed (erow (r Y R K q V G A X w b Wa Wr) (x 0)) (erow g 0) (x 1) := by
  rw [c1, c4, c5, c8]
  rfl
theorem half2' : k0_pay16 (F := Ideal) w b (arr (φ := .f32) q) (k0_pay1 hm) (k0_pay2 Wa) (k0_pay3 Wr) g (arr (φ := .f32) R) (arr (φ := .f32) K) V G A X (k0_pay11 (k0_pay1 hm) (arr (φ := .f32) Y)) (k0_pay12 (k0_pay1 hm) (arr (φ := .f32) Y))
    = fun x => normed (erow (r Y R K q V G A X w b Wa Wr) (x 0)) (erow g 0) (x 1) := half2 Y R K q V G A X w b Wa Wr g

end Cert.MixFwdIdeal.Pay

end
-- ==== Proof.Mix.lean ====
/- The value of `rwkv_post_out_proj_mlp_norm`: where y, r, k and the bonus' weights are real every result is the reference's. -/
module

public import proofs.«01_k».proof.Proof.MixPay
public import proofs.«01_k».proof.Proof.Post
public import proofs.«01_k».proof.Proof.Gen.MixFwdIdeal.Value
public import proofs.«01_k».proof.Proof.Gen.Pre_mix_finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixFwdIdeal.Mix
open Cert.MixFwdIdeal Cert.MixFwdIdeal.Gen Cert.Arr Cert.MixFwdIdeal.Pay
open Cert.PostBwdIdeal.Post (pick lo up group group_eq same_head)
open Cert.PostBwdIdeal.Pay (heads)
open Cert.MixRefIdeal.Mix (R0 R1 R2 erow gated joined normed)

/-- Rows picked from an array. -/
def rows {n k l : ℕ} (A : (⟨2, ![n, k]⟩ : Shape).Idx → EReal) (r : Fin l → Fin n) : (⟨2, ![l, k]⟩ : Shape).Idx → EReal := fun x => A (ix2 (r (x 0)) (x 1))
/-- A block's row in the array. -/
def rr (t : Fin cfg0.N) (i : Fin 512) : Fin 8192 := ⟨t.val * 512 + i.val, have := lt_of_lt_of_eq t.isLt N_0; by omega⟩
/-- The projection's rows for the attention's output, and for the gated row. -/
def first (k : Fin 512) : Fin 1024 := ⟨k.val, by omega⟩
def second (k : Fin 512) : Fin 1024 := ⟨512 + k.val, by omega⟩

/-- The two halves of the projection make the projection. -/
theorem both_eq (W : FVec Ideal S1024x1024 .f32) (k j : Fin 1024) : both (rows W first) (rows W second) k j = W (ix2 k j) := by
  unfold both
  split
  · rfl
  · exact congrArg (fun l => W (ix2 l j)) (Fin.ext (by show 512 + (k.val - 512) = k.val; omega))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![t.val, 0] ∧ win0_15.index t = ![t.val, 0] ∧ win0_16.index t = ![t.val, 0] :=
  (by decide +kernel : ∀ t : Fin grid0.N, _)

/-- A block's halves. -/
theorem ld_lo5 (A : FVec Ideal S8192x512 .f32) (r : Fin 512 → Fin 8192) : View.ld (show Vec Ideal S512x512 .f32 from rows A r) r0_4 = rows A fun i => r (lo i) := by
  funext x; idx_vars x
  pointwise [rows, lo]
theorem ld_up5 (A : FVec Ideal S8192x512 .f32) (r : Fin 512 → Fin 8192) : View.ld (show Vec Ideal S512x512 .f32 from rows A r) r0_6 = rows A fun i => r (up i) := by
  funext x; idx_vars x
  pointwise [rows, up]
theorem ld_lo10 (A : FVec Ideal S8192x1024 .f32) (r : Fin 512 → Fin 8192) : View.ld (show Vec Ideal S512x1024 .f32 from rows A r) r0_5 = rows A fun i => r (lo i) := by
  funext x; idx_vars x
  pointwise [rows, lo]
theorem ld_up10 (A : FVec Ideal S8192x1024 .f32) (r : Fin 512 → Fin 8192) : View.ld (show Vec Ideal S512x1024 .f32 from rows A r) r0_7 = rows A fun i => r (up i) := by
  funext x; idx_vars x
  pointwise [rows, up]

variable (m : (ℓ : Loc nD τ sig) → Buf (Elt Ideal) ℓ) (c : Dev nD)

/-- The projection's rows that the grid reads. -/
theorem V7 (i : Fin 512) (k : Fin 1024) : (V m c (Pipeline.arrRef spec0 11) : FVec Ideal S512x1024 .bf16) (ix2 i k) = m ((c.tc : Thread nD τ).loc main_arg10) (ix2 (first i) k) := by
  unfold V
  simp only [List.flatten_cons, List.flatten_nil, List.append_nil, hostOps0, hostOps0_1, hostOps0_2, hostOps0_3, hostOps0_4, List.cons_append, List.nil_append]
  after_results
  pointwise [first]
theorem V8 (i : Fin 512) (k : Fin 1024) : (V m c (Pipeline.arrRef spec0 12) : FVec Ideal S512x1024 .bf16) (ix2 i k) = m ((c.tc : Thread nD τ).loc main_arg10) (ix2 (second i) k) := by
  unfold V
  simp only [List.flatten_cons, List.flatten_nil, List.append_nil, hostOps0, hostOps0_1, hostOps0_2, hostOps0_3, hostOps0_4, List.cons_append, List.nil_append]
  after_results
  pointwise [second]
/-- The matrix of the heads as the host makes it. -/
theorem V6 (i k : Fin 512) : (V m c (Pipeline.arrRef spec0 10) : FVec Ideal S512x512 .bf16) (ix2 i k) = (((if i.val / 64 = k.val / 64 then 1 else 0 : ℝ)) : EReal) := by
  unfold V
  simp only [List.flatten_cons, List.flatten_nil, List.append_nil, hostOps0, hostOps0_1, hostOps0_2, hostOps0_3, hostOps0_4, List.cons_append, List.nil_append]
  after_results
  simp only [StableHlo.TRef.ofBuf, StableHlo.TRef.toBuf, cast_eq, cast_cast, id_eq]
  pointwise
  exact same_head i k

variable (t : Fin cfg0.N)

/-- Every input's block at a grid point. -/
theorem blk0 : iblk m c 0 t = rows (m ((c.tc : Thread nD τ).loc main_arg0)) (rr t) := by
  funext x; idx_vars x
  blk_ext [iblk, V, idx t, rr, rows]
theorem blk1 : iblk m c 1 t = rows (m ((c.tc : Thread nD τ).loc main_arg1)) (rr t) := by
  funext x; idx_vars x
  blk_ext [iblk, V, idx t, rr, rows]
theorem blk2 : iblk m c 2 t = rows (m ((c.tc : Thread nD τ).loc main_arg2)) (rr t) := by
  funext x; idx_vars x
  blk_ext [iblk, V, idx t, rr, rows]
theorem blk3 : iblk m c 3 t = rows (m ((c.tc : Thread nD τ).loc main_arg3)) (rr t) := by
  funext x; idx_vars x
  blk_ext [iblk, V, idx t, rr, rows]
theorem blk4 : iblk m c 4 t = rows (m ((c.tc : Thread nD τ).loc main_arg4)) (rr t) := by
  funext x; idx_vars x
  blk_ext [iblk, V, idx t, rr, rows]
theorem blk5 : iblk m c 5 t = rows (m ((c.tc : Thread nD τ).loc main_arg5)) (rr t) := by
  funext x; idx_vars x
  blk_ext [iblk, V, idx t, rr, rows]
theorem blk6 : iblk m c 6 t = rows (m ((c.tc : Thread nD τ).loc main_arg6)) (rr t) := by
  funext x; idx_vars x
  blk_ext [iblk, V, idx t, rr, rows]
theorem blk7 : iblk m c 7 t = m ((c.tc : Thread nD τ).loc main_arg7) := by
  funext x; idx_vars x
  blk_ext [iblk, V, idx t]
theorem blk8 : iblk m c 8 t = m ((c.tc : Thread nD τ).loc main_arg8) := by
  funext x; idx_vars x
  blk_ext [iblk, V, idx t]
theorem blk9 : iblk m c 9 t = m ((c.tc : Thread nD τ).loc main_arg9) := by
  funext x; idx_vars x
  blk_ext [iblk, V, idx t]
theorem blk13 : iblk m c 13 t = m ((c.tc : Thread nD τ).loc main_arg11) := by
  funext x; idx_vars x
  blk_ext [iblk, V, idx t]
theorem blk10 : iblk m c 10 t = hm := by
  funext x; idx_vars x
  refine Eq.trans ?_ (V6 m c x0 x1)
  unfold iblk
  generalize V m c (Pipeline.arrRef spec0 10) = A
  blk_ext [idx t]
theorem blk11 : iblk m c 11 t = rows (m ((c.tc : Thread nD τ).loc main_arg10)) first := by
  funext x; idx_vars x
  refine Eq.trans ?_ (V7 m c x0 x1)
  unfold iblk
  generalize V m c (Pipeline.arrRef spec0 11) = A
  blk_ext [idx t]
theorem blk12 : iblk m c 12 t = rows (m ((c.tc : Thread nD τ).loc main_arg10)) second := by
  funext x; idx_vars x
  refine Eq.trans ?_ (V8 m c x0 x1)
  unfold iblk
  generalize V m c (Pipeline.arrRef spec0 12) = A
  blk_ext [idx t]

/-- A half block's results are the reference's at the rows it holds. -/
theorem rows0 (Y R K : S8192x512.Idx → ℝ) (q : S1x512.Idx → ℝ) (V G : FVec Ideal S8192x512 .f32) (w b : FVec Ideal S1x512 .f32) (r : Fin 256 → Fin 8192) (x : S256x512.Idx) :
    z (pick Y r) (pick R r) (pick K r) q (rows V r) (rows G r) w b x = R0 Y R K q V G w b (r (x 0)) (x 1) := rfl
theorem rows1 (Y R K : S8192x512.Idx → ℝ) (q : S1x512.Idx → ℝ) (V G A : FVec Ideal S8192x512 .f32) (X : FVec Ideal S8192x1024 .f32) (w b : FVec Ideal S1x512 .f32) (W : FVec Ideal S1024x1024 .f32)
    (r : Fin 256 → Fin 8192) (x : S256x1024.Idx) :
    Pay.r (pick Y r) (pick R r) (pick K r) q (rows V r) (rows G r) (rows A r) (rows X r) w b (rows W first) (rows W second) x = R1 Y R K q V G A X w b W (r (x 0)) (x 1) := by
  unfold Pay.r R1
  rw [funext fun k => funext fun j => both_eq W k j]
  rfl
theorem rows2 (Y R K : S8192x512.Idx → ℝ) (q : S1x512.Idx → ℝ) (V G A : FVec Ideal S8192x512 .f32) (X : FVec Ideal S8192x1024 .f32) (w b : FVec Ideal S1x512 .f32) (W : FVec Ideal S1024x1024 .f32)
    (g : FVec Ideal S1x1024 .f32) (r : Fin 256 → Fin 8192) (x : S256x1024.Idx) :
    normed (erow (Pay.r (pick Y r) (pick R r) (pick K r) q (rows V r) (rows G r) (rows A r) (rows X r) w b (rows W first) (rows W second)) (x 0)) (erow g 0) (x 1)
      = R2 Y R K q V G A X w b W g (r (x 0)) (x 1) := by
  unfold R2
  exact congrArg (fun a => normed a (erow g 0) (x 1)) (funext fun l => rows1 Y R K q V G A X w b W r (ix2 (x 0) l))

section Final
variable (Y R K : S8192x512.Idx → ℝ) (q : S1x512.Idx → ℝ)
  (h0 : m ((c.tc : Thread nD τ).loc main_arg0) = (arr Y : FVec Ideal S8192x512 .f32))
  (h1 : m ((c.tc : Thread nD τ).loc main_arg1) = (arr R : FVec Ideal S8192x512 .f32))
  (h2 : m ((c.tc : Thread nD τ).loc main_arg2) = (arr K : FVec Ideal S8192x512 .f32))
  (h9 : m ((c.tc : Thread nD τ).loc main_arg9) = (arr q : FVec Ideal S1x512 .f32))
include h0 h1 h2 h9

/-- Result 0 after the run. -/
theorem final14 : (dats m 0 c).arrAt 14 (cfgs 0).N = (fun x => R0 Y R K q (m (c.tc.loc main_arg3)) (m (c.tc.loc main_arg4)) (m (c.tc.loc main_arg7)) (m (c.tc.loc main_arg8)) (x 0) (x 1) : FVec Ideal S8192x512 .bf16) := by
  refine (dats m 0 c).arrAt_eq_of_covers 14 _ (by decide +kernel) fun t _ y => ?_
  blk_simp
  rw [after0_14]; frame_out
  unfold k0_pay23 k0_pay22 k0_pay21 k0_pay20 k0_pay17
  frame_out
  simp only [blk0, blk1, blk2, blk3, blk4, blk5, blk6, blk7, blk8, blk9, blk10, blk11, blk12, blk13, h0, h1, h2, h9, ld_lo5, ld_up5, ld_lo10, ld_up10]
  canon_tiles x h
  · refine (congrFun (half0' (pick Y (fun i => rr t (up i))) (pick R (fun i => rr t (up i))) (pick K (fun i => rr t (up i))) q (rows (m (c.tc.loc main_arg3)) (fun i => rr t (up i))) (rows (m (c.tc.loc main_arg4)) (fun i => rr t (up i))) (m (c.tc.loc main_arg7)) (m (c.tc.loc main_arg8))) x).trans ((rows0 _ _ _ _ _ _ _ _ _ _).trans ?_)
    exact congrArg₂ (R0 Y R K q (m (c.tc.loc main_arg3)) (m (c.tc.loc main_arg4)) (m (c.tc.loc main_arg7)) (m (c.tc.loc main_arg8))) (Fin.ext (by show t.val * 512 + (256 + (x 0).val) = _; blk_simp [idx t]; omega)) (Fin.ext (by blk_simp [idx t]; omega))
  · refine (congrFun (half0 (pick Y (fun i => rr t (lo i))) (pick R (fun i => rr t (lo i))) (pick K (fun i => rr t (lo i))) q (rows (m (c.tc.loc main_arg3)) (fun i => rr t (lo i))) (rows (m (c.tc.loc main_arg4)) (fun i => rr t (lo i))) (m (c.tc.loc main_arg7)) (m (c.tc.loc main_arg8))) x).trans ((rows0 _ _ _ _ _ _ _ _ _ _).trans ?_)
    exact congrArg₂ (R0 Y R K q (m (c.tc.loc main_arg3)) (m (c.tc.loc main_arg4)) (m (c.tc.loc main_arg7)) (m (c.tc.loc main_arg8))) (Fin.ext (by show t.val * 512 + (x 0).val = _; blk_simp [idx t]; omega)) (Fin.ext (by blk_simp [idx t]; omega))

/-- Result 1 after the run. -/
theorem final15 : (dats m 0 c).arrAt 15 (cfgs 0).N = (fun x => R1 Y R K q (m (c.tc.loc main_arg3)) (m (c.tc.loc main_arg4)) (m (c.tc.loc main_arg5)) (m (c.tc.loc main_arg6)) (m (c.tc.loc main_arg7)) (m (c.tc.loc main_arg8)) (m (c.tc.loc main_arg10)) (x 0) (x 1) : FVec Ideal S8192x1024 .f32) := by
  refine (dats m 0 c).arrAt_eq_of_covers 15 _ (by decide +kernel) fun t _ y => ?_
  blk_simp
  rw [after0_15]; frame_out
  unfold k0_pay23 k0_pay22 k0_pay21 k0_pay20 k0_pay19 k0_pay18 k0_pay17
  frame_out
  simp only [blk0, blk1, blk2, blk3, blk4, blk5, blk6, blk7, blk8, blk9, blk10, blk11, blk12, blk13, h0, h1, h2, h9, ld_lo5, ld_up5, ld_lo10, ld_up10]
  canon_tiles x h
  · refine (congrFun (half1' (pick Y (fun i => rr t (up i))) (pick R (fun i => rr t (up i))) (pick K (fun i => rr t (up i))) q (rows (m (c.tc.loc main_arg3)) (fun i => rr t (up i))) (rows (m (c.tc.loc main_arg4)) (fun i => rr t (up i))) (rows (m (c.tc.loc main_arg5)) (fun i => rr t (up i))) (rows (m (c.tc.loc main_arg6)) (fun i => rr t (up i))) (m (c.tc.loc main_arg7)) (m (c.tc.loc main_arg8)) (rows (m (c.tc.loc main_arg10)) first) (rows (m (c.tc.loc main_arg10)) second)) x).trans ((rows1 _ _ _ _ _ _ _ _ _ _ _ _ _).trans ?_)
    exact congrArg₂ (R1 Y R K q (m (c.tc.loc main_arg3)) (m (c.tc.loc main_arg4)) (m (c.tc.loc main_arg5)) (m (c.tc.loc main_arg6)) (m (c.tc.loc main_arg7)) (m (c.tc.loc main_arg8)) (m (c.tc.loc main_arg10))) (Fin.ext (by show t.val * 512 + (256 + (x 0).val) = _; blk_simp [idx t]; omega)) (Fin.ext (by blk_simp [idx t]; omega))
  · refine (congrFun (half1 (pick Y (fun i => rr t (lo i))) (pick R (fun i => rr t (lo i))) (pick K (fun i => rr t (lo i))) q (rows (m (c.tc.loc main_arg3)) (fun i => rr t (lo i))) (rows (m (c.tc.loc main_arg4)) (fun i => rr t (lo i))) (rows (m (c.tc.loc main_arg5)) (fun i => rr t (lo i))) (rows (m (c.tc.loc main_arg6)) (fun i => rr t (lo i))) (m (c.tc.loc main_arg7)) (m (c.tc.loc main_arg8)) (rows (m (c.tc.loc main_arg10)) first) (rows (m (c.tc.loc main_arg10)) second)) x).trans ((rows1 _ _ _ _ _ _ _ _ _ _ _ _ _).trans ?_)
    exact congrArg₂ (R1 Y R K q (m (c.tc.loc main_arg3)) (m (c.tc.loc main_arg4)) (m (c.tc.loc main_arg5)) (m (c.tc.loc main_arg6)) (m (c.tc.loc main_arg7)) (m (c.tc.loc main_arg8)) (m (c.tc.loc main_arg10))) (Fin.ext (by show t.val * 512 + (x 0).val = _; blk_simp [idx t]; omega)) (Fin.ext (by blk_simp [idx t]; omega))

/-- Result 2 after the run. -/
theorem final16 : (dats m 0 c).arrAt 16 (cfgs 0).N = (fun x => R2 Y R K q (m (c.tc.loc main_arg3)) (m (c.tc.loc main_arg4)) (m (c.tc.loc main_arg5)) (m (c.tc.loc main_arg6)) (m (c.tc.loc main_arg7)) (m (c.tc.loc main_arg8)) (m (c.tc.loc main_arg10)) (m (c.tc.loc main_arg11)) (x 0) (x 1) : FVec Ideal S8192x1024 .bf16) := by
  refine (dats m 0 c).arrAt_eq_of_covers 16 _ (by decide +kernel) fun t _ y => ?_
  blk_simp
  rw [after0_16]; frame_out
  unfold k0_pay23 k0_pay22 k0_pay21 k0_pay20 k0_pay19 k0_pay18 k0_pay17
  frame_out
  simp only [blk0, blk1, blk2, blk3, blk4, blk5, blk6, blk7, blk8, blk9, blk10, blk11, blk12, blk13, h0, h1, h2, h9, ld_lo5, ld_up5, ld_lo10, ld_up10]
  canon_tiles x h
  · refine (congrFun (half2' (pick Y (fun i => rr t (up i))) (pick R (fun i => rr t (up i))) (pick K (fun i => rr t (up i))) q (rows (m (c.tc.loc main_arg3)) (fun i => rr t (up i))) (rows (m (c.tc.loc main_arg4)) (fun i => rr t (up i))) (rows (m (c.tc.loc main_arg5)) (fun i => rr t (up i))) (rows (m (c.tc.loc main_arg6)) (fun i => rr t (up i))) (m (c.tc.loc main_arg7)) (m (c.tc.loc main_arg8)) (rows (m (c.tc.loc main_arg10)) first) (rows (m (c.tc.loc main_arg10)) second) (m (c.tc.loc main_arg11))) x).trans ((rows2 _ _ _ _ _ _ _ _ _ _ _ _ _ _).trans ?_)
    exact congrArg₂ (R2 Y R K q (m (c.tc.loc main_arg3)) (m (c.tc.loc main_arg4)) (m (c.tc.loc main_arg5)) (m (c.tc.loc main_arg6)) (m (c.tc.loc main_arg7)) (m (c.tc.loc main_arg8)) (m (c.tc.loc main_arg10)) (m (c.tc.loc main_arg11))) (Fin.ext (by show t.val * 512 + (256 + (x 0).val) = _; blk_simp [idx t]; omega)) (Fin.ext (by blk_simp [idx t]; omega))
  · refine (congrFun (half2 (pick Y (fun i => rr t (lo i))) (pick R (fun i => rr t (lo i))) (pick K (fun i => rr t (lo i))) q (rows (m (c.tc.loc main_arg3)) (fun i => rr t (lo i))) (rows (m (c.tc.loc main_arg4)) (fun i => rr t (lo i))) (rows (m (c.tc.loc main_arg5)) (fun i => rr t (lo i))) (rows (m (c.tc.loc main_arg6)) (fun i => rr t (lo i))) (m (c.tc.loc main_arg7)) (m (c.tc.loc main_arg8)) (rows (m (c.tc.loc main_arg10)) first) (rows (m (c.tc.loc main_arg10)) second) (m (c.tc.loc main_arg11))) x).trans ((rows2 _ _ _ _ _ _ _ _ _ _ _ _ _ _).trans ?_)
    exact congrArg₂ (R2 Y R K q (m (c.tc.loc main_arg3)) (m (c.tc.loc main_arg4)) (m (c.tc.loc main_arg5)) (m (c.tc.loc main_arg6)) (m (c.tc.loc main_arg7)) (m (c.tc.loc main_arg8)) (m (c.tc.loc main_arg10)) (m (c.tc.loc main_arg11))) (Fin.ext (by show t.val * 512 + (x 0).val = _; blk_simp [idx t]; omega)) (Fin.ext (by blk_simp [idx t]; omega))

end Final
end Cert.MixFwdIdeal.Mix

namespace Cert.Proof
open Cert.MixFwdIdeal.Mix Cert.Arr Cert.MixFwdIdeal Cert.MixFwdIdeal.Gen
open Cert.MixRefIdeal.Mix (R0 R1 R2)

/-- `rwkv_post_out_proj_mlp_norm` computes what the reference computes, where y, r, k and the bonus' weights are finite. -/
theorem mix_value : Cert.algebraic_MixFwdIdeal_MixRefIdeal_pre_mix_finite := by
  intro m g m' g' hpre hagree
  have hr := fun c => show _ ∧ _ ∧ _ ∧ _ from by
    obtain ⟨p0, p1, p2, p3⟩ := hpre c
    exact ⟨(funext fun i => real_of_finite _ (congrFun p0 i) : m (c.tc.loc main_arg0) = arr (φ := .f32) (re (m (c.tc.loc main_arg0)))),
      (funext fun i => real_of_finite _ (congrFun p1 i) : m (c.tc.loc main_arg1) = arr (φ := .f32) (re (m (c.tc.loc main_arg1)))),
      (funext fun i => real_of_finite _ (congrFun p2 i) : m (c.tc.loc main_arg2) = arr (φ := .f32) (re (m (c.tc.loc main_arg2)))),
      (funext fun i => real_of_finite _ (congrFun p3 i) : m (c.tc.loc main_arg9) = arr (φ := .f32) (re (m (c.tc.loc main_arg9))))⟩
  refine ⟨fun c => (fun x => R0 (re (m (c.tc.loc main_arg0))) (re (m (c.tc.loc main_arg1))) (re (m (c.tc.loc main_arg2))) (re (m (c.tc.loc main_arg9))) (m (c.tc.loc main_arg3)) (m (c.tc.loc main_arg4)) (m (c.tc.loc main_arg7)) (m (c.tc.loc main_arg8)) (x 0) (x 1) : FVec Ideal S8192x512 .bf16),
    fun c => (fun x => R1 (re (m (c.tc.loc main_arg0))) (re (m (c.tc.loc main_arg1))) (re (m (c.tc.loc main_arg2))) (re (m (c.tc.loc main_arg9))) (m (c.tc.loc main_arg3)) (m (c.tc.loc main_arg4)) (m (c.tc.loc main_arg5)) (m (c.tc.loc main_arg6)) (m (c.tc.loc main_arg7)) (m (c.tc.loc main_arg8)) (m (c.tc.loc main_arg10)) (x 0) (x 1) : FVec Ideal S8192x1024 .f32),
    fun c => (fun x => R2 (re (m (c.tc.loc main_arg0))) (re (m (c.tc.loc main_arg1))) (re (m (c.tc.loc main_arg2))) (re (m (c.tc.loc main_arg9))) (m (c.tc.loc main_arg3)) (m (c.tc.loc main_arg4)) (m (c.tc.loc main_arg5)) (m (c.tc.loc main_arg6)) (m (c.tc.loc main_arg7)) (m (c.tc.loc main_arg8)) (m (c.tc.loc main_arg10)) (m (c.tc.loc main_arg11)) (x 0) (x 1) : FVec Ideal S8192x1024 .bf16), ?_, ?_⟩
  · refine (θ_run _ _ _).mono (fun r h c => ?_) (Cert.MixFwdIdeal.Value.run_blocks m g)
    obtain ⟨e0, e1, e2, e9⟩ := hr c
    obtain ⟨r0, r1, r2, rest⟩ := h c
    exact ⟨r0.trans (final14 m c _ _ _ _ e0 e1 e2 e9), r1.trans (final15 m c _ _ _ _ e0 e1 e2 e9), r2.trans (final16 m c _ _ _ _ e0 e1 e2 e9), rest⟩
  · have hc : ∀ c c' : Dev Cert.MixRefIdeal.nD, c = c' := fun c c' => Subsingleton.elim (α := Fin 1) c c'
    obtain ⟨h0, h1, h2, h3, h4, h5, h6, h7, h8, h9, h10, h11⟩ := hagree 0
    obtain ⟨e0, e1, e2, e9⟩ := hr 0
    refine (θ_run _ _ _).mono (fun r h c => ?_) (θ_run_and (Cert.MixRefIdeal.Value.run m' g') (Cert.MixRefIdeal.Mix.ref_run m' 0 _ _ _ _ (h0.trans e0) (h1.trans e1) (h2.trans e2) (h9.trans e9) g'))
    obtain ⟨h, r0, r1, r2⟩ := h
    obtain ⟨-, -, -, rest⟩ := h c
    obtain rfl := hc 0 c
    rw [h3, h4, h7, h8] at r0
    rw [h3, h4, h5, h6, h7, h8, h10] at r1
    rw [h3, h4, h5, h6, h7, h8, h10, h11] at r2
    exact ⟨r0, r1, r2, rest⟩

/-- The reference leaves its arguments and the counters as they were. -/
theorem mix_ref_frame : Cert.quiescent_MixRefIdeal := fun m g _ =>
  (θ_run Cert.MixRefIdeal.defs _ _).mono (fun r h => ⟨fun c => (h c).2.2.2, sem_eq_zero_of_no_sems (by decide) r.2⟩)
    (Cert.MixRefIdeal.Value.run m g)

end Cert.Proof

end
-- ==== Proof.lean ====
module

public import proofs.«01_k».proof.Defs
public import proofs.«01_k».proof.Proof.Gen.DownBwdIdeal.Value
public import proofs.«01_k».proof.Proof.Gen.DownRefIdeal.Run
public import proofs.«01_k».proof.Proof.Gen.SwaBwdIdeal.Value
public import proofs.«01_k».proof.Proof.Gen.SwaRefIdeal.Run
public import proofs.«01_k».proof.Proof.Gen.UpBwdIdeal.Value
public import proofs.«01_k».proof.Proof.Gen.UpRefIdeal.Run
public import proofs.«01_k».proof.Proof.Gen.InBwdIdeal.Value
public import proofs.«01_k».proof.Proof.Gen.InRefIdeal.Run
public import proofs.«01_k».proof.Proof.Gen.LossBwdIdeal.Value
public import proofs.«01_k».proof.Proof.Gen.LossRefIdeal.Run
public import proofs.«01_k».proof.Proof.Gen.PostBwdIdeal.Value
public import proofs.«01_k».proof.Proof.Gen.PostRefIdeal.Run
public import proofs.«01_k».proof.Proof.Gen.ActFwdIdeal.Value
public import proofs.«01_k».proof.Proof.Gen.ActRefIdeal.Run
public import proofs.«01_k».proof.Proof.Gen.GradWIdeal.Value
public import proofs.«01_k».proof.Proof.Gen.GradWRefIdeal.Run
public import proofs.«01_k».proof.Proof.Gen.AdamIdeal.Value
public import proofs.«01_k».proof.Proof.Gen.AdamRefIdeal.Run
public import proofs.«01_k».proof.Proof.Gen.MixFwdIdeal.Value
public import proofs.«01_k».proof.Proof.Gen.MixRefIdeal.Run
public import proofs.«01_k».proof.Proof.Gen.DownBwd.Frame
public import proofs.«01_k».proof.Proof.Gen.DownBwdIdeal.Frame
public import proofs.«01_k».proof.Proof.Gen.SwaBwd.Frame
public import proofs.«01_k».proof.Proof.Gen.SwaBwdIdeal.Frame
public import proofs.«01_k».proof.Proof.Gen.UpBwd.Frame
public import proofs.«01_k».proof.Proof.Gen.UpBwdIdeal.Frame
public import proofs.«01_k».proof.Proof.Gen.InBwd.Frame
public import proofs.«01_k».proof.Proof.Gen.InBwdIdeal.Frame
public import proofs.«01_k».proof.Proof.Gen.LossBwd.Frame
public import proofs.«01_k».proof.Proof.Gen.LossBwdIdeal.Frame
public import proofs.«01_k».proof.Proof.Gen.PostBwd.Frame
public import proofs.«01_k».proof.Proof.Gen.PostBwdIdeal.Frame
public import proofs.«01_k».proof.Proof.Gen.ActFwd.Frame
public import proofs.«01_k».proof.Proof.Gen.ActFwdIdeal.Frame
public import proofs.«01_k».proof.Proof.Gen.GradW.Frame
public import proofs.«01_k».proof.Proof.Gen.GradWIdeal.Frame
public import proofs.«01_k».proof.Proof.Gen.Adam.Frame
public import proofs.«01_k».proof.Proof.Gen.AdamIdeal.Frame
public import proofs.«01_k».proof.Proof.Gen.MixFwd.Frame
public import proofs.«01_k».proof.Proof.Gen.MixFwdIdeal.Frame
public import proofs.«01_k».proof.Proof.Gen.Pre_swa_finite
public import proofs.«01_k».proof.Proof.Gen.Pre_post_finite
public import proofs.«01_k».proof.Proof.Gen.Pre_mix_finite
public import proofs.«01_k».proof.Proof.Down
public import proofs.«01_k».proof.Proof.Swa
public import proofs.«01_k».proof.Proof.Up
public import proofs.«01_k».proof.Proof.In
public import proofs.«01_k».proof.Proof.Loss
public import proofs.«01_k».proof.Proof.Post
public import proofs.«01_k».proof.Proof.Act
public import proofs.«01_k».proof.Proof.Grad
public import proofs.«01_k».proof.Proof.Adam
public import proofs.«01_k».proof.Proof.Mix

@[expose] public section

namespace Cert.Proof

/-- Every claim: the facts of the printed programs, their frames, then what each pair says. -/
theorem claim : Cert.Claim :=
  ⟨Cert.DownBwd.Gen.facts, Cert.DownBwdIdeal.Gen.facts, Cert.DownRefIdeal.Gen.facts,
    Cert.SwaBwd.Gen.facts, Cert.SwaBwdIdeal.Gen.facts, Cert.SwaRefIdeal.Gen.facts,
    Cert.UpBwd.Gen.facts, Cert.UpBwdIdeal.Gen.facts, Cert.UpRefIdeal.Gen.facts,
    Cert.InBwd.Gen.facts, Cert.InBwdIdeal.Gen.facts, Cert.InRefIdeal.Gen.facts,
    Cert.LossBwd.Gen.facts, Cert.LossBwdIdeal.Gen.facts, Cert.LossRefIdeal.Gen.facts,
    Cert.PostBwd.Gen.facts, Cert.PostBwdIdeal.Gen.facts, Cert.PostRefIdeal.Gen.facts,
    Cert.ActFwd.Gen.facts, Cert.ActFwdIdeal.Gen.facts, Cert.ActRefIdeal.Gen.facts,
    Cert.GradW.Gen.facts, Cert.GradWIdeal.Gen.facts, Cert.GradWRefIdeal.Gen.facts,
    Cert.Adam.Gen.facts, Cert.AdamIdeal.Gen.facts, Cert.AdamRefIdeal.Gen.facts,
    Cert.MixFwd.Gen.facts, Cert.MixFwdIdeal.Gen.facts, Cert.MixRefIdeal.Gen.facts,
    Cert.Pre_swa_finite.Gen.facts, Cert.Pre_post_finite.Gen.facts, Cert.Pre_mix_finite.Gen.facts,
    fun m ρ _ => Cert.DownBwd.Gen.frame m ρ, fun m ρ _ => Cert.DownBwdIdeal.Gen.frame m ρ, down_ref_frame,
    fun m ρ _ => Cert.SwaBwd.Gen.frame m ρ, fun m ρ _ => Cert.SwaBwdIdeal.Gen.frame m ρ, fun m ρ _ => Cert.SwaBwdIdeal.Gen.frame m ρ, swa_ref_frame, fun m ρ _ => swa_ref_frame m ρ trivial,
    fun m ρ _ => Cert.UpBwd.Gen.frame m ρ, fun m ρ _ => Cert.UpBwdIdeal.Gen.frame m ρ, up_ref_frame,
    fun m ρ _ => Cert.InBwd.Gen.frame m ρ, fun m ρ _ => Cert.InBwdIdeal.Gen.frame m ρ, in_ref_frame,
    fun m ρ _ => Cert.LossBwd.Gen.frame m ρ, fun m ρ _ => Cert.LossBwdIdeal.Gen.frame m ρ, loss_ref_frame,
    fun m ρ _ => Cert.PostBwd.Gen.frame m ρ, fun m ρ _ => Cert.PostBwdIdeal.Gen.frame m ρ, fun m ρ _ => Cert.PostBwdIdeal.Gen.frame m ρ, post_ref_frame, fun m ρ _ => post_ref_frame m ρ trivial,
    fun m ρ _ => Cert.ActFwd.Gen.frame m ρ, fun m ρ _ => Cert.ActFwdIdeal.Gen.frame m ρ, act_ref_frame,
    fun m ρ _ => Cert.GradW.Gen.frame m ρ, fun m ρ _ => Cert.GradWIdeal.Gen.frame m ρ, grad_ref_frame,
    fun m ρ _ => Cert.Adam.Gen.frame m ρ, fun m ρ _ => Cert.AdamIdeal.Gen.frame m ρ, adam_ref_frame,
    fun m ρ _ => Cert.MixFwd.Gen.frame m ρ, fun m ρ _ => Cert.MixFwdIdeal.Gen.frame m ρ, fun m ρ _ => Cert.MixFwdIdeal.Gen.frame m ρ, mix_ref_frame, fun m ρ _ => mix_ref_frame m ρ trivial,
    trivial, down_value,
    trivial, swa_value,
    trivial, up_value,
    trivial, in_value,
    trivial, loss_value,
    trivial, post_value,
    trivial, act_value,
    trivial, grad_value,
    adam_preserves, adam_value,
    trivial, mix_value⟩

end Cert.Proof

end
